-- ==== Defs.lean ====
def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_band_finite [hPre_band_finite : Cert.Pre_band_finite.Facts] (m : (ℓ : Loc Cert.BandIdeal.nD Cert.BandIdeal.τ Cert.BandIdeal.sig) → Buf (Elt Ideal) ℓ) : Prop :=
  ∀ c : Dev Cert.BandIdeal.nD,
    (Cert.Pre_band_finite.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_band_finite [hPre_band_finite : Cert.Pre_band_finite.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_band_finite.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_first_finite [hPre_first_finite : Cert.Pre_first_finite.Facts] (m : (ℓ : Loc Cert.FirstIdeal.nD Cert.FirstIdeal.τ Cert.FirstIdeal.sig) → Buf (Elt Ideal) ℓ) : Prop :=
  ∀ c : Dev Cert.FirstIdeal.nD,
    (Cert.Pre_first_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))) = (fun _ => 1#1)

def Pre_FirstRefIdeal (m : (ℓ : Loc Cert.FirstRefIdeal.nD Cert.FirstRefIdeal.τ Cert.FirstRefIdeal.sig) → Buf (Elt Ideal) ℓ) : Prop :=
  True

def Pre_FirstRefIdeal_first_finite [hPre_first_finite : Cert.Pre_first_finite.Facts] (m : (ℓ : Loc Cert.FirstRefIdeal.nD Cert.FirstRefIdeal.τ Cert.FirstRefIdeal.sig) → Buf (Elt Ideal) ℓ) : Prop :=
  ∀ c : Dev Cert.FirstRefIdeal.nD,
    (Cert.Pre_first_finite.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4))) = (fun _ => 1#1)

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_last_finite [hPre_last_finite : Cert.Pre_last_finite.Facts] (m : (ℓ : Loc Cert.LastIdeal.nD Cert.LastIdeal.τ Cert.LastIdeal.sig) → Buf (Elt Ideal) ℓ) : Prop :=
  ∀ c : Dev Cert.LastIdeal.nD,
    (Cert.Pre_last_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6))) = (fun _ => 1#1)

def Pre_LastRefIdeal (m : (ℓ : Loc Cert.LastRefIdeal.nD Cert.LastRefIdeal.τ Cert.LastRefIdeal.sig) → Buf (Elt Ideal) ℓ) : Prop :=
  True

def Pre_LastRefIdeal_last_finite [hPre_last_finite : Cert.Pre_last_finite.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_last_finite.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6))) = (fun _ => 1#1)

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossIdeal_cross_finite [hPre_cross_finite : Cert.Pre_cross_finite.Facts] (m : (ℓ : Loc Cert.CrossIdeal.nD Cert.CrossIdeal.τ Cert.CrossIdeal.sig) → Buf (Elt Ideal) ℓ) : Prop :=
  ∀ c : Dev Cert.CrossIdeal.nD,
    (Cert.Pre_cross_finite.fn (F := Ideal) (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4)) (m ((c.tc : Thread Cert.CrossIdeal.nD Cert.CrossIdeal.τ).loc Cert.CrossIdeal.main_arg5)) (m ((c.tc : Thread Cert.CrossIdeal.nD Cert.CrossIdeal.τ).loc Cert.CrossIdeal.main_arg6)) (m ((c.tc : Thread Cert.CrossIdeal.nD Cert.CrossIdeal.τ).loc Cert.CrossIdeal.main_arg7))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2)) (m ((c.tc : Thread Cert.CrossRefIdeal.nD Cert.CrossRefIdeal.τ).loc Cert.CrossRefIdeal.main_arg3)) (m ((c.tc : Thread Cert.CrossRefIdeal.nD Cert.CrossRefIdeal.τ).loc Cert.CrossRefIdeal.main_arg4)) (m ((c.tc : Thread Cert.CrossRefIdeal.nD Cert.CrossRefIdeal.τ).loc Cert.CrossRefIdeal.main_arg5)) (m ((c.tc : Thread Cert.CrossRefIdeal.nD Cert.CrossRefIdeal.τ).loc Cert.CrossRefIdeal.main_arg6)) (m ((c.tc : Thread Cert.CrossRefIdeal.nD Cert.CrossRefIdeal.τ).loc Cert.CrossRefIdeal.main_arg7))) = (fun _ => 1#1)

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_band_finite [hBandIdeal : Cert.BandIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg), Pre_BandIdeal_band_finite m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_band_finite [hBandRefIdeal : Cert.BandRefIdeal.Facts] [hPre_band_finite : Cert.Pre_band_finite.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_band_finite m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstIdeal_pre_first_finite [hFirstIdeal : Cert.FirstIdeal.Facts] [hPre_first_finite : Cert.Pre_first_finite.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_first_finite m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_FirstRefIdeal_pre_first_finite [hFirstRefIdeal : Cert.FirstRefIdeal.Facts] [hPre_first_finite : Cert.Pre_first_finite.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal_first_finite m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastIdeal_pre_last_finite [hLastIdeal : Cert.LastIdeal.Facts] [hPre_last_finite : Cert.Pre_last_finite.Facts] : Prop :=
  ∀ (m : (ℓ : Loc Cert.LastIdeal.nD Cert.LastIdeal.τ Cert.LastIdeal.sig) → Buf (Elt Ideal) ℓ) (g : Dev Cert.LastIdeal.nD → PrngReg), Pre_LastIdeal_last_finite m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_LastRefIdeal_pre_last_finite [hLastRefIdeal : Cert.LastRefIdeal.Facts] [hPre_last_finite : Cert.Pre_last_finite.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal_last_finite m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossIdeal_pre_cross_finite [hCrossIdeal : Cert.CrossIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal_cross_finite m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2)
      ∧ r.2.mem ((c.tc : Thread Cert.MemoryRefIdeal.nD Cert.MemoryRefIdeal.τ).loc Cert.MemoryRefIdeal.main_arg3) = m ((c.tc : Thread Cert.MemoryRefIdeal.nD Cert.MemoryRefIdeal.τ).loc Cert.MemoryRefIdeal.main_arg3))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2)
      ∧ r.2.mem ((c.tc : Thread Cert.ProjBRefIdeal.nD Cert.ProjBRefIdeal.τ).loc Cert.ProjBRefIdeal.main_arg3) = m ((c.tc : Thread Cert.ProjBRefIdeal.nD Cert.ProjBRefIdeal.τ).loc Cert.ProjBRefIdeal.main_arg3))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3))
      ∧ r.2.sem = fun _ => 0)

def preserves_Band_BandIdeal : Prop :=
  IdealRules.named_const.Statement Cert.BandIdeal.κ "log2e" .f32 0x3FB8AA3B#32 (((Real.log 2)⁻¹ : ℝ) : EReal)

def algebraic_BandIdeal_BandRefIdeal_pre_band_finite [hBandIdeal : Cert.BandIdeal.Facts] [hBandRefIdeal : Cert.BandRefIdeal.Facts] [hPre_band_finite : Cert.Pre_band_finite.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_band_finite m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v50)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v50) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v87) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_First_FirstIdeal : Prop :=
  True

def algebraic_FirstIdeal_FirstRefIdeal_pre_first_finite [hFirstIdeal : Cert.FirstIdeal.Facts] [hFirstRefIdeal : Cert.FirstRefIdeal.Facts] [hPre_first_finite : Cert.Pre_first_finite.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal_first_finite m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v1) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v23) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4))

def preserves_Last_LastIdeal : Prop :=
  True

def algebraic_LastIdeal_LastRefIdeal_pre_last_finite [hLastIdeal : Cert.LastIdeal.Facts] [hLastRefIdeal : Cert.LastRefIdeal.Facts] [hPre_last_finite : Cert.Pre_last_finite.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal_last_finite m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)) →
    ∃ (v0 : (c : Dev Cert.LastIdeal.nD) → Buf (Elt Ideal) ((c.tc : Thread Cert.LastIdeal.nD Cert.LastIdeal.τ).loc Cert.LastIdeal.main_v1)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v1) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v27) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6))

def preserves_Cross_CrossIdeal : Prop :=
  True

def algebraic_CrossIdeal_CrossRefIdeal_pre_cross_finite [hCrossIdeal : Cert.CrossIdeal.Facts] [hCrossRefIdeal : Cert.CrossRefIdeal.Facts] [hPre_cross_finite : Cert.Pre_cross_finite.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal_cross_finite m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)) →
    ∃ (v0 : (c : Dev Cert.CrossIdeal.nD) → Buf (Elt Ideal) ((c.tc : Thread Cert.CrossIdeal.nD Cert.CrossIdeal.τ).loc Cert.CrossIdeal.main_v3_0)) (v1 : (c : Dev Cert.CrossIdeal.nD) → Buf (Elt Ideal) ((c.tc : Thread Cert.CrossIdeal.nD Cert.CrossIdeal.τ).loc Cert.CrossIdeal.main_v3_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v3_0) = v0 c
          ∧ r.2.mem ((c.tc : Thread Cert.CrossIdeal.nD Cert.CrossIdeal.τ).loc Cert.CrossIdeal.main_v3_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v8) = v0 c
          ∧ r.2.mem ((c.tc : Thread Cert.CrossRefIdeal.nD Cert.CrossRefIdeal.τ).loc Cert.CrossRefIdeal.main_v43) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)
      ∧ m' ((c.tc : Thread Cert.MemoryRefIdeal.nD Cert.MemoryRefIdeal.τ).loc Cert.MemoryRefIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)) (v2 : (c : Dev Cert.MemoryIdeal.nD) → Buf (Elt Ideal) ((c.tc : Thread Cert.MemoryIdeal.nD Cert.MemoryIdeal.τ).loc Cert.MemoryIdeal.main_v4_2)) (v3 : (c : Dev Cert.MemoryIdeal.nD) → Buf (Elt Ideal) ((c.tc : Thread Cert.MemoryIdeal.nD Cert.MemoryIdeal.τ).loc Cert.MemoryIdeal.main_v4_3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_v4_2) = v2 c
          ∧ r.2.mem ((c.tc : Thread Cert.MemoryIdeal.nD Cert.MemoryIdeal.τ).loc Cert.MemoryIdeal.main_v4_3) = v3 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v14) = v0 c
          ∧ r.2.mem ((c.tc : Thread Cert.MemoryRefIdeal.nD Cert.MemoryRefIdeal.τ).loc Cert.MemoryRefIdeal.main_v17) = v1 c
          ∧ r.2.mem ((c.tc : Thread Cert.MemoryRefIdeal.nD Cert.MemoryRefIdeal.τ).loc Cert.MemoryRefIdeal.main_v16) = v2 c
          ∧ r.2.mem ((c.tc : Thread Cert.MemoryRefIdeal.nD Cert.MemoryRefIdeal.τ).loc Cert.MemoryRefIdeal.main_v18) = v3 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2)
          ∧ r.2.mem ((c.tc : Thread Cert.MemoryRefIdeal.nD Cert.MemoryRefIdeal.τ).loc Cert.MemoryRefIdeal.main_arg3) = m' ((c.tc : Thread Cert.MemoryRefIdeal.nD Cert.MemoryRefIdeal.τ).loc Cert.MemoryRefIdeal.main_arg3))

def preserves_ProjA_ProjAIdeal : Prop :=
  IdealRules.named_const.Statement Cert.ProjAIdeal.κ "log2e_8" .f32 0x3E38AA3B#32 (((Real.log 256)⁻¹ : ℝ) : EReal)

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v5_0)) (v1 : (c : Dev Cert.ProjAIdeal.nD) → Buf (Elt Ideal) ((c.tc : Thread Cert.ProjAIdeal.nD Cert.ProjAIdeal.τ).loc Cert.ProjAIdeal.main_v5_1)) (v2 : (c : Dev Cert.ProjAIdeal.nD) → Buf (Elt Ideal) ((c.tc : Thread Cert.ProjAIdeal.nD Cert.ProjAIdeal.τ).loc Cert.ProjAIdeal.main_v5_2)) (v3 : (c : Dev Cert.ProjAIdeal.nD) → Buf (Elt Ideal) ((c.tc : Thread Cert.ProjAIdeal.nD Cert.ProjAIdeal.τ).loc Cert.ProjAIdeal.main_v5_3)) (v4 : (c : Dev Cert.ProjAIdeal.nD) → Buf (Elt Ideal) ((c.tc : Thread Cert.ProjAIdeal.nD Cert.ProjAIdeal.τ).loc Cert.ProjAIdeal.main_v5_4)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v5_0) = v0 c
          ∧ r.2.mem ((c.tc : Thread Cert.ProjAIdeal.nD Cert.ProjAIdeal.τ).loc Cert.ProjAIdeal.main_v5_1) = v1 c
          ∧ r.2.mem ((c.tc : Thread Cert.ProjAIdeal.nD Cert.ProjAIdeal.τ).loc Cert.ProjAIdeal.main_v5_2) = v2 c
          ∧ r.2.mem ((c.tc : Thread Cert.ProjAIdeal.nD Cert.ProjAIdeal.τ).loc Cert.ProjAIdeal.main_v5_3) = v3 c
          ∧ r.2.mem ((c.tc : Thread Cert.ProjAIdeal.nD Cert.ProjAIdeal.τ).loc Cert.ProjAIdeal.main_v5_4) = v4 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v23) = v0 c
          ∧ r.2.mem ((c.tc : Thread Cert.ProjARefIdeal.nD Cert.ProjARefIdeal.τ).loc Cert.ProjARefIdeal.main_v21) = v1 c
          ∧ r.2.mem ((c.tc : Thread Cert.ProjARefIdeal.nD Cert.ProjARefIdeal.τ).loc Cert.ProjARefIdeal.main_v24) = v2 c
          ∧ r.2.mem ((c.tc : Thread Cert.ProjARefIdeal.nD Cert.ProjARefIdeal.τ).loc Cert.ProjARefIdeal.main_v22) = v3 c
          ∧ r.2.mem ((c.tc : Thread Cert.ProjARefIdeal.nD Cert.ProjARefIdeal.τ).loc Cert.ProjARefIdeal.main_v25) = v4 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjB_ProjBIdeal : Prop :=
  IdealRules.named_const.Statement Cert.ProjBIdeal.κ "log2e_8" .f32 0x3E38AA3B#32 (((Real.log 256)⁻¹ : ℝ) : EReal)

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)
      ∧ m' ((c.tc : Thread Cert.ProjBRefIdeal.nD Cert.ProjBRefIdeal.τ).loc Cert.ProjBRefIdeal.main_arg3) = m ((c.tc : Thread Cert.ProjBIdeal.nD Cert.ProjBIdeal.τ).loc Cert.ProjBIdeal.main_arg3)) →
    ∃ (v0 : (c : Dev Cert.ProjBIdeal.nD) → Buf (Elt Ideal) ((c.tc : Thread Cert.ProjBIdeal.nD Cert.ProjBIdeal.τ).loc Cert.ProjBIdeal.main_v22_0)) (v1 : (c : Dev Cert.ProjBIdeal.nD) → Buf (Elt Ideal) ((c.tc : Thread Cert.ProjBIdeal.nD Cert.ProjBIdeal.τ).loc Cert.ProjBIdeal.main_v22_1)) (v2 : (c : Dev Cert.ProjBIdeal.nD) → Buf (Elt Ideal) ((c.tc : Thread Cert.ProjBIdeal.nD Cert.ProjBIdeal.τ).loc Cert.ProjBIdeal.main_v22_2)) (v3 : (c : Dev Cert.ProjBIdeal.nD) → Buf (Elt Ideal) ((c.tc : Thread Cert.ProjBIdeal.nD Cert.ProjBIdeal.τ).loc Cert.ProjBIdeal.main_v22_3)) (v4 : (c : Dev Cert.ProjBIdeal.nD) → Buf (Elt Ideal) ((c.tc : Thread Cert.ProjBIdeal.nD Cert.ProjBIdeal.τ).loc Cert.ProjBIdeal.main_v22_4)) (v5 : (c : Dev Cert.ProjBIdeal.nD) → Buf (Elt Ideal) ((c.tc : Thread Cert.ProjBIdeal.nD Cert.ProjBIdeal.τ).loc Cert.ProjBIdeal.main_v22_5)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v22_0) = v0 c
          ∧ r.2.mem ((c.tc : Thread Cert.ProjBIdeal.nD Cert.ProjBIdeal.τ).loc Cert.ProjBIdeal.main_v22_1) = v1 c
          ∧ r.2.mem ((c.tc : Thread Cert.ProjBIdeal.nD Cert.ProjBIdeal.τ).loc Cert.ProjBIdeal.main_v22_2) = v2 c
          ∧ r.2.mem ((c.tc : Thread Cert.ProjBIdeal.nD Cert.ProjBIdeal.τ).loc Cert.ProjBIdeal.main_v22_3) = v3 c
          ∧ r.2.mem ((c.tc : Thread Cert.ProjBIdeal.nD Cert.ProjBIdeal.τ).loc Cert.ProjBIdeal.main_v22_4) = v4 c
          ∧ r.2.mem ((c.tc : Thread Cert.ProjBIdeal.nD Cert.ProjBIdeal.τ).loc Cert.ProjBIdeal.main_v22_5) = v5 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v32) = v0 c
          ∧ r.2.mem ((c.tc : Thread Cert.ProjBRefIdeal.nD Cert.ProjBRefIdeal.τ).loc Cert.ProjBRefIdeal.main_v21) = v1 c
          ∧ r.2.mem ((c.tc : Thread Cert.ProjBRefIdeal.nD Cert.ProjBRefIdeal.τ).loc Cert.ProjBRefIdeal.main_v36) = v2 c
          ∧ r.2.mem ((c.tc : Thread Cert.ProjBRefIdeal.nD Cert.ProjBRefIdeal.τ).loc Cert.ProjBRefIdeal.main_v22) = v3 c
          ∧ r.2.mem ((c.tc : Thread Cert.ProjBRefIdeal.nD Cert.ProjBRefIdeal.τ).loc Cert.ProjBRefIdeal.main_v37) = v4 c
          ∧ r.2.mem ((c.tc : Thread Cert.ProjBRefIdeal.nD Cert.ProjBRefIdeal.τ).loc Cert.ProjBRefIdeal.main_v28) = v5 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2)
          ∧ r.2.mem ((c.tc : Thread Cert.ProjBRefIdeal.nD Cert.ProjBRefIdeal.τ).loc Cert.ProjBRefIdeal.main_arg3) = m' ((c.tc : Thread Cert.ProjBRefIdeal.nD Cert.ProjBRefIdeal.τ).loc Cert.ProjBRefIdeal.main_arg3))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)) →
    ∃ (v0 : (c : Dev Cert.ProjSIdeal.nD) → Buf (Elt Ideal) ((c.tc : Thread Cert.ProjSIdeal.nD Cert.ProjSIdeal.τ).loc Cert.ProjSIdeal.main_v9_0)) (v1 : (c : Dev Cert.ProjSIdeal.nD) → Buf (Elt Ideal) ((c.tc : Thread Cert.ProjSIdeal.nD Cert.ProjSIdeal.τ).loc Cert.ProjSIdeal.main_v9_1)) (v2 : (c : Dev Cert.ProjSIdeal.nD) → Buf (Elt Ideal) ((c.tc : Thread Cert.ProjSIdeal.nD Cert.ProjSIdeal.τ).loc Cert.ProjSIdeal.main_v9_2)) (v3 : (c : Dev Cert.ProjSIdeal.nD) → Buf (Elt Ideal) ((c.tc : Thread Cert.ProjSIdeal.nD Cert.ProjSIdeal.τ).loc Cert.ProjSIdeal.main_v9_3)) (v4 : (c : Dev Cert.ProjSIdeal.nD) → Buf (Elt Ideal) ((c.tc : Thread Cert.ProjSIdeal.nD Cert.ProjSIdeal.τ).loc Cert.ProjSIdeal.main_v9_4)) (v5 : (c : Dev Cert.ProjSIdeal.nD) → Buf (Elt Ideal) ((c.tc : Thread Cert.ProjSIdeal.nD Cert.ProjSIdeal.τ).loc Cert.ProjSIdeal.main_v9_5)) (v6 : (c : Dev Cert.ProjSIdeal.nD) → Buf (Elt Ideal) ((c.tc : Thread Cert.ProjSIdeal.nD Cert.ProjSIdeal.τ).loc Cert.ProjSIdeal.main_v9_6)) (v7 : (c : Dev Cert.ProjSIdeal.nD) → Buf (Elt Ideal) ((c.tc : Thread Cert.ProjSIdeal.nD Cert.ProjSIdeal.τ).loc Cert.ProjSIdeal.main_v9_7)) (v8 : (c : Dev Cert.ProjSIdeal.nD) → Buf (Elt Ideal) ((c.tc : Thread Cert.ProjSIdeal.nD Cert.ProjSIdeal.τ).loc Cert.ProjSIdeal.main_v9_8)) (v9 : (c : Dev Cert.ProjSIdeal.nD) → Buf (Elt Ideal) ((c.tc : Thread Cert.ProjSIdeal.nD Cert.ProjSIdeal.τ).loc Cert.ProjSIdeal.main_v9_9)) (v10 : (c : Dev Cert.ProjSIdeal.nD) → Buf (Elt Ideal) ((c.tc : Thread Cert.ProjSIdeal.nD Cert.ProjSIdeal.τ).loc Cert.ProjSIdeal.main_v9_10)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v9_0) = v0 c
          ∧ r.2.mem ((c.tc : Thread Cert.ProjSIdeal.nD Cert.ProjSIdeal.τ).loc Cert.ProjSIdeal.main_v9_1) = v1 c
          ∧ r.2.mem ((c.tc : Thread Cert.ProjSIdeal.nD Cert.ProjSIdeal.τ).loc Cert.ProjSIdeal.main_v9_2) = v2 c
          ∧ r.2.mem ((c.tc : Thread Cert.ProjSIdeal.nD Cert.ProjSIdeal.τ).loc Cert.ProjSIdeal.main_v9_3) = v3 c
          ∧ r.2.mem ((c.tc : Thread Cert.ProjSIdeal.nD Cert.ProjSIdeal.τ).loc Cert.ProjSIdeal.main_v9_4) = v4 c
          ∧ r.2.mem ((c.tc : Thread Cert.ProjSIdeal.nD Cert.ProjSIdeal.τ).loc Cert.ProjSIdeal.main_v9_5) = v5 c
          ∧ r.2.mem ((c.tc : Thread Cert.ProjSIdeal.nD Cert.ProjSIdeal.τ).loc Cert.ProjSIdeal.main_v9_6) = v6 c
          ∧ r.2.mem ((c.tc : Thread Cert.ProjSIdeal.nD Cert.ProjSIdeal.τ).loc Cert.ProjSIdeal.main_v9_7) = v7 c
          ∧ r.2.mem ((c.tc : Thread Cert.ProjSIdeal.nD Cert.ProjSIdeal.τ).loc Cert.ProjSIdeal.main_v9_8) = v8 c
          ∧ r.2.mem ((c.tc : Thread Cert.ProjSIdeal.nD Cert.ProjSIdeal.τ).loc Cert.ProjSIdeal.main_v9_9) = v9 c
          ∧ r.2.mem ((c.tc : Thread Cert.ProjSIdeal.nD Cert.ProjSIdeal.τ).loc Cert.ProjSIdeal.main_v9_10) = v10 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v30) = v0 c
          ∧ r.2.mem ((c.tc : Thread Cert.ProjSRefIdeal.nD Cert.ProjSRefIdeal.τ).loc Cert.ProjSRefIdeal.main_v17) = v1 c
          ∧ r.2.mem ((c.tc : Thread Cert.ProjSRefIdeal.nD Cert.ProjSRefIdeal.τ).loc Cert.ProjSRefIdeal.main_v31) = v2 c
          ∧ r.2.mem ((c.tc : Thread Cert.ProjSRefIdeal.nD Cert.ProjSRefIdeal.τ).loc Cert.ProjSRefIdeal.main_v18) = v3 c
          ∧ r.2.mem ((c.tc : Thread Cert.ProjSRefIdeal.nD Cert.ProjSRefIdeal.τ).loc Cert.ProjSRefIdeal.main_v32) = v4 c
          ∧ r.2.mem ((c.tc : Thread Cert.ProjSRefIdeal.nD Cert.ProjSRefIdeal.τ).loc Cert.ProjSRefIdeal.main_v33) = v5 c
          ∧ r.2.mem ((c.tc : Thread Cert.ProjSRefIdeal.nD Cert.ProjSRefIdeal.τ).loc Cert.ProjSRefIdeal.main_v22) = v6 c
          ∧ r.2.mem ((c.tc : Thread Cert.ProjSRefIdeal.nD Cert.ProjSRefIdeal.τ).loc Cert.ProjSRefIdeal.main_v34) = v7 c
          ∧ r.2.mem ((c.tc : Thread Cert.ProjSRefIdeal.nD Cert.ProjSRefIdeal.τ).loc Cert.ProjSRefIdeal.main_v23) = v8 c
          ∧ r.2.mem ((c.tc : Thread Cert.ProjSRefIdeal.nD Cert.ProjSRefIdeal.τ).loc Cert.ProjSRefIdeal.main_v35) = v9 c
          ∧ r.2.mem ((c.tc : Thread Cert.ProjSRefIdeal.nD Cert.ProjSRefIdeal.τ).loc Cert.ProjSRefIdeal.main_v29) = v10 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3))

def Claim : Prop :=
  ∃ (hBand : Cert.Band.Facts) (hBandIdeal : Cert.BandIdeal.Facts) (hBandRefIdeal : Cert.BandRefIdeal.Facts) (hFfn : Cert.Ffn.Facts) (hFfnIdeal : Cert.FfnIdeal.Facts) (hFfnRefIdeal : Cert.FfnRefIdeal.Facts) (hFirst : Cert.First.Facts) (hFirstIdeal : Cert.FirstIdeal.Facts) (hFirstRefIdeal : Cert.FirstRefIdeal.Facts) (hLast : Cert.Last.Facts) (hLastIdeal : Cert.LastIdeal.Facts) (hLastRefIdeal : Cert.LastRefIdeal.Facts) (hCross : Cert.Cross.Facts) (hCrossIdeal : Cert.CrossIdeal.Facts) (hCrossRefIdeal : Cert.CrossRefIdeal.Facts) (hMemory : Cert.Memory.Facts) (hMemoryIdeal : Cert.MemoryIdeal.Facts) (hMemoryRefIdeal : Cert.MemoryRefIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjS : Cert.ProjS.Facts) (hProjSIdeal : Cert.ProjSIdeal.Facts) (hProjSRefIdeal : Cert.ProjSRefIdeal.Facts) (hPre_band_finite : Cert.Pre_band_finite.Facts) (hPre_ffn_finite : Cert.Pre_ffn_finite.Facts) (hPre_first_finite : Cert.Pre_first_finite.Facts) (hPre_last_finite : Cert.Pre_last_finite.Facts) (hPre_cross_finite : Cert.Pre_cross_finite.Facts),
    quiescent_Band (hBand := hBand)
    ∧ quiescent_BandIdeal (hBandIdeal := hBandIdeal)
    ∧ quiescent_BandIdeal_pre_band_finite (hBandIdeal := hBandIdeal) (hPre_band_finite := hPre_band_finite)
    ∧ quiescent_BandRefIdeal (hBandRefIdeal := hBandRefIdeal)
    ∧ quiescent_BandRefIdeal_pre_band_finite (hBandRefIdeal := hBandRefIdeal) (hPre_band_finite := hPre_band_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_First (hFirst := hFirst)
    ∧ quiescent_FirstIdeal (hFirstIdeal := hFirstIdeal)
    ∧ quiescent_FirstIdeal_pre_first_finite (hFirstIdeal := hFirstIdeal) (hPre_first_finite := hPre_first_finite)
    ∧ quiescent_FirstRefIdeal (hFirstRefIdeal := hFirstRefIdeal)
    ∧ quiescent_FirstRefIdeal_pre_first_finite (hFirstRefIdeal := hFirstRefIdeal) (hPre_first_finite := hPre_first_finite)
    ∧ quiescent_Last (hLast := hLast)
    ∧ quiescent_LastIdeal (hLastIdeal := hLastIdeal)
    ∧ quiescent_LastIdeal_pre_last_finite (hLastIdeal := hLastIdeal) (hPre_last_finite := hPre_last_finite)
    ∧ quiescent_LastRefIdeal (hLastRefIdeal := hLastRefIdeal)
    ∧ quiescent_LastRefIdeal_pre_last_finite (hLastRefIdeal := hLastRefIdeal) (hPre_last_finite := hPre_last_finite)
    ∧ quiescent_Cross (hCross := hCross)
    ∧ quiescent_CrossIdeal (hCrossIdeal := hCrossIdeal)
    ∧ quiescent_CrossIdeal_pre_cross_finite (hCrossIdeal := hCrossIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_Memory (hMemory := hMemory)
    ∧ quiescent_MemoryIdeal (hMemoryIdeal := hMemoryIdeal)
    ∧ quiescent_MemoryRefIdeal (hMemoryRefIdeal := hMemoryRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjS (hProjS := hProjS)
    ∧ quiescent_ProjSIdeal (hProjSIdeal := hProjSIdeal)
    ∧ quiescent_ProjSRefIdeal (hProjSRefIdeal := hProjSRefIdeal)
    ∧ preserves_Band_BandIdeal
    ∧ algebraic_BandIdeal_BandRefIdeal_pre_band_finite (hBandIdeal := hBandIdeal) (hBandRefIdeal := hBandRefIdeal) (hPre_band_finite := hPre_band_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_First_FirstIdeal
    ∧ algebraic_FirstIdeal_FirstRefIdeal_pre_first_finite (hFirstIdeal := hFirstIdeal) (hFirstRefIdeal := hFirstRefIdeal) (hPre_first_finite := hPre_first_finite)
    ∧ preserves_Last_LastIdeal
    ∧ algebraic_LastIdeal_LastRefIdeal_pre_last_finite (hLastIdeal := hLastIdeal) (hLastRefIdeal := hLastRefIdeal) (hPre_last_finite := hPre_last_finite)
    ∧ preserves_Cross_CrossIdeal
    ∧ algebraic_CrossIdeal_CrossRefIdeal_pre_cross_finite (hCrossIdeal := hCrossIdeal) (hCrossRefIdeal := hCrossRefIdeal) (hPre_cross_finite := hPre_cross_finite)
    ∧ preserves_Memory_MemoryIdeal
    ∧ algebraic_MemoryIdeal_MemoryRefIdeal (hMemoryIdeal := hMemoryIdeal) (hMemoryRefIdeal := hMemoryRefIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjS_ProjSIdeal
    ∧ algebraic_ProjSIdeal_ProjSRefIdeal (hProjSIdeal := hProjSIdeal) (hProjSRefIdeal := hProjSRefIdeal)
-- ==== Pre_band_finite.lean ====
abbrev S16384x512 : Shape := ⟨2, ![16384, 512]⟩
abbrev S8x513 : Shape := ⟨2, ![8, 513]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S8x513 : S_.BroadcastsInDim S8x513 (![] : Fin 0 → Fin S8x513.rank)
  reducesTo_S8x513_S_d0_1 : S8x513.ReducesTo [0, 1] S_

variable [Facts]

def fn {F : FTy → Type} [FloatOps F] (main_arg0 : FVec F S16384x512 .bf16) (main_arg1 : FVec F S16384x512 .bf16) (main_arg2 : FVec F S16384x512 .bf16) (main_arg3 : FVec F S8x513 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S8x513 .f32 := Host.absf main_arg3
  let main_cst_2 : FVec F S_ .f32 := constant S_ .f32 0x7F800000#32
  let main_v12 : FVec F S8x513 .f32 := broadcastInDim S8x513 ![] bcast_S_S8x513 main_cst_2
  let main_v13 : IVec S8x513 1 := cmpf .olt main_v11 main_v12
  let main_c_3 : IVec S_ 1 := constantI S_ 1 1#1
  let main_v14 : IVec S_ 1 := (fun x v => Host.reduce IntOp.andi x v reducesTo_S8x513_S_d0_1 h_S_) main_v13 main_c_3
  let main_v15 : IVec S_ 1 := andi main_v10 main_v14
  main_v15
-- ==== Pre_cross_finite.lean ====
abbrev S16384x1024 : Shape := ⟨2, ![16384, 1024]⟩
abbrev S1024 : Shape := ⟨1, ![1024]⟩
abbrev S1024x1024 : Shape := ⟨2, ![1024, 1024]⟩
abbrev S16384x512 : Shape := ⟨2, ![16384, 512]⟩
abbrev S256x1024 : Shape := ⟨2, ![256, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S16384x1024 .f32) (main_arg1 : FVec F S1024 .f32) (main_arg2 : FVec F S1024x1024 .bf16) (main_arg3 : FVec F S16384x512 .bf16) (main_arg4 : FVec F S16384x512 .bf16) (main_arg5 : FVec F S1024x1024 .bf16) (main_arg6 : FVec F S256x1024 .bf16) (main_arg7 : FVec F S256x1024 .bf16) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x1024 .f32 := (extf .f32 · bitsLt_bf16_f32) main_arg2
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S256x1024 .f32 := (extf .f32 · bitsLt_bf16_f32) main_arg6
  let main_v11 : FVec F S256x1024 .f32 := Host.absf main_v10
  let main_cst_2 : FVec F S_ .f32 := constant S_ .f32 0x7F800000#32
  let main_v12 : FVec F S256x1024 .f32 := broadcastInDim S256x1024 ![] bcast_S_S256x1024 main_cst_2
  let main_v13 : IVec S256x1024 1 := cmpf .olt main_v11 main_v12
  let main_c_3 : IVec S_ 1 := constantI S_ 1 1#1
  let main_v14 : IVec S_ 1 := (fun x v => Host.reduce IntOp.andi x v reducesTo_S256x1024_S_d0_1 h_S_) main_v13 main_c_3
  let main_v15 : IVec S_ 1 := andi main_v9 main_v14
  main_v15
-- ==== Pre_ffn_finite.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16384x1024 .f32) (main_arg1 : FVec F S1024 .f32) (main_arg2 : FVec F S1024x4096 .bf16) (main_arg3 : FVec F S1024x4096 .bf16) (main_arg4 : FVec F S4096x1024 .bf16) (main_arg5 : FVec F S1024 .f32) (main_arg6 : FVec F S16384x1024 .bf16) (main_arg7 : FVec F S1024x1024 .bf16) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4096 .f32 := (extf .f32 · bitsLt_bf16_f32) main_arg2
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_c_1 : IVec S_ 1 := constantI S_ 1 1#1
  let main_v8 : IVec S_ 1 := (fun x v => Host.reduce IntOp.andi x v reducesTo_S1024x4096_S_d0_1 h_S_) main_v7 main_c_1
  let main_v9 : IVec S_ 1 := andi main_v3 main_v8
  main_v9
-- ==== Pre_first_finite.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16384x1024 .f32) (main_arg1 : FVec F S1024 .f32) (main_arg2 : FVec F S1024x4096 .bf16) (main_arg3 : FVec F S1024x4096 .bf16) (main_arg4 : FVec F S4096x1024 .bf16) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4096 .f32 := (extf .f32 · bitsLt_bf16_f32) main_arg2
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_c_1 : IVec S_ 1 := constantI S_ 1 1#1
  let main_v8 : IVec S_ 1 := (fun x v => Host.reduce IntOp.andi x v reducesTo_S1024x4096_S_d0_1 h_S_) main_v7 main_c_1
  let main_v9 : IVec S_ 1 := andi main_v3 main_v8
  main_v9
-- ==== Pre_last_finite.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S16384x1024 .f32) (main_arg1 : FVec F S1024 .f32) (main_arg2 : FVec F S1024x4096 .bf16) (main_arg3 : FVec F S1024x4096 .bf16) (main_arg4 : FVec F S4096x1024 .bf16) (main_arg5 : FVec F S16384x1024 .bf16) (main_arg6 : FVec F S1024x1024 .bf16) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x4096 .f32 := (extf .f32 · bitsLt_bf16_f32) main_arg2
  let main_v5 : FVec F S1024x4096 .f32 := Host.absf main_v4
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_c_1 : IVec S_ 1 := constantI S_ 1 1#1
  let main_v8 : IVec S_ 1 := (fun x v => Host.reduce IntOp.andi x v reducesTo_S1024x4096_S_d0_1 h_S_) main_v7 main_c_1
  let main_v9 : IVec S_ 1 := andi main_v3 main_v8
  main_v9
-- ==== Band.lean ====
abbrev S16384x512 : Shape := ⟨2, ![16384, 512]⟩
abbrev S8x513 : Shape := ⟨2, ![8, 513]⟩
abbrev S1023 : Shape := ⟨1, ![1023]⟩
abbrev S256 : Shape := ⟨1, ![256]⟩
abbrev S256x1 : Shape := ⟨2, ![256, 1]⟩
abbrev S_ : Shape := ⟨0, ![]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S3x256x768 : Shape := ⟨3, ![3, 256, 768]⟩
abbrev S1023x1 : Shape := ⟨2, ![1023, 1]⟩
abbrev S8x1023 : Shape := ⟨2, ![8, 1023]⟩
abbrev S8x1 : Shape := ⟨2, ![8, 1]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S3x1x256x768 : Shape := ⟨4, ![3, 1, 256, 768]⟩
abbrev S1x8x256x768 : Shape := ⟨4, ![1, 8, 256, 768]⟩
abbrev S3x8x256x768 : Shape := ⟨4, ![3, 8, 256, 768]⟩
abbrev S256x512 : Shape := ⟨2, ![256, 512]⟩
abbrev S256x128 : Shape := ⟨2, ![256, 128]⟩
abbrev S512x128 : Shape := ⟨2, ![512, 128]⟩
abbrev S1x1x256x256 : Shape := ⟨4, ![1, 1, 256, 256]⟩
abbrev S256x256 : Shape := ⟨2, ![256, 256]⟩
abbrev S512x256 : Shape := ⟨2, ![512, 256]⟩
abbrev S512 : Shape := ⟨1, ![512]⟩
abbrev S512x1 : Shape := ⟨2, ![512, 1]⟩
abbrev S256x1536 : Shape := ⟨2, ![256, 1536]⟩
abbrev S1536x128 : Shape := ⟨2, ![1536, 128]⟩

abbrev nBuf : Space → Nat
  | .hbm => 153
  | .vmem => 18
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S8x513, .f32⟩
  | 4 => ⟨S1023, .i32⟩
  | 5 => ⟨S1023, .i1⟩
  | 6 => ⟨S256, .i32⟩
  | 7 => ⟨S256x1, .i32⟩
  | 8 => ⟨S_, .i32⟩
  | 9 => ⟨S_, .i32⟩
  | 10 => ⟨S256x1, .i32⟩
  | 11 => ⟨S256x1, .i32⟩
  | 12 => ⟨S256x1, .i32⟩
  | 13 => ⟨S_, .i32⟩
  | 14 => ⟨S256x1, .i32⟩
  | 15 => ⟨S256x1, .i1⟩
  | 16 => ⟨S256x1, .i32⟩
  | 17 => ⟨S256x1, .i32⟩
  | 18 => ⟨S_, .i32⟩
  | 19 => ⟨S256x1, .i32⟩
  | 20 => ⟨S256x1, .i1⟩
  | 21 => ⟨S256x1, .i1⟩
  | 22 => ⟨S_, .i32⟩
  | 23 => ⟨S256x1, .i32⟩
  | 24 => ⟨S256x1, .i32⟩
  | 25 => ⟨S256x1, .i32⟩
  | 26 => ⟨S768, .i32⟩
  | 27 => ⟨S1x768, .i32⟩
  | 28 => ⟨S_, .i32⟩
  | 29 => ⟨S_, .i32⟩
  | 30 => ⟨S1x768, .i32⟩
  | 31 => ⟨S1x768, .i32⟩
  | 32 => ⟨S1x768, .i32⟩
  | 33 => ⟨S_, .i32⟩
  | 34 => ⟨S1x768, .i32⟩
  | 35 => ⟨S1x768, .i1⟩
  | 36 => ⟨S1x768, .i32⟩
  | 37 => ⟨S1x768, .i32⟩
  | 38 => ⟨S_, .i32⟩
  | 39 => ⟨S1x768, .i32⟩
  | 40 => ⟨S1x768, .i1⟩
  | 41 => ⟨S1x768, .i1⟩
  | 42 => ⟨S_, .i32⟩
  | 43 => ⟨S1x768, .i32⟩
  | 44 => ⟨S1x768, .i32⟩
  | 45 => ⟨S1x768, .i32⟩
  | 46 => ⟨S256x768, .i32⟩
  | 47 => ⟨S256x768, .i32⟩
  | 48 => ⟨S256x768, .i1⟩
  | 49 => ⟨S_, .i32⟩
  | 50 => ⟨S256x1, .i32⟩
  | 51 => ⟨S256x1, .i32⟩
  | 52 => ⟨S256x768, .i32⟩
  | 53 => ⟨S256x768, .i32⟩
  | 54 => ⟨S256x768, .i1⟩
  | 55 => ⟨S256x768, .i1⟩
  | 56 => ⟨S_, .i32⟩
  | 57 => ⟨S_, .i32⟩
  | 58 => ⟨S1x768, .i32⟩
  | 59 => ⟨S1x768, .i32⟩
  | 60 => ⟨S1x768, .i32⟩
  | 61 => ⟨S_, .i32⟩
  | 62 => ⟨S1x768, .i32⟩
  | 63 => ⟨S1x768, .i1⟩
  | 64 => ⟨S1x768, .i32⟩
  | 65 => ⟨S1x768, .i32⟩
  | 66 => ⟨S_, .i32⟩
  | 67 => ⟨S1x768, .i32⟩
  | 68 => ⟨S1x768, .i1⟩
  | 69 => ⟨S1x768, .i1⟩
  | 70 => ⟨S_, .i32⟩
  | 71 => ⟨S1x768, .i32⟩
  | 72 => ⟨S1x768, .i32⟩
  | 73 => ⟨S1x768, .i32⟩
  | 74 => ⟨S_, .i32⟩
  | 75 => ⟨S1x768, .i32⟩
  | 76 => ⟨S1x768, .i1⟩
  | 77 => ⟨S256x768, .i1⟩
  | 78 => ⟨S256x768, .i1⟩
  | 79 => ⟨S_, .i32⟩
  | 80 => ⟨S_, .i32⟩
  | 81 => ⟨S1x768, .i32⟩
  | 82 => ⟨S1x768, .i32⟩
  | 83 => ⟨S1x768, .i32⟩
  | 84 => ⟨S_, .i32⟩
  | 85 => ⟨S1x768, .i32⟩
  | 86 => ⟨S1x768, .i1⟩
  | 87 => ⟨S1x768, .i32⟩
  | 88 => ⟨S1x768, .i32⟩
  | 89 => ⟨S_, .i32⟩
  | 90 => ⟨S1x768, .i32⟩
  | 91 => ⟨S1x768, .i1⟩
  | 92 => ⟨S1x768, .i1⟩
  | 93 => ⟨S_, .i32⟩
  | 94 => ⟨S1x768, .i32⟩
  | 95 => ⟨S1x768, .i32⟩
  | 96 => ⟨S1x768, .i32⟩
  | 97 => ⟨S_, .i32⟩
  | 98 => ⟨S1x768, .i32⟩
  | 99 => ⟨S1x768, .i1⟩
  | 100 => ⟨S256x768, .i1⟩
  | 101 => ⟨S256x768, .i1⟩
  | 102 => ⟨S_, .i32⟩
  | 103 => ⟨S_, .i32⟩
  | 104 => ⟨S1x768, .i32⟩
  | 105 => ⟨S1x768, .i32⟩
  | 106 => ⟨S1x768, .i32⟩
  | 107 => ⟨S_, .i32⟩
  | 108 => ⟨S1x768, .i32⟩
  | 109 => ⟨S1x768, .i1⟩
  | 110 => ⟨S1x768, .i32⟩
  | 111 => ⟨S1x768, .i32⟩
  | 112 => ⟨S_, .i32⟩
  | 113 => ⟨S1x768, .i32⟩
  | 114 => ⟨S1x768, .i1⟩
  | 115 => ⟨S1x768, .i1⟩
  | 116 => ⟨S_, .i32⟩
  | 117 => ⟨S1x768, .i32⟩
  | 118 => ⟨S1x768, .i32⟩
  | 119 => ⟨S1x768, .i32⟩
  | 120 => ⟨S_, .i32⟩
  | 121 => ⟨S1x768, .i32⟩
  | 122 => ⟨S1x768, .i1⟩
  | 123 => ⟨S256x768, .i1⟩
  | 124 => ⟨S256x768, .i1⟩
  | 125 => ⟨S1x256x768, .i1⟩
  | 126 => ⟨S1x256x768, .i1⟩
  | 127 => ⟨S1x256x768, .i1⟩
  | _ => ⟨S16384x512, .bf16⟩

abbrev hbmTy0_1 (i : Nat) : BufTy := match i % 128 with
  | 0 => ⟨S3x256x768, .i1⟩
  | 1 => ⟨S_, .i32⟩
  | 2 => ⟨S1023, .i32⟩
  | 3 => ⟨S1023, .i32⟩
  | 4 => ⟨S1023, .i32⟩
  | 5 => ⟨S1023x1, .i32⟩
  | 6 => ⟨S8x1023, .f32⟩
  | 7 => ⟨S_, .f32⟩
  | 8 => ⟨S8x1, .f32⟩
  | 9 => ⟨S8x1024, .f32⟩
  | 10 => ⟨S1x8x1x1024, .f32⟩
  | 11 => ⟨S1x8x256x1024, .f32⟩
  | 12 => ⟨S8x262144, .f32⟩
  | 13 => ⟨S8x261888, .f32⟩
  | 14 => ⟨S8x256x1023, .f32⟩
  | 15 => ⟨S8x256x768, .f32⟩
  | 16 => ⟨S3x1x256x768, .i1⟩
  | 17 => ⟨S1x8x256x768, .f32⟩
  | 18 => ⟨S_, .f32⟩
  | 19 => ⟨S_, .f32⟩
  | 20 => ⟨S3x8x256x768, .i1⟩
  | 21 => ⟨S3x8x256x768, .f32⟩
  | 22 => ⟨S3x8x256x768, .f32⟩
  | 23 => ⟨S3x8x256x768, .f32⟩
  | 24 => ⟨S16384x512, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x8x256x768, .f32⟩
  | .local _ .vmem, ⟨15, _⟩ => ⟨S1x8x256x768, .f32⟩
  | .local _ .vmem, ⟨16, _⟩ => ⟨S256x512, .bf16⟩
  | .local _ .vmem, ⟨17, _⟩ => ⟨S256x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_c_3 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_4 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_v8 : Ref sig .tc := ⟨.hbm, 65, rfl⟩
abbrev main_call2_c : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_0 : Ref sig .tc := ⟨.hbm, 70, rfl⟩
abbrev main_call2_v12 : Ref sig .tc := ⟨.hbm, 71, rfl⟩
abbrev main_call2_v13 : Ref sig .tc := ⟨.hbm, 72, rfl⟩
abbrev main_v15 : Ref sig .tc := ⟨.hbm, 73, rfl⟩
abbrev main_c_5 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_c_6 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v20 : Ref sig .tc := ⟨.hbm, 96, rfl⟩
abbrev main_c_7 : Ref sig .tc := ⟨.hbm, 97, rfl⟩
abbrev main_v21 : Ref sig .tc := ⟨.hbm, 98, rfl⟩
abbrev main_v22 : Ref sig .tc := ⟨.hbm, 99, rfl⟩
abbrev main_v23 : Ref sig .tc := ⟨.hbm, 100, rfl⟩
abbrev main_v24 : Ref sig .tc := ⟨.hbm, 101, rfl⟩
abbrev main_c_8 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_c : Ref sig .tc := ⟨.hbm, 112, rfl⟩
abbrev main_call4_v9 : Ref sig .tc := ⟨.hbm, 113, rfl⟩
abbrev main_call4_v10 : Ref sig .tc := ⟨.hbm, 114, rfl⟩
abbrev main_call4_v11 : Ref sig .tc := ⟨.hbm, 115, rfl⟩
abbrev main_call4_c_0 : Ref sig .tc := ⟨.hbm, 116, rfl⟩
abbrev main_call4_v12 : Ref sig .tc := ⟨.hbm, 117, rfl⟩
abbrev main_call4_v13 : Ref sig .tc := ⟨.hbm, 118, rfl⟩
abbrev main_v25 : Ref sig .tc := ⟨.hbm, 119, rfl⟩
abbrev main_c_9 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_c_10 : Ref sig .tc := ⟨.hbm, 129, rfl⟩
abbrev main_v34 : Ref sig .tc := ⟨.hbm, 130, rfl⟩
abbrev main_v35 : Ref sig .tc := ⟨.hbm, 131, rfl⟩
abbrev main_v36 : Ref sig .tc := ⟨.hbm, 132, rfl⟩
abbrev main_v37 : Ref sig .tc := ⟨.hbm, 133, rfl⟩
abbrev main_v38 : Ref sig .tc := ⟨.hbm, 134, rfl⟩
abbrev main_cst : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_cst_11 : Ref sig .tc := ⟨.hbm, 146, rfl⟩
abbrev main_call5_v0 : Ref sig .tc := ⟨.hbm, 147, rfl⟩
abbrev main_call5_v1 : Ref sig .tc := ⟨.hbm, 148, rfl⟩
abbrev main_call5_v2 : Ref sig .tc := ⟨.hbm, 149, rfl⟩
abbrev main_call5_v3 : Ref sig .tc := ⟨.hbm, 150, rfl⟩
abbrev main_v49 : Ref sig .tc := ⟨.hbm, 151, rfl⟩
abbrev main_v50 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c0_i32_1 : BitVec 32 := 0#32
  let c0_i32_2 : BitVec 32 := 0#32
  ![v1.toNat, c0_i32_1.toNat]

def cc0_transform_7 (i : grid0.Coords) : Fin 4 → Nat :=
  let arg0 : BitVec 32 := BitVec.ofNat 32 (i 0).val
  let c2_i32 : BitVec 32 := 2#32
  let v0 : BitVec 32 := Scalar.minsi arg0 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BandIdeal.lean ====
variable {F : FTy → Type} [FloatOps F] [Named F]
def κ : String → Option EReal := fun
  | "log2e" => some (((Real.log 2)⁻¹ : ℝ) : EReal)
  | _ => none
-- ==== BandRefIdeal.lean ====
abbrev S16384x512 : Shape := ⟨2, ![16384, 512]⟩
abbrev S8x513 : Shape := ⟨2, ![8, 513]⟩
abbrev S1x16384x8x64 : Shape := ⟨4, ![1, 16384, 8, 64]⟩
abbrev S1x256x64x8x64 : Shape := ⟨5, ![1, 256, 64, 8, 64]⟩
abbrev S_ : Shape := ⟨0, ![]⟩
abbrev S1x512x8x64 : Shape := ⟨4, ![1, 512, 8, 64]⟩
abbrev S1x16896x8x64 : Shape := ⟨4, ![1, 16896, 8, 64]⟩
abbrev S1x264x64x8x64 : Shape := ⟨5, ![1, 264, 64, 8, 64]⟩
abbrev S1x256x576x8x64 : Shape := ⟨5, ![1, 256, 576, 8, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S256 : Shape := ⟨1, ![256]⟩
abbrev S256x1 : Shape := ⟨2, ![256, 1]⟩
abbrev S256x576 : Shape := ⟨2, ![256, 576]⟩
abbrev S1x256x8x64x576 : Shape := ⟨5, ![1, 256, 8, 64, 576]⟩
abbrev S1x1x8x64x576 : Shape := ⟨5, ![1, 1, 8, 64, 576]⟩
abbrev S1x256x1x1x576 : Shape := ⟨5, ![1, 256, 1, 1, 576]⟩
abbrev S1x256x8x64 : Shape := ⟨4, ![1, 256, 8, 64]⟩
abbrev S1x256x8x64x1 : Shape := ⟨5, ![1, 256, 8, 64, 1]⟩
abbrev S1x256x8x64x64 : Shape := ⟨5, ![1, 256, 8, 64, 64]⟩

abbrev nBuf : Space → Nat
  | .hbm => 115
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S8x513, .f32⟩
  | .hbm, ⟨4, _⟩ => ⟨S16384x512, .f32⟩
  | .hbm, ⟨5, _⟩ => ⟨S1x16384x8x64, .f32⟩
  | .hbm, ⟨6, _⟩ => ⟨S16384x512, .f32⟩
  | .hbm, ⟨7, _⟩ => ⟨S1x16384x8x64, .f32⟩
  | .hbm, ⟨8, _⟩ => ⟨S16384x512, .f32⟩
  | .hbm, ⟨9, _⟩ => ⟨S1x16384x8x64, .f32⟩
  | .hbm, ⟨10, _⟩ => ⟨S1x256x64x8x64, .f32⟩
  | .hbm, ⟨11, _⟩ => ⟨S_, .f32⟩
  | .hbm, ⟨12, _⟩ => ⟨S1x512x8x64, .f32⟩
  | .hbm, ⟨13, _⟩ => ⟨S1x16896x8x64, .f32⟩
  | .hbm, ⟨14, _⟩ => ⟨S1x264x64x8x64, .f32⟩
  | .hbm, ⟨15, _⟩ => ⟨S1x16896x8x64, .f32⟩
  | .hbm, ⟨16, _⟩ => ⟨S1x264x64x8x64, .f32⟩
  | .hbm, ⟨17, _⟩ => ⟨S1x256x64x8x64, .f32⟩
  | .hbm, ⟨18, _⟩ => ⟨S1x256x64x8x64, .f32⟩
  | .hbm, ⟨19, _⟩ => ⟨S1x256x64x8x64, .f32⟩
  | .hbm, ⟨20, _⟩ => ⟨S1x256x64x8x64, .f32⟩
  | .hbm, ⟨21, _⟩ => ⟨S1x256x64x8x64, .f32⟩
  | .hbm, ⟨22, _⟩ => ⟨S1x256x64x8x64, .f32⟩
  | .hbm, ⟨23, _⟩ => ⟨S1x256x64x8x64, .f32⟩
  | .hbm, ⟨24, _⟩ => ⟨S1x256x64x8x64, .f32⟩
  | .hbm, ⟨25, _⟩ => ⟨S1x256x64x8x64, .f32⟩
  | .hbm, ⟨26, _⟩ => ⟨S1x256x576x8x64, .f32⟩
  | .hbm, ⟨27, _⟩ => ⟨S1x256x64x8x64, .f32⟩
  | .hbm, ⟨28, _⟩ => ⟨S1x256x64x8x64, .f32⟩
  | .hbm, ⟨29, _⟩ => ⟨S1x256x64x8x64, .f32⟩
  | .hbm, ⟨30, _⟩ => ⟨S1x256x64x8x64, .f32⟩
  | .hbm, ⟨31, _⟩ => ⟨S1x256x64x8x64, .f32⟩
  | .hbm, ⟨32, _⟩ => ⟨S1x256x64x8x64, .f32⟩
  | .hbm, ⟨33, _⟩ => ⟨S1x256x64x8x64, .f32⟩
  | .hbm, ⟨34, _⟩ => ⟨S1x256x64x8x64, .f32⟩
  | .hbm, ⟨35, _⟩ => ⟨S1x256x64x8x64, .f32⟩
  | .hbm, ⟨36, _⟩ => ⟨S1x256x576x8x64, .f32⟩
  | .hbm, ⟨37, _⟩ => ⟨S64, .i32⟩
  | .hbm, ⟨38, _⟩ => ⟨S576, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S1x576, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i1⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S64x576, .i32⟩
  | .hbm, ⟨65, _⟩ => ⟨S64x576x1, .i32⟩
  | .hbm, ⟨66, _⟩ => ⟨S8x64x576, .f32⟩
  | .hbm, ⟨67, _⟩ => ⟨S256, .i32⟩
  | .hbm, ⟨68, _⟩ => ⟨S256x1, .i32⟩
  | .hbm, ⟨69, _⟩ => ⟨S_, .i32⟩
  | .hbm, ⟨70, _⟩ => ⟨S256x1, .i32⟩
  | .hbm, ⟨71, _⟩ => ⟨S256x1, .i32⟩
  | .hbm, ⟨72, _⟩ => ⟨S_, .i32⟩
  | .hbm, ⟨73, _⟩ => ⟨S256x1, .i32⟩
  | .hbm, ⟨74, _⟩ => ⟨S256x1, .i32⟩
  | .hbm, ⟨75, _⟩ => ⟨S1x576, .i32⟩
  | .hbm, ⟨76, _⟩ => ⟨S256x576, .i32⟩
  | .hbm, ⟨77, _⟩ => ⟨S256x576, .i32⟩
  | .hbm, ⟨78, _⟩ => ⟨S256x576, .i32⟩
  | .hbm, ⟨79, _⟩ => ⟨S_, .i32⟩
  | .hbm, ⟨80, _⟩ => ⟨S256x576, .i32⟩
  | .hbm, ⟨81, _⟩ => ⟨S256x576, .i1⟩
  | .hbm, ⟨82, _⟩ => ⟨S1x256x8x64x576, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S1x256x8x64x576, .f32⟩
  | .hbm, ⟨87, _⟩ => ⟨S1x256x8x64x576, .f32⟩
  | .hbm, ⟨88, _⟩ => ⟨S1x1x8x64x576, .f32⟩
  | .hbm, ⟨89, _⟩ => ⟨S1x256x8x64x576, .f32⟩
  | .hbm, ⟨90, _⟩ => ⟨S1x256x8x64x576, .f32⟩
  | .hbm, ⟨91, _⟩ => ⟨S1x256x1x1x576, .i1⟩
  | .hbm, ⟨92, _⟩ => ⟨S_, .f32⟩
  | .hbm, ⟨93, _⟩ => ⟨S_, .f32⟩
  | .hbm, ⟨94, _⟩ => ⟨S1x256x8x64x576, .i1⟩
  | .hbm, ⟨95, _⟩ => ⟨S1x256x8x64x576, .f32⟩
  | .hbm, ⟨96, _⟩ => ⟨S1x256x8x64x576, .f32⟩
  | .hbm, ⟨97, _⟩ => ⟨S_, .f32⟩
  | .hbm, ⟨98, _⟩ => ⟨S1x256x8x64, .f32⟩
  | .hbm, ⟨99, _⟩ => ⟨S_, .f32⟩
  | .hbm, ⟨100, _⟩ => ⟨S1x256x8x64, .f32⟩
  | .hbm, ⟨101, _⟩ => ⟨S1x256x8x64, .f32⟩
  | .hbm, ⟨102, _⟩ => ⟨S1x256x8x64x1, .f32⟩
  | .hbm, ⟨103, _⟩ => ⟨S1x256x8x64x576, .f32⟩
  | .hbm, ⟨104, _⟩ => ⟨S1x256x8x64x576, .f32⟩
  | .hbm, ⟨105, _⟩ => ⟨S1x256x8x64x576, .f32⟩
  | .hbm, ⟨106, _⟩ => ⟨S_, .f32⟩
  | .hbm, ⟨107, _⟩ => ⟨S1x256x8x64, .f32⟩
  | .hbm, ⟨108, _⟩ => ⟨S1x256x8x64x1, .f32⟩
  | .hbm, ⟨109, _⟩ => ⟨S1x256x8x64x576, .f32⟩
  | .hbm, ⟨110, _⟩ => ⟨S1x256x8x64x576, .f32⟩
  | .hbm, ⟨111, _⟩ => ⟨S1x256x8x64x64, .f32⟩
  | .hbm, ⟨112, _⟩ => ⟨S1x256x64x8x64, .f32⟩
  | .hbm, ⟨113, _⟩ => ⟨S16384x512, .f32⟩
  | .hbm, ⟨114, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_c : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_c_0 : Ref sig .tc := ⟨.hbm, 47, rfl⟩
abbrev main_c_1 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v41 : Ref sig .tc := ⟨.hbm, 54, rfl⟩
abbrev main_c_2 : Ref sig .tc := ⟨.hbm, 55, rfl⟩
abbrev main_v42 : Ref sig .tc := ⟨.hbm, 56, rfl⟩
abbrev main_v43 : Ref sig .tc := ⟨.hbm, 57, rfl⟩
abbrev main_c_3 : Ref sig .tc := ⟨.hbm, 58, rfl⟩
abbrev main_v44 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_5 : Ref sig .tc := ⟨.hbm, 69, rfl⟩
abbrev main_v53 : Ref sig .tc := ⟨.hbm, 70, rfl⟩
abbrev main_v54 : Ref sig .tc := ⟨.hbm, 71, rfl⟩
abbrev main_c_6 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_9 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_cst_11 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 11
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1024, .f32⟩
  | .hbm, ⟨6, _⟩ => ⟨S16384x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1024, .f32⟩
  | .hbm, ⟨6, _⟩ => ⟨S16384x1024, .bf16⟩
  | .hbm, ⟨7, _⟩ => ⟨S1024x1024, .bf16⟩
  | .hbm, ⟨8, _⟩ => ⟨S1024x4096, .f32⟩
  | .hbm, ⟨9, _⟩ => ⟨S1024x4096, .f32⟩
  | .hbm, ⟨10, _⟩ => ⟨S4096x1024, .f32⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x1024, .f32⟩
  | .hbm, ⟨60, _⟩ => ⟨S16384x1024, .f32⟩
  | .hbm, ⟨61, _⟩ => ⟨S1x1024, .f32⟩
  | .hbm, ⟨62, _⟩ => ⟨S16384x1024, .f32⟩
  | .hbm, ⟨63, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== First.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FirstRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1024x4096, .f32⟩
  | .hbm, ⟨6, _⟩ => ⟨S1024x4096, .f32⟩
  | .hbm, ⟨7, _⟩ => ⟨S4096x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S_, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Last.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S16384x1024, .bf16⟩
  | .hbm, ⟨6, _⟩ => ⟨S1024x1024, .bf16⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== LastRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S16384x1024, .bf16⟩
  | .hbm, ⟨6, _⟩ => ⟨S1024x1024, .bf16⟩
  | .hbm, ⟨7, _⟩ => ⟨S1024x4096, .f32⟩
  | .hbm, ⟨8, _⟩ => ⟨S1024x4096, .f32⟩
  | .hbm, ⟨9, _⟩ => ⟨S4096x1024, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Cross.lean ====
abbrev S16384x1024 : Shape := ⟨2, ![16384, 1024]⟩
abbrev S1024 : Shape := ⟨1, ![1024]⟩
abbrev S1024x1024 : Shape := ⟨2, ![1024, 1024]⟩
abbrev S16384x512 : Shape := ⟨2, ![16384, 512]⟩
abbrev S256x1024 : Shape := ⟨2, ![256, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .bf16⟩
  | .hbm, ⟨3, _⟩ => ⟨S16384x512, .bf16⟩
  | .hbm, ⟨4, _⟩ => ⟨S16384x512, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S512x1024, .bf16⟩
  | .hbm, ⟨9, _⟩ => ⟨S512x1024, .bf16⟩
  | .hbm, ⟨10, _⟩ => ⟨S1x1024, .f32⟩
  | .hbm, ⟨11, _⟩ => ⟨S16384x1024, .f32⟩
  | .hbm, ⟨12, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S256x1024, .bf16⟩
  | .local _ .vmem, ⟨11, _⟩ => ⟨S256x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== CrossRefIdeal.lean ====
abbrev S16384x1024 : Shape := ⟨2, ![16384, 1024]⟩
abbrev S1024 : Shape := ⟨1, ![1024]⟩
abbrev S1024x1024 : Shape := ⟨2, ![1024, 1024]⟩
abbrev S16384x512 : Shape := ⟨2, ![16384, 512]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 59
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .bf16⟩
  | .hbm, ⟨3, _⟩ => ⟨S16384x512, .bf16⟩
  | .hbm, ⟨4, _⟩ => ⟨S16384x512, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S1024x1024, .f32⟩
  | .hbm, ⟨9, _⟩ => ⟨S16384x512, .f32⟩
  | .hbm, ⟨10, _⟩ => ⟨S16384x512, .f32⟩
  | .hbm, ⟨11, _⟩ => ⟨S1024x1024, .f32⟩
  | .hbm, ⟨12, _⟩ => ⟨S256x1024, .f32⟩
  | .hbm, ⟨13, _⟩ => ⟨S256x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x4x256, .f32⟩
  | .hbm, ⟨35, _⟩ => ⟨S256x4x256, .f32⟩
  | .hbm, ⟨36, _⟩ => ⟨S4x16384x256, .f32⟩
  | .hbm, ⟨37, _⟩ => ⟨S_, .f32⟩
  | .hbm, ⟨38, _⟩ => ⟨S4x16384x256, .f32⟩
  | .hbm, ⟨39, _⟩ => ⟨S4x16384x256, .f32⟩
  | .hbm, ⟨40, _⟩ => ⟨S_, .f32⟩
  | .hbm, ⟨41, _⟩ => ⟨S4x16384, .f32⟩
  | .hbm, ⟨42, _⟩ => ⟨S_, .f32⟩
  | .hbm, ⟨43, _⟩ => ⟨S4x16384, .f32⟩
  | .hbm, ⟨44, _⟩ => ⟨S4x16384, .f32⟩
  | .hbm, ⟨45, _⟩ => ⟨S4x16384x1, .f32⟩
  | .hbm, ⟨46, _⟩ => ⟨S4x16384x256, .f32⟩
  | .hbm, ⟨47, _⟩ => ⟨S4x16384x256, .f32⟩
  | .hbm, ⟨48, _⟩ => ⟨S4x16384x256, .f32⟩
  | .hbm, ⟨49, _⟩ => ⟨S_, .f32⟩
  | .hbm, ⟨50, _⟩ => ⟨S4x16384, .f32⟩
  | .hbm, ⟨51, _⟩ => ⟨S4x16384x1, .f32⟩
  | .hbm, ⟨52, _⟩ => ⟨S4x16384x256, .f32⟩
  | .hbm, ⟨53, _⟩ => ⟨S4x16384x256, .f32⟩
  | .hbm, ⟨54, _⟩ => ⟨S256x4x256, .f32⟩
  | .hbm, ⟨55, _⟩ => ⟨S4x256x16384, .f32⟩
  | .hbm, ⟨56, _⟩ => ⟨S16384x4x256, .f32⟩
  | .hbm, ⟨57, _⟩ => ⟨S16384x1024, .f32⟩
  | .hbm, ⟨58, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Memory.lean ====
abbrev S1x256x1024 : Shape := ⟨3, ![1, 256, 1024]⟩
abbrev S1024 : Shape := ⟨1, ![1024]⟩
abbrev S1024x1024 : Shape := ⟨2, ![1024, 1024]⟩
abbrev S1024x2048 : Shape := ⟨2, ![1024, 2048]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 12
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1024x2048, .f32⟩
  | .hbm, ⟨5, _⟩ => ⟨S1024x2048, .bf16⟩
  | .hbm, ⟨6, _⟩ => ⟨S256x1024, .f32⟩
  | .hbm, ⟨7, _⟩ => ⟨S1x1024, .f32⟩
  | .hbm, ⟨8, _⟩ => ⟨S256x1024, .f32⟩
  | .hbm, ⟨9, _⟩ => ⟨S256x1024, .bf16⟩
  | .hbm, ⟨10, _⟩ => ⟨S256x1024, .f32⟩
  | .hbm, ⟨11, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x1024, .f32⟩
  | .local _ .vmem, ⟨4, _⟩ => ⟨S256x1024, .bf16⟩
  | .local _ .vmem, ⟨5, _⟩ => ⟨S256x1024, .f32⟩
  | .local _ .vmem, ⟨6, _⟩ => ⟨S256x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MemoryRefIdeal.lean ====
abbrev S1x256x1024 : Shape := ⟨3, ![1, 256, 1024]⟩
abbrev S1024 : Shape := ⟨1, ![1024]⟩
abbrev S1024x1024 : Shape := ⟨2, ![1024, 1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S256x1024 : Shape := ⟨2, ![256, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x256x1024, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x1024, .f32⟩
  | .hbm, ⟨16, _⟩ => ⟨S1x256x1024, .f32⟩
  | .hbm, ⟨17, _⟩ => ⟨S1x1x1024, .f32⟩
  | .hbm, ⟨18, _⟩ => ⟨S1x256x1024, .f32⟩
  | .hbm, ⟨19, _⟩ => ⟨S1x256x1024, .f32⟩
  | .hbm, ⟨20, _⟩ => ⟨S1x256x1024, .f32⟩
  | .hbm, ⟨21, _⟩ => ⟨S256x1024, .f32⟩
  | .hbm, ⟨22, _⟩ => ⟨S1x256x1024, .f32⟩
  | .hbm, ⟨23, _⟩ => ⟨S256x1024, .f32⟩
  | .hbm, ⟨24, _⟩ => ⟨S256x1024, .bf16⟩
  | .hbm, ⟨25, _⟩ => ⟨S256x1024, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== ProjA.lean ====
abbrev S16384x1024 : Shape := ⟨2, ![16384, 1024]⟩
abbrev S1024 : Shape := ⟨1, ![1024]⟩
abbrev S1024x3080 : Shape := ⟨2, ![1024, 3080]⟩
abbrev S_ : Shape := ⟨0, ![]⟩
abbrev S1024x120 : Shape := ⟨2, ![1024, 120]⟩
abbrev S1024x3200 : Shape := ⟨2, ![1024, 3200]⟩
abbrev S1024x1536 : Shape := ⟨2, ![1024, 1536]⟩
abbrev S1x1024 : Shape := ⟨2, ![1, 1024]⟩
abbrev S16384x512 : Shape := ⟨2, ![16384, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 14
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S_, .f32⟩
  | .hbm, ⟨4, _⟩ => ⟨S1024x120, .f32⟩
  | .hbm, ⟨5, _⟩ => ⟨S1024x3200, .f32⟩
  | .hbm, ⟨6, _⟩ => ⟨S1024x3200, .bf16⟩
  | .hbm, ⟨7, _⟩ => ⟨S1024x1536, .bf16⟩
  | .hbm, ⟨8, _⟩ => ⟨S1x1024, .f32⟩
  | .hbm, ⟨9, _⟩ => ⟨S16384x512, .bf16⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev main_v5_3 : Ref sig .tc := ⟨.hbm, 12, rfl⟩
abbrev main_v5_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjAIdeal.lean ====
variable {F : FTy → Type} [FloatOps F] [Named F]
def κ : String → Option EReal := fun
  | "log2e_8" => some (((Real.log 256)⁻¹ : ℝ) : EReal)
  | _ => none
-- ==== ProjARefIdeal.lean ====
abbrev S16384x1024 : Shape := ⟨2, ![16384, 1024]⟩
abbrev S1024 : Shape := ⟨1, ![1024]⟩
abbrev S1024x3080 : Shape := ⟨2, ![1024, 3080]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3080 : Shape := ⟨2, ![16384, 3080]⟩
abbrev S16384x512 : Shape := ⟨2, ![16384, 512]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x3080, .f32⟩
  | .hbm, ⟨20, _⟩ => ⟨S16384x512, .f32⟩
  | .hbm, ⟨21, _⟩ => ⟨S_, .f32⟩
  | .hbm, ⟨22, _⟩ => ⟨S16384x512, .f32⟩
  | .hbm, ⟨23, _⟩ => ⟨S16384x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .bf16⟩
  | .hbm, ⟨32, _⟩ => ⟨S16384x512, .bf16⟩
  | .hbm, ⟨33, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== ProjB.lean ====
abbrev S16384x1024 : Shape := ⟨2, ![16384, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S1024x120 : Shape := ⟨2, ![1024, 120]⟩
abbrev S1024x3200 : Shape := ⟨2, ![1024, 3200]⟩
abbrev S1x128 : Shape := ⟨2, ![1, 128]⟩
abbrev S1 : Shape := ⟨1, ![1]⟩
abbrev S2 : Shape := ⟨1, ![2]⟩
abbrev S1024x512 : Shape := ⟨2, ![1024, 512]⟩
abbrev S1024x8x64 : Shape := ⟨3, ![1024, 8, 64]⟩
abbrev S1024x8x128 : Shape := ⟨3, ![1024, 8, 128]⟩
abbrev S1024x1024 : Shape := ⟨2, ![1024, 1024]⟩
abbrev S1024x128 : Shape := ⟨2, ![1024, 128]⟩
abbrev S1x1024 : Shape := ⟨2, ![1, 1024]⟩
abbrev S16384x512 : Shape := ⟨2, ![16384, 512]⟩
abbrev S16384x128 : Shape := ⟨2, ![16384, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S_, .f32⟩
  | .hbm, ⟨5, _⟩ => ⟨S1024x120, .f32⟩
  | .hbm, ⟨6, _⟩ => ⟨S1024x3200, .f32⟩
  | .hbm, ⟨7, _⟩ => ⟨S1024x3200, .bf16⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S1024x512, .f32⟩
  | .hbm, ⟨17, _⟩ => ⟨S1024x512, .f32⟩
  | .hbm, ⟨18, _⟩ => ⟨S1024x8x64, .f32⟩
  | .hbm, ⟨19, _⟩ => ⟨S_, .i32⟩
  | .hbm, ⟨20, _⟩ => ⟨S_, .f32⟩
  | .hbm, ⟨21, _⟩ => ⟨S1024x8x128, .f32⟩
  | .hbm, ⟨22, _⟩ => ⟨S1024x1024, .f32⟩
  | .hbm, ⟨23, _⟩ => ⟨S1024x8x64, .f32⟩
  | .hbm, ⟨24, _⟩ => ⟨S_, .i32⟩
  | .hbm, ⟨25, _⟩ => ⟨S_, .f32⟩
  | .hbm, ⟨26, _⟩ => ⟨S1024x8x128, .f32⟩
  | .hbm, ⟨27, _⟩ => ⟨S1024x1024, .f32⟩
  | .hbm, ⟨28, _⟩ => ⟨S1024x512, .f32⟩
  | .hbm, ⟨29, _⟩ => ⟨S1024x128, .bf16⟩
  | .hbm, ⟨30, _⟩ => ⟨S1024x128, .f32⟩
  | .hbm, ⟨31, _⟩ => ⟨S1024x3200, .f32⟩
  | .hbm, ⟨32, _⟩ => ⟨S1024x3200, .bf16⟩
  | .hbm, ⟨33, _⟩ => ⟨S1x1024, .f32⟩
  | .hbm, ⟨34, _⟩ => ⟨S16384x1024, .bf16⟩
  | .hbm, ⟨35, _⟩ => ⟨S16384x512, .f32⟩
  | .hbm, ⟨36, _⟩ => ⟨S16384x1024, .bf16⟩
  | .hbm, ⟨37, _⟩ => ⟨S16384x512, .f32⟩
  | .hbm, ⟨38, _⟩ => ⟨S16384x512, .bf16⟩
  | .hbm, ⟨39, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | .local _ .vmem, ⟨10, _⟩ => ⟨S512x1024, .bf16⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x128, .f32⟩
  | .local _ .vmem, ⟨16, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v22_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjBIdeal.lean ====
variable {F : FTy → Type} [FloatOps F] [Named F]
def κ : String → Option EReal := fun
  | "log2e_8" => some (((Real.log 256)⁻¹ : ℝ) : EReal)
  | _ => none
-- ==== ProjBRefIdeal.lean ====
abbrev S16384x1024 : Shape := ⟨2, ![16384, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3080 : Shape := ⟨2, ![16384, 3080]⟩
abbrev S16384x512 : Shape := ⟨2, ![16384, 512]⟩
abbrev S16384x8 : Shape := ⟨2, ![16384, 8]⟩
abbrev S1x8 : Shape := ⟨2, ![1, 8]⟩
abbrev S16384x128 : Shape := ⟨2, ![16384, 128]⟩
abbrev S16384x8x64 : Shape := ⟨3, ![16384, 8, 64]⟩
abbrev S16384x8x128 : Shape := ⟨3, ![16384, 8, 128]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3080, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x8, .f32⟩
  | .hbm, ⟨33, _⟩ => ⟨S1x8, .f32⟩
  | .hbm, ⟨34, _⟩ => ⟨S16384x8, .f32⟩
  | .hbm, ⟨35, _⟩ => ⟨S16384x8, .f32⟩
  | .hbm, ⟨36, _⟩ => ⟨S_, .i32⟩
  | .hbm, ⟨37, _⟩ => ⟨S_, .f32⟩
  | .hbm, ⟨38, _⟩ => ⟨S16384x128, .f32⟩
  | .hbm, ⟨39, _⟩ => ⟨S16384x128, .f32⟩
  | .hbm, ⟨40, _⟩ => ⟨S_, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S16384x128, .i1⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S16384x128, .f32⟩
  | .hbm, ⟨55, _⟩ => ⟨S16384x8x64, .f32⟩
  | .hbm, ⟨56, _⟩ => ⟨S_, .i32⟩
  | .hbm, ⟨57, _⟩ => ⟨S_, .f32⟩
  | .hbm, ⟨58, _⟩ => ⟨S16384x8x128, .f32⟩
  | .hbm, ⟨59, _⟩ => ⟨S16384x1024, .f32⟩
  | .hbm, ⟨60, _⟩ => ⟨S16384x1024, .bf16⟩
  | .hbm, ⟨61, _⟩ => ⟨S16384x8x64, .f32⟩
  | .hbm, ⟨62, _⟩ => ⟨S_, .i32⟩
  | .hbm, ⟨63, _⟩ => ⟨S_, .f32⟩
  | .hbm, ⟨64, _⟩ => ⟨S16384x8x128, .f32⟩
  | .hbm, ⟨65, _⟩ => ⟨S16384x1024, .f32⟩
  | .hbm, ⟨66, _⟩ => ⟨S16384x1024, .bf16⟩
  | .hbm, ⟨67, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v28 : Ref sig .tc := ⟨.hbm, 54, rfl⟩
abbrev main_v29 : Ref sig .tc := ⟨.hbm, 55, rfl⟩
abbrev main_c_4 : Ref sig .tc := ⟨.hbm, 56, rfl⟩
abbrev main_call2_v0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_call3_v0 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩

abbrev nD : Nat := 1
abbrev τ : Topo := Topo.v7x

variable {F : FTy → Type} [FloatOps F]
-- ==== ProjS.lean ====
abbrev S512x1024 : Shape := ⟨2, ![512, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S1024x120 : Shape := ⟨2, ![1024, 120]⟩
abbrev S1024x3200 : Shape := ⟨2, ![1024, 3200]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x128 : Shape := ⟨2, ![1024, 128]⟩

abbrev nBuf : Space → Nat
  | .hbm => 28
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S_, .f32⟩
  | .hbm, ⟨5, _⟩ => ⟨S1024x120, .f32⟩
  | .hbm, ⟨6, _⟩ => ⟨S1024x3200, .f32⟩
  | .hbm, ⟨7, _⟩ => ⟨S1024x3200, .bf16⟩
  | .hbm, ⟨8, _⟩ => ⟨S_, .f32⟩
  | .hbm, ⟨9, _⟩ => ⟨S1x128, .f32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S2, .i32⟩
  | .hbm, ⟨15, _⟩ => ⟨S1x128, .f32⟩
  | .hbm, ⟨16, _⟩ => ⟨S1x1024, .f32⟩
  | .hbm, ⟨17, _⟩ => ⟨S512x512, .bf16⟩
  | .hbm, ⟨18, _⟩ => ⟨S512x512, .f32⟩
  | .hbm, ⟨19, _⟩ => ⟨S512x512, .bf16⟩
  | .hbm, ⟨20, _⟩ => ⟨S512x512, .f32⟩
  | .hbm, ⟨21, _⟩ => ⟨S512x512, .bf16⟩
  | .hbm, ⟨22, _⟩ => ⟨S512x512, .bf16⟩
  | .hbm, ⟨23, _⟩ => ⟨S512x512, .f32⟩
  | .hbm, ⟨24, _⟩ => ⟨S512x512, .bf16⟩
  | .hbm, ⟨25, _⟩ => ⟨S512x512, .f32⟩
  | .hbm, ⟨26, _⟩ => ⟨S512x512, .bf16⟩
  | .hbm, ⟨27, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x3200, .bf16⟩
  | .local _ .vmem, ⟨3, _⟩ => ⟨S1x128, .f32⟩
  | .local _ .vmem, ⟨4, _⟩ => ⟨S512x512, .bf16⟩
  | .local _ .vmem, ⟨5, _⟩ => ⟨S512x512, .f32⟩
  | .local _ .vmem, ⟨6, _⟩ => ⟨S512x512, .bf16⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .bf16⟩
  | .local _ .vmem, ⟨12, _⟩ => ⟨S512x512, .f32⟩
  | .local _ .vmem, ⟨13, _⟩ => ⟨S512x512, .bf16⟩
  | .local _ .vmem, ⟨14, _⟩ => ⟨S512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_v9_7 : Ref sig .tc := ⟨.hbm, 24, rfl⟩
abbrev main_v9_8 : Ref sig .tc := ⟨.hbm, 25, rfl⟩
abbrev main_v9_9 : Ref sig .tc := ⟨.hbm, 26, rfl⟩
abbrev main_v9_10 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== ProjSRefIdeal.lean ====
abbrev S512x1024 : Shape := ⟨2, ![512, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3080 : Shape := ⟨2, ![512, 3080]⟩
abbrev S512x512 : Shape := ⟨2, ![512, 512]⟩
abbrev S512x8 : Shape := ⟨2, ![512, 8]⟩
abbrev S1x8 : Shape := ⟨2, ![1, 8]⟩
abbrev S512x128 : Shape := ⟨2, ![512, 128]⟩

abbrev nBuf : Space → Nat
  | .hbm => 62
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x3080, .f32⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x8, .f32⟩
  | .hbm, ⟨34, _⟩ => ⟨S1x8, .f32⟩
  | .hbm, ⟨35, _⟩ => ⟨S512x8, .f32⟩
  | .hbm, ⟨36, _⟩ => ⟨S512x8, .f32⟩
  | .hbm, ⟨37, _⟩ => ⟨S_, .i32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S_, .f32⟩
  | .hbm, ⟨42, _⟩ => ⟨S512x128, .f32⟩
  | .hbm, ⟨43, _⟩ => ⟨S512x128, .f32⟩
  | .hbm, ⟨44, _⟩ => ⟨S512x128, .f32⟩
  | .hbm, ⟨45, _⟩ => ⟨S512x128, .f32⟩
  | .hbm, ⟨46, _⟩ => ⟨S512x128, .i1⟩
  | .hbm, ⟨47, _⟩ => ⟨S512x128, .f32⟩
  | .hbm, ⟨48, _⟩ => ⟨S512x128, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S512x128, .f32⟩
  | .hbm, ⟨53, _⟩ => ⟨S512x128, .f32⟩
  | .hbm, ⟨54, _⟩ => ⟨S512x128, .f32⟩
  | .hbm, ⟨55, _⟩ => ⟨S512x128, .f32⟩
  | .hbm, ⟨56, _⟩ => ⟨S512x512, .bf16⟩
  | .hbm, ⟨57, _⟩ => ⟨S512x512, .bf16⟩
  | .hbm, ⟨58, _⟩ => ⟨S512x512, .bf16⟩
  | .hbm, ⟨59, _⟩ => ⟨S512x512, .bf16⟩
  | .hbm, ⟨60, _⟩ => ⟨S512x512, .bf16⟩
  | .hbm, ⟨61, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]
-- ==== Proof.Band.Piece.lean ====
/-
  One head pair of the band attention body. The body treats its eight heads two at a time: the 128 lanes of a pair
  are loaded together, the queries of its two heads are separated by zeroing the other head's lanes, and the products
  of both heads run as one. `pairOut` is what the body stores for one pair, from that pair's loads; `out_eq` says that
  the body's output block is `pairOut` at each of the four pairs' loads.
-/
module

public import proofs.«01_k».proof.Proof.Gen.BandIdeal.Frame

@[expose] public section

noncomputable section

namespace Cert.BandIdeal.Attn

open Cert.BandIdeal Cert.BandIdeal.Gen Idealize.ShloMosaic

variable {F : FTy → Type} [FloatOps F] [Named F]

/-- The scores of one key block: both heads' queries against the block's keys, plus the bias in base two. -/
def score (q2 : FVec F S512x128 .bf16) (b0 b1 : Vec F S1x1x256x256 .f32) (k : Vec F S256x128 .bf16) : FVec F S512x256 .f32 :=
  k0_pay6 q2 b0 b1 k

/-- The rows' maxima over the three blocks' scores. -/
def rowMax (s0 s1 s2 : FVec F S512x256 .f32) : FVec F S512x1 .f32 :=
  shapeCast S512x1 (multiReduction .maximumf [1] S512 (maximumf (maximumf s0 s1) s2) 0xFF800000#32 reduces_S512x256_S512 (.inl rfl) rfl) shapeCasts_S512_S512x1

/-- The weights of one block: two to the power of its scores less the rows' maxima. -/
def weight (mx : FVec F S512x1 .f32) (s : FVec F S512x256 .f32) : FVec F S512x256 .f32 :=
  exp2 (subf s (broadcastTo S512x256 mx broadcasts_S512x1_S512x256))

/-- The rows' sums of weights over the three blocks. -/
def rowSum (p0 p1 p2 : FVec F S512x256 .f32) : FVec F S512x1 .f32 :=
  shapeCast S512x1 (multiReduction .add [1] S512 (addf (addf p0 p1) p2) 0x00000000#32 reduces_S512x256_S512 (.inl rfl) rfl) shapeCasts_S512_S512x1

/-- The weighted values over the rows' sums, from the three blocks' weights and values. -/
def mix (p0 p1 p2 : FVec F S512x256 .f32) (v0 v1 v2 : Vec F S256x128 .bf16) : FVec F S256x128 .bf16 :=
  k0_pay24 k0_pay2 p2 (rowSum p0 p1 p2) (k0_pay13 k0_pay2 v0) (k0_pay14 k0_pay2 v0)
    (extractStridedSlice S256x256 ![0, 0] (truncf .bf16 p0 bitsLt_bf16_f32) slices_S512x256_o0_0_S256x256)
    (extractStridedSlice S256x256 ![256, 0] (truncf .bf16 p0 bitsLt_bf16_f32) slices_S512x256_o256_0_S256x256)
    (k0_pay13 k0_pay2 v1) (k0_pay14 k0_pay2 v1)
    (extractStridedSlice S256x256 ![0, 0] (truncf .bf16 p1 bitsLt_bf16_f32) slices_S512x256_o0_0_S256x256)
    (extractStridedSlice S256x256 ![256, 0] (truncf .bf16 p1 bitsLt_bf16_f32) slices_S512x256_o256_0_S256x256) v2

/-- The attention of one head pair from its three blocks' scores and values. -/
def attend (s0 s1 s2 : FVec F S512x256 .f32) (v0 v1 v2 : Vec F S256x128 .bf16) : FVec F S256x128 .bf16 :=
  mix (weight (rowMax s0 s1 s2) s0) (weight (rowMax s0 s1 s2) s1) (weight (rowMax s0 s1 s2) s2) v0 v1 v2

/-- What the body stores for one head pair: queries `q`, keys `k0 k1 k2` and values `v0 v1 v2` of the three blocks, and
    for each block the bias of the pair's first and second head. -/
def pairOut (q k0 k1 k2 v0 v1 v2 : Vec F S256x128 .bf16) (b00 b01 b10 b11 b20 b21 : Vec F S1x1x256x256 .f32) : FVec F S256x128 .bf16 :=
  attend (score (k0_pay3 q) b00 b01 k0) (score (k0_pay3 q) b10 b11 k1) (score (k0_pay3 q) b20 b21 k2) v0 v1 v2

/-- The body's output block, pair by pair. -/
theorem out_eq (x0 x1 x2 x3 x4 x5 x6 : Vec F S256x512 .bf16) (x7 : Vec F S1x8x256x768 .f32) :
    out0_8 x0 x1 x2 x3 x4 x5 x6 x7 = View.canon [
      ⟨r0_21, pairOut (View.ld x0 r0_21) (View.ld x1 r0_21) (View.ld x2 r0_21) (View.ld x3 r0_21) (View.ld x4 r0_21) (View.ld x5 r0_21) (View.ld x6 r0_21)
        (View.ld x7 r0_22) (View.ld x7 r0_23) (View.ld x7 r0_24) (View.ld x7 r0_25) (View.ld x7 r0_26) (View.ld x7 r0_27)⟩,
      ⟨r0_14, pairOut (View.ld x0 r0_14) (View.ld x1 r0_14) (View.ld x2 r0_14) (View.ld x3 r0_14) (View.ld x4 r0_14) (View.ld x5 r0_14) (View.ld x6 r0_14)
        (View.ld x7 r0_15) (View.ld x7 r0_16) (View.ld x7 r0_17) (View.ld x7 r0_18) (View.ld x7 r0_19) (View.ld x7 r0_20)⟩,
      ⟨r0_7, pairOut (View.ld x0 r0_7) (View.ld x1 r0_7) (View.ld x2 r0_7) (View.ld x3 r0_7) (View.ld x4 r0_7) (View.ld x5 r0_7) (View.ld x6 r0_7)
        (View.ld x7 r0_8) (View.ld x7 r0_9) (View.ld x7 r0_10) (View.ld x7 r0_11) (View.ld x7 r0_12) (View.ld x7 r0_13)⟩,
      ⟨r0_0, pairOut (View.ld x0 r0_0) (View.ld x1 r0_0) (View.ld x2 r0_0) (View.ld x3 r0_0) (View.ld x4 r0_0) (View.ld x5 r0_0) (View.ld x6 r0_0)
        (View.ld x7 r0_1) (View.ld x7 r0_2) (View.ld x7 r0_3) (View.ld x7 r0_4) (View.ld x7 r0_5) (View.ld x7 r0_6)⟩] := rfl

end Cert.BandIdeal.Attn

end
-- ==== Proof.Band.PairValue.lean ====
/-
  One head pair's scores, weights and output read at an element: sums over the head's 64 lanes and over the keys of the
  three blocks.
-/
module

public import proofs.«01_k».proof.Proof.Band.Piece
public import Idealize.ShloMosaic.Lib.Pointwise

@[expose] public section

set_option maxRecDepth 16384

noncomputable section

namespace Cert.BandIdeal.Attn

open Cert.BandIdeal Cert.BandIdeal.Gen Idealize.ShloMosaic

/-- A sum over `a * b` indices, taken as `a` runs of `b`. -/
theorem sum_runs {M : Type*} [AddCommMonoid M] (a b : ℕ) (f : Fin (a * b) → M) :
    ∑ x, f x = ∑ i : Fin a, ∑ j : Fin b, f ⟨i.val * b + j.val, by
      have := i.isLt; have := j.isLt; nlinarith⟩ := by
  rw [← Fintype.sum_prod_type', ← finProdFinEquiv.sum_comp]
  exact Finset.sum_congr rfl fun p _ => congrArg f (Fin.ext (by simp [finProdFinEquiv, Nat.mul_comm, Nat.add_comm]))

/-- Row of query `r` of the pair's head `h` in the stacked queries. -/
def row (h : Fin 2) (r : Fin 256) : Fin 512 := ⟨h.val * 256 + r.val, by omega⟩

/-- Lane of feature `d` of the pair's head `h`. -/
def lane (h : Fin 2) (d : Fin 64) : Fin 128 := ⟨h.val * 64 + d.val, by omega⟩

/-- The lane mask is set on the lanes of the pair's first head. -/
theorem mask_apply (r : Fin 256) (l : Fin 128) : k0_pay2 (ix2 r l) = if l.val < 64 then 1#1 else 0#1 := by
  pointwise [k0_pay2]
  revert l; decide +kernel

theorem mask_lane0 (r : Fin 256) (d : Fin 64) : k0_pay2 (ix2 r (lane 0 d)) = 1#1 := by
  rw [mask_apply, if_pos]; simp [lane]

theorem mask_lane1 (r : Fin 256) (d : Fin 64) : k0_pay2 (ix2 r (lane 1 d)) = 0#1 := by
  rw [mask_apply, if_neg]; simp [lane]

/-- The name of the kernel's folded constant is the reciprocal of the logarithm of two. -/
theorem log2e_named : (Named.named κ "log2e" 0x3FB8AA3B#32 : Ideal .f32) = (((Real.log 2)⁻¹ : ℝ) : EReal) := rfl

/-- A sum over the pair's lanes is the sum over each head's. -/
theorem sum_lanes {M : Type*} [AddCommMonoid M] (f : Fin 128 → M) :
    ∑ x, f x = (∑ d, f (lane 0 d)) + ∑ d, f (lane 1 d) := by
  refine (sum_runs 2 64 f).trans ?_
  rw [Fin.sum_univ_two]; rfl

/-- The score of query `r` and key `j` of the pair's head `h`: the product over that head's lanes, plus the head's bias
    in base two. -/
theorem score_apply (q k : Vec Ideal S256x128 .bf16) (b0 b1 : Vec Ideal S1x1x256x256 .f32) (h : Fin 2) (r j : Fin 256) :
    score (k0_pay3 q) b0 b1 k (ix2 (row h r) j)
      = (∑ d : Fin 64, q (ix2 r (lane h d)) * k (ix2 j (lane h d))) + (![b0, b1] h) (ix4 0 0 r j) * (((Real.log 2)⁻¹ : ℝ) : EReal) := by
  pointwise [score, k0_pay6, k0_pay3]
  rw [log2e_named, sum_lanes]
  fin_cases h
  · have h0 : ((row 0 r : Fin 512) : ℕ) < 256 := by simp [row]
    simp [h0, mask_lane0, mask_lane1, row, Scalar.select]
  · have h0 : ¬ ((row 1 r : Fin 512) : ℕ) < 256 := by simp [row]
    simp [h0, mask_lane0, mask_lane1, row, Scalar.select]

/-- One of six runs of 256 read at a position of the whole: the run it falls in, at its place there. -/
def glue6 (f0 f1 f2 f3 f4 f5 : Fin 256 → EReal) (x : Fin 1536) : EReal :=
  if h : x.val < 256 then f0 ⟨x.val, h⟩ else
  if h : x.val - 256 < 256 then f1 ⟨x.val - 256, h⟩ else
  if h : x.val - 256 - 256 < 256 then f2 ⟨x.val - 256 - 256, h⟩ else
  if h : x.val - 256 - 256 - 256 < 256 then f3 ⟨x.val - 256 - 256 - 256, h⟩ else
  if h : x.val - 256 - 256 - 256 - 256 < 256 then f4 ⟨x.val - 256 - 256 - 256 - 256, h⟩ else
  f5 ⟨x.val - 256 - 256 - 256 - 256 - 256, by omega⟩

theorem glue6_run (f : Fin 6 → Fin 256 → EReal) (i : Fin 6) (j : Fin 256) :
    glue6 (f 0) (f 1) (f 2) (f 3) (f 4) (f 5) ⟨i.val * 256 + j.val, by omega⟩ = f i j := by
  unfold glue6
  have hj := j.isLt
  fin_cases i <;> simp only [] <;> split_ifs <;> first | omega | (congr 1; apply Fin.ext; simp <;> omega)

/-- The sum of the products of two glued families is the sum of the six runs' sums of products. -/
theorem sum_glue6_mul (f0 f1 f2 f3 f4 f5 g0 g1 g2 g3 g4 g5 : Fin 256 → EReal) :
    ∑ x, glue6 f0 f1 f2 f3 f4 f5 x * glue6 g0 g1 g2 g3 g4 g5 x
      = (∑ j, f0 j * g0 j) + (∑ j, f1 j * g1 j) + (∑ j, f2 j * g2 j) + (∑ j, f3 j * g3 j) + (∑ j, f4 j * g4 j) + ∑ j, f5 j * g5 j := by
  refine (sum_runs 6 256 _).trans ?_
  refine (Finset.sum_congr rfl fun i _ => Finset.sum_congr rfl fun j _ => ?_ :
    _ = ∑ i, ∑ j, (![f0, f1, f2, f3, f4, f5] : Fin 6 → Fin 256 → EReal) i j * (![g0, g1, g2, g3, g4, g5] : Fin 6 → Fin 256 → EReal) i j).trans ?_
  · exact congrArg₂ (· * ·) (glue6_run ![f0, f1, f2, f3, f4, f5] i j) (glue6_run ![g0, g1, g2, g3, g4, g5] i j)
  · rw [Fin.sum_univ_six]; rfl

theorem row_zero (r : Fin 256) : row 0 r = ⟨r.val, by omega⟩ := Fin.ext (by simp [row])
theorem row_one (r : Fin 256) : row 1 r = ⟨256 + r.val, by omega⟩ := rfl

/-- The attention of query `r`, feature `d` of the pair's head `h`: its weights' combination of the values over the sum of its
    weights. -/
theorem mix_apply (p0 p1 p2 : FVec Ideal S512x256 .f32) (v0 v1 v2 : Vec Ideal S256x128 .bf16) (h : Fin 2) (r : Fin 256) (d : Fin 64) :
    mix p0 p1 p2 v0 v1 v2 (ix2 r (lane h d)) = Ideal.div
      ((∑ j, p0 (ix2 (row h r) j) * v0 (ix2 j (lane h d))) + (∑ j, p1 (ix2 (row h r) j) * v1 (ix2 j (lane h d)))
        + ∑ j, p2 (ix2 (row h r) j) * v2 (ix2 j (lane h d)))
      (∑ j, (p0 (ix2 (row h r) j) + p1 (ix2 (row h r) j) + p2 (ix2 (row h r) j))) := by
  pointwise [mix, rowSum, k0_pay24, k0_pay13, k0_pay14, k0_pay12]
  have key := sum_glue6_mul (fun j => p0 (ix2 ⟨r.val, by omega⟩ j)) (fun j => p0 (ix2 ⟨256 + r.val, by omega⟩ j))
    (fun j => p1 (ix2 ⟨r.val, by omega⟩ j)) (fun j => p1 (ix2 ⟨256 + r.val, by omega⟩ j))
    (fun j => p2 (ix2 ⟨r.val, by omega⟩ j)) (fun j => p2 (ix2 ⟨256 + r.val, by omega⟩ j))
    (fun j => Scalar.select (k0_pay2 (ix2 j (lane h d))) (v0 (ix2 j (lane h d))) 0) (fun j => Scalar.select (k0_pay2 (ix2 j (lane h d))) 0 (v0 (ix2 j (lane h d))))
    (fun j => Scalar.select (k0_pay2 (ix2 j (lane h d))) (v1 (ix2 j (lane h d))) 0) (fun j => Scalar.select (k0_pay2 (ix2 j (lane h d))) 0 (v1 (ix2 j (lane h d))))
    (fun j => Scalar.select (k0_pay2 (ix2 j (lane h d))) (v2 (ix2 j (lane h d))) 0) (fun j => Scalar.select (k0_pay2 (ix2 j (lane h d))) 0 (v2 (ix2 j (lane h d))))
  refine (congrArg (fun x => Ideal.div x _) key).trans ?_
  clear key
  fin_cases h
  · simp only [Fin.zero_eta, mask_lane0, ValueIdx.select_one, mul_zero, Finset.sum_const_zero, add_zero, row_zero]
  · simp only [Fin.mk_one, mask_lane1, ValueIdx.select_zero, mul_zero, Finset.sum_const_zero, add_zero, zero_add, row_one]

/-- The largest score of a row, over the three blocks. -/
theorem rowMax_apply (s0 s1 s2 : FVec Ideal S512x256 .f32) (i : Fin 512) :
    rowMax s0 s1 s2 (ix2 i 0) = Finset.univ.fold max ⊥ fun j => max (max (s0 (ix2 i j)) (s1 (ix2 i j))) (s2 (ix2 i j)) := by
  pointwise [rowMax]
  rw [show Ideal.ofBits FTy.f32 0xFF800000#32 = ⊥ by simp [Ideal.ofBits, Ideal.ieee]]

theorem weight_apply (mx : FVec Ideal S512x1 .f32) (s : FVec Ideal S512x256 .f32) (i : Fin 512) (j : Fin 256) :
    weight mx s (ix2 i j) = Ideal.exp2 (s (ix2 i j) - mx (ix2 i 0)) := by
  pointwise [weight]
  rfl

end Cert.BandIdeal.Attn

end
-- ==== Proof.Band.Softmax.lean ====
/-
  The equation between the two ways of normalising. The kernel raises two to the scores in base two over 768 keys and
  divides the combined values once by the sum of the weights; the reference takes the exponential over the 576 keys of
  the band and divides every weight. The keys outside the band have the score −∞ and so weigh nothing.
-/
module

public import Idealize.ShloMosaic.Lib.Pointwise

@[expose] public section

noncomputable section

namespace Cert.Softmax

open Idealize.ShloMosaic

/-- The largest of a finite family, −∞ for none. -/
def top {n : ℕ} (f : Fin n → EReal) : EReal := Finset.univ.fold max ⊥ f

/-- A bound that is reached is the largest value. -/
theorem top_eq {n : ℕ} {f : Fin n → EReal} {c : EReal} (hle : ∀ x, f x ≤ c) (x : Fin n) (hx : f x = c) : top f = c := by
  refine le_antisymm ?_ ?_
  · exact Finset.fold_max_le _ |>.mpr ⟨bot_le, fun y _ => hle y⟩
  · exact Finset.le_fold_max _ |>.mpr (.inr ⟨x, Finset.mem_univ x, hx.ge⟩)

/-- The largest of each of three runs' values is the largest of all. -/
theorem top_runs3 {n : ℕ} (f : Fin 3 → Fin n → EReal) (g : Fin (3 * n) → EReal)
    (h : ∀ (b : Fin 3) (j : Fin n), g ⟨b.val * n + j.val, by have := b.isLt; have := j.isLt; nlinarith⟩ = f b j) :
    top (fun j => max (max (f 0 j) (f 1 j)) (f 2 j)) = top g := by
  refine le_antisymm ?_ ?_
  · refine Finset.fold_max_le _ |>.mpr ⟨bot_le, fun j _ => ?_⟩
    have hb : ∀ b, f b j ≤ top g := fun b =>
      Finset.le_fold_max _ |>.mpr (.inr ⟨_, Finset.mem_univ _, (h b j).ge⟩)
    exact max_le (max_le (hb 0) (hb 1)) (hb 2)
  · refine Finset.fold_max_le _ |>.mpr ⟨bot_le, fun x _ => ?_⟩
    rcases Nat.eq_zero_or_pos n with rfl | hn
    · exact absurd x.isLt (by omega)
    have hb : x.val / n < 3 := Nat.div_lt_of_lt_mul (by have := x.isLt; omega)
    have hx : g x = f ⟨x.val / n, hb⟩ ⟨x.val % n, Nat.mod_lt _ hn⟩ := by
      rw [← h]; exact congrArg g (Fin.ext (Nat.div_add_mod' _ _).symm)
    rw [hx]
    refine Finset.le_fold_max _ |>.mpr (.inr ⟨⟨x.val % n, Nat.mod_lt _ hn⟩, Finset.mem_univ _, ?_⟩)
    generalize (⟨x.val / n, hb⟩ : Fin 3) = b
    fin_cases b
    · exact (le_max_left _ _).trans (le_max_left _ _)
    · exact (le_max_right _ _).trans (le_max_left _ _)
    · exact le_max_right _ _

/-- A real factor that is not negative goes into a sum. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Softmax over a band, once as the kernel and once as the reference computes it. -/
theorem band_eq (e : Fin 576 → Fin 768) (he : Function.Injective e) (sk vk : Fin 768 → EReal) (sr vr : Fin 576 → EReal)
    (u : Fin 576 → ℝ) (ok : Fin 576 → Prop) [DecidablePred ok]
    (hsr : ∀ y, sr y = if ok y then (u y : EReal) else ⊥)
    (hsk : ∀ y, sk (e y) = if ok y then ((u y * (Real.log 2)⁻¹ : ℝ) : EReal) else ⊥)
    (hoff : ∀ x, (∀ y, e y ≠ x) → sk x = ⊥) (hv : ∀ y, ok y → vk (e y) = vr y) (hne : ∃ y, ok y) :
    Ideal.div (∑ x, Ideal.exp2 (sk x - top sk) * vk x) (∑ x, Ideal.exp2 (sk x - top sk))
      = ∑ y, vr y * Ideal.div (Ideal.exp (sr y - top sr)) (∑ y', Ideal.exp (sr y' - top sr)) := by
  have hlog : 0 < Real.log 2 := Real.log_pos (by norm_num)
  obtain ⟨y0, hy0, hmax⟩ : ∃ y0, ok y0 ∧ ∀ y, ok y → u y ≤ u y0 := by
    obtain ⟨y0, h0, h1⟩ := Finset.exists_max_image (Finset.univ.filter ok) u (by obtain ⟨y, h⟩ := hne; exact ⟨y, by simp [h]⟩)
    exact ⟨y0, by simpa using h0, fun y hy => h1 y (by simp [hy])⟩
  have hmr : top sr = (u y0 : EReal) := by
    refine top_eq (fun y => ?_) y0 (by rw [hsr, if_pos hy0])
    rw [hsr]; split_ifs with h
    · exact EReal.coe_le_coe_iff.mpr (hmax y h)
    · exact bot_le
  have hmk : top sk = ((u y0 * (Real.log 2)⁻¹ : ℝ) : EReal) := by
    refine top_eq (fun x => ?_) (e y0) (by rw [hsk, if_pos hy0])
    by_cases hx : ∃ y, e y = x
    · obtain ⟨y, rfl⟩ := hx
      rw [hsk]; split_ifs with h
      · exact EReal.coe_le_coe_iff.mpr (mul_le_mul_of_nonneg_right (hmax y h) (inv_nonneg.mpr hlog.le))
      · exact bot_le
    · rw [hoff x fun y h => hx ⟨y, h⟩]; exact bot_le
  -- the weights, as reals
  let w : Fin 576 → ℝ := fun y => if ok y then Real.exp (u y - u y0) else 0
  have hwr : ∀ y, Ideal.exp (sr y - top sr) = (w y : EReal) := fun y => by
    rw [hsr, hmr]; by_cases h : ok y
    · simp only [w, if_pos h]; rw [← EReal.coe_sub, Ideal.exp_coe]
    · simp only [w, if_neg h]; rw [EReal.bot_sub, Ideal.exp_bot]; rfl
  have hwk : ∀ y, Ideal.exp2 (sk (e y) - top sk) = (w y : EReal) := fun y => by
    rw [hsk, hmk]; by_cases h : ok y
    · simp only [w, if_pos h]
      rw [← EReal.coe_sub, Ideal.exp2_coe]
      congr 1
      rw [Real.rpow_eq_pow, Real.rpow_def_of_pos (by norm_num)]
      congr 1; field_simp
    · simp only [w, if_neg h]; rw [EReal.bot_sub, Ideal.exp2_bot]; rfl
  have hw0 : ∀ x, (∀ y, e y ≠ x) → Ideal.exp2 (sk x - top sk) = 0 := fun x h => by
    rw [hoff x h, hmk, EReal.bot_sub, Ideal.exp2_bot]
  -- a sum over the kernel's keys that only the band's contribute to
  have hsum : ∀ f : Fin 768 → EReal, (∀ x, (∀ y, e y ≠ x) → f x = 0) → ∑ x, f x = ∑ y, f (e y) := fun f hf => by
    rw [← Finset.sum_image (s := Finset.univ) (g := e) (f := f) (fun a _ b _ h => he h)]
    exact (Finset.sum_subset (Finset.subset_univ _) fun x _ hx => hf x fun y h => hx (by simp [← h])).symm
  have hl : 0 < ∑ y, w y := by
    refine Finset.sum_pos' (fun y _ => ?_) ⟨y0, Finset.mem_univ _, ?_⟩
    · simp only [w]; split_ifs
      · exact (Real.exp_pos _).le
      · exact le_rfl
    · simp only [w, if_pos hy0]; exact Real.exp_pos _
  rw [hsum _ fun x h => by rw [hw0 x h, zero_mul], hsum _ hw0]
  simp only [hwk, hwr, ← coe_sum]
  have hdiv : ∀ a : EReal, Ideal.div a ((∑ y, w y : ℝ) : EReal) = a * (((∑ y, w y)⁻¹ : ℝ) : EReal) := fun a => by
    rw [Ideal.div, if_neg (by exact_mod_cast hl.ne'), EReal.coe_inv]
  rw [hdiv, sum_mul_real _ _ _ (inv_nonneg.mpr hl.le)]
  refine Finset.sum_congr rfl fun y _ => ?_
  rw [hdiv]
  by_cases h : ok y
  · rw [hv y h, mul_comm (w y : EReal), mul_assoc]
  · simp [w, h]

end Cert.Softmax

end
-- ==== Proof.Band.PairRuns.lean ====
/-
  One head pair's output at one element, with the three key blocks taken as one family of 768 keys.
-/
module

public import proofs.«01_k».proof.Proof.Band.PairValue
public import proofs.«01_k».proof.Proof.Band.Softmax

@[expose] public section

set_option maxRecDepth 16384

noncomputable section

namespace Cert.BandIdeal.Attn

open Cert.BandIdeal Cert.BandIdeal.Gen Idealize.ShloMosaic Cert.Softmax

/-- The `j`-th key of the `b`-th block among the 768. -/
def run (b : Fin 3) (j : Fin 256) : Fin 768 := ⟨b.val * 256 + j.val, by omega⟩

/-- A sum over the 768 keys, block by block. -/
theorem sum_run (f : Fin 768 → EReal) : ∑ x, f x = (∑ j, f (run 0 j)) + (∑ j, f (run 1 j)) + ∑ j, f (run 2 j) := by
  refine (sum_runs 3 256 f).trans ?_
  rw [Fin.sum_univ_three]; rfl

/-- The largest of 768 values, block by block. -/
theorem top_run (f : Fin 768 → EReal) : top (fun j => max (max (f (run 0 j)) (f (run 1 j))) (f (run 2 j))) = top f :=
  top_runs3 (fun b j => f (run b j)) f fun _ _ => rfl

/-- The score of query `r` and key `j` from one head's block of keys and bias. -/
def scoreOf (q k : Vec Ideal S256x128 .bf16) (b : Vec Ideal S1x1x256x256 .f32) (h : Fin 2) (r j : Fin 256) : EReal :=
  (∑ d : Fin 64, q (ix2 r (lane h d)) * k (ix2 j (lane h d))) + b (ix4 0 0 r j) * (((Real.log 2)⁻¹ : ℝ) : EReal)

/-- The pair's output: the weighted values over the sum of the weights, over all 768 keys. -/
theorem pairOut_apply (q k0 k1 k2 v0 v1 v2 : Vec Ideal S256x128 .bf16) (b00 b01 b10 b11 b20 b21 : Vec Ideal S1x1x256x256 .f32)
    (h : Fin 2) (r : Fin 256) (d : Fin 64) (s vv : Fin 768 → EReal)
    (hs0 : ∀ j, scoreOf q k0 (![b00, b01] h) h r j = s (run 0 j)) (hs1 : ∀ j, scoreOf q k1 (![b10, b11] h) h r j = s (run 1 j))
    (hs2 : ∀ j, scoreOf q k2 (![b20, b21] h) h r j = s (run 2 j)) (hv0 : ∀ j, v0 (ix2 j (lane h d)) = vv (run 0 j))
    (hv1 : ∀ j, v1 (ix2 j (lane h d)) = vv (run 1 j)) (hv2 : ∀ j, v2 (ix2 j (lane h d)) = vv (run 2 j)) :
    pairOut q k0 k1 k2 v0 v1 v2 b00 b01 b10 b11 b20 b21 (ix2 r (lane h d))
      = Ideal.div (∑ x, Ideal.exp2 (s x - top s) * vv x) (∑ x, Ideal.exp2 (s x - top s)) := by
  unfold pairOut attend
  rw [mix_apply]
  simp only [weight_apply, rowMax_apply, hv0, hv1, hv2]
  have e0 : ∀ j, score (k0_pay3 q) b00 b01 k0 (ix2 (row h r) j) = s (run 0 j) := fun j => (score_apply q k0 b00 b01 h r j).trans (hs0 j)
  have e1 : ∀ j, score (k0_pay3 q) b10 b11 k1 (ix2 (row h r) j) = s (run 1 j) := fun j => (score_apply q k1 b10 b11 h r j).trans (hs1 j)
  have e2 : ∀ j, score (k0_pay3 q) b20 b21 k2 (ix2 (row h r) j) = s (run 2 j) := fun j => (score_apply q k2 b20 b21 h r j).trans (hs2 j)
  simp only [e0, e1, e2]
  have ht : (Finset.univ.fold max ⊥ fun j => max (max (s (run 0 j)) (s (run 1 j))) (s (run 2 j))) = top s := top_run s
  rw [ht, sum_run fun x => Ideal.exp2 (s x - top s) * vv x, sum_run fun x => Ideal.exp2 (s x - top s), Finset.sum_add_distrib, Finset.sum_add_distrib]

end Cert.BandIdeal.Attn

end
-- ==== Proof.Band.Bias.lean ====
/-
  The bias the host prepares for the kernel: for each of the three places a block of queries can have in the sequence
  (first, second, later), each head, each query of the block and each of the 768 keys, the table's entry for the
  distance between query and key where the key lies in the query's band and inside the sequence, and −∞ elsewhere.
-/
module

public import proofs.«01_k».proof.Proof.Gen.BandIdeal.Frame
public import Idealize.ShloMosaic.Lib.Pointwise
public import Idealize.ShloMosaic.Lib.Claim

@[expose] public section

set_option maxRecDepth 16384

noncomputable section

namespace Cert.BandIdeal.Bias

open Cert.BandIdeal Cert.BandIdeal.Gen Idealize.ShloMosaic

variable {F : FTy → Type} [FloatOps F] [Named F]

/-- Division rounded down, as the host spells it, of the queries' numbers. -/
def floorQ (x : IVec S256x1 32) (d : IVec S_ 32) : IVec S256x1 32 :=
  select (andi (cmpi .ne (signi x) (broadcastInDim S256x1 ![] bcast_S_S256x1 (signi (id d))))
      (cmpi .ne (Host.remsi x (broadcastInDim S256x1 ![] bcast_S_S256x1 (id d))) (broadcastInDim S256x1 ![] bcast_S_S256x1 (constantI S_ 32 0#32))))
    (subi (Host.divsi x (broadcastInDim S256x1 ![] bcast_S_S256x1 (id d))) (broadcastInDim S256x1 ![] bcast_S_S256x1 (constantI S_ 32 1#32)))
    (Host.divsi x (broadcastInDim S256x1 ![] bcast_S_S256x1 (id d)))

/-- The same of the keys' numbers. -/
def floorK (x : IVec S1x768 32) (d : IVec S_ 32) : IVec S1x768 32 :=
  select (andi (cmpi .ne (signi x) (broadcastInDim S1x768 ![] bcast_S_S1x768 (signi (id d))))
      (cmpi .ne (Host.remsi x (broadcastInDim S1x768 ![] bcast_S_S1x768 (id d))) (broadcastInDim S1x768 ![] bcast_S_S1x768 (constantI S_ 32 0#32))))
    (subi (Host.divsi x (broadcastInDim S1x768 ![] bcast_S_S1x768 (id d))) (broadcastInDim S1x768 ![] bcast_S_S1x768 (constantI S_ 32 1#32)))
    (Host.divsi x (broadcastInDim S1x768 ![] bcast_S_S1x768 (id d)))

/-- The chunk of each query of a block. -/
def chunkQ : IVec S256x1 32 := floorQ (broadcastInDim S256x1 ![0] bcast_S256_S256x1_0 (iotaInDim S256 32 0)) (constantI S_ 32 64#32)
/-- The numbers of the 768 keys. -/
def keys : IVec S1x768 32 := broadcastInDim S1x768 ![1] bcast_S768_S1x768_1 (iotaInDim S768 32 0)
/-- The chunk of each key. -/
def chunkK : IVec S1x768 32 := floorK keys (constantI S_ 32 64#32)

/-- Whether a key's chunk is one of the nine that end at the query's. -/
def inBand (q : IVec S256x1 32) (k : IVec S1x768 32) : IVec S256x768 1 :=
  andi (cmpi .sge (broadcastInDim S256x768 ![0, 1] bcast_S1x768_S256x768_0_1 k) (broadcastInDim S256x768 ![0, 1] bcast_S256x1_S256x768_0_1 q))
    (cmpi .sle (broadcastInDim S256x768 ![0, 1] bcast_S1x768_S256x768_0_1 k)
      (broadcastInDim S256x768 ![0, 1] bcast_S256x1_S256x768_0_1 (addi q (broadcastInDim S256x1 ![] bcast_S_S256x1 (constantI S_ 32 8#32)))))

/-- Whether, besides, a key's block is not before `first`. -/
def notBefore (band : IVec S256x768 1) (block : IVec S1x768 32) (first : BitVec 32) : IVec S256x768 1 :=
  andi band (broadcastInDim S256x768 ![0, 1] bcast_S1x768_S256x768_0_1 (cmpi .sge block (broadcastInDim S1x768 ![] bcast_S_S1x768 (constantI S_ 32 first))))

/-- Three masks, one per place of the block of queries. -/
def stack (a b c : IVec S256x768 1) : IVec S3x256x768 1 :=
  concatenate S3x256x768 0 [⟨S1x256x768, broadcastInDim S1x256x768 ![1, 2] bcast_S256x768_S1x256x768_1_2 a⟩,
    ⟨S1x256x768, broadcastInDim S1x256x768 ![1, 2] bcast_S256x768_S1x256x768_1_2 b⟩,
    ⟨S1x256x768, broadcastInDim S1x256x768 ![1, 2] bcast_S256x768_S1x256x768_1_2 c⟩] concatenates_S1x256x768_S1x256x768_S1x256x768_S3x256x768_d0

/-- The table's entries in the order of decreasing distance, with one more element at the end. -/
def line (t : Vec F S8x513 .f32) (neg : IVec S1023 1) (at' : IVec S1023 32) : FVec F S8x1024 .f32 :=
  concatenate S8x1024 1 [⟨S8x1023, Host.gather gather_S8x513_S1023x1_S8x1023_0_1_n_n_1_1_81 t
      (broadcastInDim S1023x1 ![0] bcast_S1023_S1023x1_0 (select neg
        (addi at' (broadcastInDim S1023 ![] bcast_S_S1023 (constantI S_ 32 513#32))) at'))⟩,
    ⟨S8x1, broadcastInDim S8x1 ![] bcast_S_S8x1 (constant S_ .f32 0x00000000#32)⟩] concatenates_S8x1023_S8x1_S8x1024_d1

/-- That line repeated and cut one shorter per query, so that query `q` begins `q` elements earlier. -/
def skew (t : Vec F S8x513 .f32) (neg : IVec S1023 1) (at' : IVec S1023 32) : FVec F S8x256x768 .f32 :=
  extractStridedSlice S8x256x768 ![0, 0, 255] (shapeCast S8x256x1023 (extractStridedSlice S8x261888 ![0, 0]
    (shapeCast S8x262144 (broadcastInDim S1x8x256x1024 ![0, 1, 2, 3] bcast_S1x8x1x1024_S1x8x256x1024_0_1_2_3
      (shapeCast S1x8x1x1024 (line t neg at') shapeCasts_S8x1024_S1x8x1x1024)) shapeCasts_S1x8x256x1024_S8x262144) slices_S8x262144_S8x261888_0_0)
    shapeCasts_S8x261888_S8x256x1023) slices_S8x256x1023_S8x256x768_0_0_255

/-- The entries where the mask is set and −∞ elsewhere. -/
def choose (k : IVec S3x1x256x768 1) (b : FVec F S1x8x256x768 .f32) (z : FVec F S_ .f32) : FVec F S3x8x256x768 .f32 :=
  select (broadcastInDim S3x8x256x768 ![0, 1, 2, 3] bcast_S3x1x256x768_S3x8x256x768_0_1_2_3 k)
    (broadcastInDim S3x8x256x768 ![0, 1, 2, 3] bcast_S1x8x256x768_S3x8x256x768_0_1_2_3 b) (broadcastInDim S3x8x256x768 ![] bcast_S_S3x8x256x768 (id z))

/-- Which keys count for a block of queries whose first block of keys in the sequence is `first`. -/
def counts (first : BitVec 32) : IVec S256x768 1 := notBefore (inBand chunkQ chunkK) (floorK keys (constantI S_ 32 256#32)) first

/-- The table's entries for every query and key. -/
def distances (t : Vec F S8x513 .f32) : FVec F S8x256x768 .f32 := skew t (constantI S1023 1 0#1) fun i => lit0 (S1023.rowMajor i)

/-- The bias of the three places. -/
def bias (t : Vec F S8x513 .f32) : FVec F S3x8x256x768 .f32 :=
  choose (broadcastInDim S3x1x256x768 ![0, 2, 3] bcast_S3x256x768_S3x1x256x768_0_2_3 (stack (counts 2#32) (counts 1#32) (counts 0#32)))
    (broadcastInDim S1x8x256x768 ![1, 2, 3] bcast_S8x256x768_S1x8x256x768_1_2_3 (distances t)) (constant S_ .f32 0xFF800000#32)

/-! ## What each stretch of the host line leaves, from any contents -/

section Stretches

/-- One stretch after another. -/
theorem after_two (a b : List (HloOp τ sig (Elt F))) (σ : Valuation τ sig (Elt F)) :
    StableHlo.after (a ++ b) σ = StableHlo.after b (StableHlo.after a σ) := by
  induction a generalizing σ with
  | nil => rfl
  | cons op l ih => exact ih _

variable (σ : Valuation τ sig (Elt F))

theorem hostOps0_main_v1 : StableHlo.after hostOps0 σ (Proc.devRef .tc main_v1) = broadcastInDim S256x1 ![0] bcast_S256_S256x1_0 (iotaInDim S256 32 0) := by
  simp only [hostOps0, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_main_c_1 : StableHlo.after hostOps0 σ (Proc.devRef .tc main_c_1) = constantI S_ 32 64#32 := by
  simp only [hostOps0, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_main_c : StableHlo.after hostOps0 σ (Proc.devRef .tc main_c) = fun i => lit0 (S1023.rowMajor i) := by
  simp only [hostOps0, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_main_c_0 : StableHlo.after hostOps0 σ (Proc.devRef .tc main_c_0) = constantI S1023 1 0#1 := by
  simp only [hostOps0, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_1_main_v2 : StableHlo.after hostOps0_1 σ (Proc.devRef .tc main_v2) = floorQ (σ (Proc.devRef .tc main_v1)) (σ (Proc.devRef .tc main_c_1)) := by
  simp only [hostOps0_1, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_2_main_v4 : StableHlo.after hostOps0_2 σ (Proc.devRef .tc main_v4) = keys := by
  simp only [hostOps0_2, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_2_main_c_2 : StableHlo.after hostOps0_2 σ (Proc.devRef .tc main_c_2) = constantI S_ 32 64#32 := by
  simp only [hostOps0_2, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_3_main_v5 : StableHlo.after hostOps0_3 σ (Proc.devRef .tc main_v5) = floorK (σ (Proc.devRef .tc main_v4)) (σ (Proc.devRef .tc main_c_2)) := by
  simp only [hostOps0_3, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_4_main_v14 : StableHlo.after hostOps0_4 σ (Proc.devRef .tc main_v14) = inBand (σ (Proc.devRef .tc main_v2)) (σ (Proc.devRef .tc main_v5)) := by
  simp only [hostOps0_4, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_4_main_c_4 : StableHlo.after hostOps0_4 σ (Proc.devRef .tc main_c_4) = constantI S_ 32 256#32 := by
  simp only [hostOps0_4, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_5_main_v15 : StableHlo.after hostOps0_5 σ (Proc.devRef .tc main_v15) = floorK (σ (Proc.devRef .tc main_v4)) (σ (Proc.devRef .tc main_c_4)) := by
  simp only [hostOps0_5, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_6_main_v19 : StableHlo.after hostOps0_6 σ (Proc.devRef .tc main_v19) = notBefore (σ (Proc.devRef .tc main_v14)) (σ (Proc.devRef .tc main_v15)) 2#32 := by
  simp only [hostOps0_6, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_6_main_c_6 : StableHlo.after hostOps0_6 σ (Proc.devRef .tc main_c_6) = constantI S_ 32 256#32 := by
  simp only [hostOps0_6, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_7_main_v20 : StableHlo.after hostOps0_7 σ (Proc.devRef .tc main_v20) = floorK (σ (Proc.devRef .tc main_v4)) (σ (Proc.devRef .tc main_c_6)) := by
  simp only [hostOps0_7, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_8_main_v24 : StableHlo.after hostOps0_8 σ (Proc.devRef .tc main_v24) = notBefore (σ (Proc.devRef .tc main_v14)) (σ (Proc.devRef .tc main_v20)) 1#32 := by
  simp only [hostOps0_8, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_8_main_c_8 : StableHlo.after hostOps0_8 σ (Proc.devRef .tc main_c_8) = constantI S_ 32 256#32 := by
  simp only [hostOps0_8, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_9_main_v25 : StableHlo.after hostOps0_9 σ (Proc.devRef .tc main_v25) = floorK (σ (Proc.devRef .tc main_v4)) (σ (Proc.devRef .tc main_c_8)) := by
  simp only [hostOps0_9, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_10_main_v47 : StableHlo.after hostOps0_10 σ (Proc.devRef .tc main_v47) = broadcastInDim S3x1x256x768 ![0, 2, 3] bcast_S3x256x768_S3x1x256x768_0_2_3 (stack (σ (Proc.devRef .tc main_v19)) (σ (Proc.devRef .tc main_v24)) (notBefore (σ (Proc.devRef .tc main_v14)) (σ (Proc.devRef .tc main_v25)) 0#32)) := by
  simp only [hostOps0_10, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  dsimp only [Matrix.cons_val]
  after_results_loop
  try rfl

theorem hostOps0_10_main_v48 : StableHlo.after hostOps0_10 σ (Proc.devRef .tc main_v48) = broadcastInDim S1x8x256x768 ![1, 2, 3] bcast_S8x256x768_S1x8x256x768_1_2_3 (skew (σ (Proc.devRef .tc main_arg3)) (σ (Proc.devRef .tc main_c_0)) (σ (Proc.devRef .tc main_c))) := by
  simp only [hostOps0_10, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  after_results_loop
  try rfl

theorem hostOps0_10_main_cst_11 : StableHlo.after hostOps0_10 σ (Proc.devRef .tc main_cst_11) = constant S_ .f32 0xFF800000#32 := by
  simp only [hostOps0_10, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_11_main_v49 : StableHlo.after hostOps0_11 σ (Proc.devRef .tc main_v49) = choose (σ (Proc.devRef .tc main_v47)) (σ (Proc.devRef .tc main_v48)) (σ (Proc.devRef .tc main_cst_11)) := by
  simp only [hostOps0_11, StableHlo.TRef.nullary, StableHlo.TRef.binary, StableHlo.TRef.ternary, StableHlo.TRef.unary, StableHlo.TRef.toBuf, StableHlo.TRef.ofBuf, cast_eq,
    StableHlo.after_cons, StableHlo.after_nil]
  after_results_simp
  try rfl

theorem hostOps0_keeps : StableHlo.after hostOps0 σ (Proc.devRef .tc main_arg3) = σ (Proc.devRef .tc main_arg3) := by
  refine ?_
  all_goals
    refine StableHlo.after_of_forall_not_mem _ _ (List.forall_iff_forall_mem.mp ?_)
    simp only [hostOps0, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_1_keeps : StableHlo.after hostOps0_1 σ (Proc.devRef .tc main_arg3) = σ (Proc.devRef .tc main_arg3) ∧ StableHlo.after hostOps0_1 σ (Proc.devRef .tc main_c) = σ (Proc.devRef .tc main_c) ∧ StableHlo.after hostOps0_1 σ (Proc.devRef .tc main_c_0) = σ (Proc.devRef .tc main_c_0) := by
  refine ⟨?_, ?_, ?_⟩
  all_goals
    refine StableHlo.after_of_forall_not_mem _ _ (List.forall_iff_forall_mem.mp ?_)
    simp only [hostOps0_1, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_2_keeps : StableHlo.after hostOps0_2 σ (Proc.devRef .tc main_arg3) = σ (Proc.devRef .tc main_arg3) ∧ StableHlo.after hostOps0_2 σ (Proc.devRef .tc main_c) = σ (Proc.devRef .tc main_c) ∧ StableHlo.after hostOps0_2 σ (Proc.devRef .tc main_c_0) = σ (Proc.devRef .tc main_c_0) ∧ StableHlo.after hostOps0_2 σ (Proc.devRef .tc main_v2) = σ (Proc.devRef .tc main_v2) := by
  refine ⟨?_, ?_, ?_, ?_⟩
  all_goals
    refine StableHlo.after_of_forall_not_mem _ _ (List.forall_iff_forall_mem.mp ?_)
    simp only [hostOps0_2, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_3_keeps : StableHlo.after hostOps0_3 σ (Proc.devRef .tc main_arg3) = σ (Proc.devRef .tc main_arg3) ∧ StableHlo.after hostOps0_3 σ (Proc.devRef .tc main_c) = σ (Proc.devRef .tc main_c) ∧ StableHlo.after hostOps0_3 σ (Proc.devRef .tc main_c_0) = σ (Proc.devRef .tc main_c_0) ∧ StableHlo.after hostOps0_3 σ (Proc.devRef .tc main_v2) = σ (Proc.devRef .tc main_v2) ∧ StableHlo.after hostOps0_3 σ (Proc.devRef .tc main_v4) = σ (Proc.devRef .tc main_v4) := by
  refine ⟨?_, ?_, ?_, ?_, ?_⟩
  all_goals
    refine StableHlo.after_of_forall_not_mem _ _ (List.forall_iff_forall_mem.mp ?_)
    simp only [hostOps0_3, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_4_keeps : StableHlo.after hostOps0_4 σ (Proc.devRef .tc main_arg3) = σ (Proc.devRef .tc main_arg3) ∧ StableHlo.after hostOps0_4 σ (Proc.devRef .tc main_c) = σ (Proc.devRef .tc main_c) ∧ StableHlo.after hostOps0_4 σ (Proc.devRef .tc main_c_0) = σ (Proc.devRef .tc main_c_0) ∧ StableHlo.after hostOps0_4 σ (Proc.devRef .tc main_v4) = σ (Proc.devRef .tc main_v4) := by
  refine ⟨?_, ?_, ?_, ?_⟩
  all_goals
    refine StableHlo.after_of_forall_not_mem _ _ (List.forall_iff_forall_mem.mp ?_)
    simp only [hostOps0_4, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_5_keeps : StableHlo.after hostOps0_5 σ (Proc.devRef .tc main_arg3) = σ (Proc.devRef .tc main_arg3) ∧ StableHlo.after hostOps0_5 σ (Proc.devRef .tc main_c) = σ (Proc.devRef .tc main_c) ∧ StableHlo.after hostOps0_5 σ (Proc.devRef .tc main_c_0) = σ (Proc.devRef .tc main_c_0) ∧ StableHlo.after hostOps0_5 σ (Proc.devRef .tc main_v4) = σ (Proc.devRef .tc main_v4) ∧ StableHlo.after hostOps0_5 σ (Proc.devRef .tc main_v14) = σ (Proc.devRef .tc main_v14) := by
  refine ⟨?_, ?_, ?_, ?_, ?_⟩
  all_goals
    refine StableHlo.after_of_forall_not_mem _ _ (List.forall_iff_forall_mem.mp ?_)
    simp only [hostOps0_5, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_6_keeps : StableHlo.after hostOps0_6 σ (Proc.devRef .tc main_arg3) = σ (Proc.devRef .tc main_arg3) ∧ StableHlo.after hostOps0_6 σ (Proc.devRef .tc main_c) = σ (Proc.devRef .tc main_c) ∧ StableHlo.after hostOps0_6 σ (Proc.devRef .tc main_c_0) = σ (Proc.devRef .tc main_c_0) ∧ StableHlo.after hostOps0_6 σ (Proc.devRef .tc main_v4) = σ (Proc.devRef .tc main_v4) ∧ StableHlo.after hostOps0_6 σ (Proc.devRef .tc main_v14) = σ (Proc.devRef .tc main_v14) := by
  refine ⟨?_, ?_, ?_, ?_, ?_⟩
  all_goals
    refine StableHlo.after_of_forall_not_mem _ _ (List.forall_iff_forall_mem.mp ?_)
    simp only [hostOps0_6, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_7_keeps : StableHlo.after hostOps0_7 σ (Proc.devRef .tc main_arg3) = σ (Proc.devRef .tc main_arg3) ∧ StableHlo.after hostOps0_7 σ (Proc.devRef .tc main_c) = σ (Proc.devRef .tc main_c) ∧ StableHlo.after hostOps0_7 σ (Proc.devRef .tc main_c_0) = σ (Proc.devRef .tc main_c_0) ∧ StableHlo.after hostOps0_7 σ (Proc.devRef .tc main_v4) = σ (Proc.devRef .tc main_v4) ∧ StableHlo.after hostOps0_7 σ (Proc.devRef .tc main_v14) = σ (Proc.devRef .tc main_v14) ∧ StableHlo.after hostOps0_7 σ (Proc.devRef .tc main_v19) = σ (Proc.devRef .tc main_v19) := by
  refine ⟨?_, ?_, ?_, ?_, ?_, ?_⟩
  all_goals
    refine StableHlo.after_of_forall_not_mem _ _ (List.forall_iff_forall_mem.mp ?_)
    simp only [hostOps0_7, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_8_keeps : StableHlo.after hostOps0_8 σ (Proc.devRef .tc main_arg3) = σ (Proc.devRef .tc main_arg3) ∧ StableHlo.after hostOps0_8 σ (Proc.devRef .tc main_c) = σ (Proc.devRef .tc main_c) ∧ StableHlo.after hostOps0_8 σ (Proc.devRef .tc main_c_0) = σ (Proc.devRef .tc main_c_0) ∧ StableHlo.after hostOps0_8 σ (Proc.devRef .tc main_v4) = σ (Proc.devRef .tc main_v4) ∧ StableHlo.after hostOps0_8 σ (Proc.devRef .tc main_v14) = σ (Proc.devRef .tc main_v14) ∧ StableHlo.after hostOps0_8 σ (Proc.devRef .tc main_v19) = σ (Proc.devRef .tc main_v19) := by
  refine ⟨?_, ?_, ?_, ?_, ?_, ?_⟩
  all_goals
    refine StableHlo.after_of_forall_not_mem _ _ (List.forall_iff_forall_mem.mp ?_)
    simp only [hostOps0_8, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

theorem hostOps0_9_keeps : StableHlo.after hostOps0_9 σ (Proc.devRef .tc main_arg3) = σ (Proc.devRef .tc main_arg3) ∧ StableHlo.after hostOps0_9 σ (Proc.devRef .tc main_c) = σ (Proc.devRef .tc main_c) ∧ StableHlo.after hostOps0_9 σ (Proc.devRef .tc main_c_0) = σ (Proc.devRef .tc main_c_0) ∧ StableHlo.after hostOps0_9 σ (Proc.devRef .tc main_v14) = σ (Proc.devRef .tc main_v14) ∧ StableHlo.after hostOps0_9 σ (Proc.devRef .tc main_v19) = σ (Proc.devRef .tc main_v19) ∧ StableHlo.after hostOps0_9 σ (Proc.devRef .tc main_v24) = σ (Proc.devRef .tc main_v24) := by
  refine ⟨?_, ?_, ?_, ?_, ?_, ?_⟩
  all_goals
    refine StableHlo.after_of_forall_not_mem _ _ (List.forall_iff_forall_mem.mp ?_)
    simp only [hostOps0_9, List.Forall, StableHlo.nullary_writes, StableHlo.unary_writes, StableHlo.binary_writes, StableHlo.ternary_writes, Finset.mem_singleton,
      StableHlo.TRef.nullary, StableHlo.TRef.binary, StableHlo.TRef.ternary, StableHlo.TRef.unary]
    repeat' apply And.intro
    all_goals exact StableHlo.devRef_ne_of_ne (by decide)

end Stretches

/-- The buffer the kernel reads its bias from holds it. -/
theorem entry (m : (ℓ : Loc nD τ sig) → Buf (Elt F) ℓ) (c : Dev nD) :
    V m c main_v49 = bias (m ((c.tc : Thread nD τ).loc main_arg3)) := by
  change StableHlo.after (hostOps0 ++ (hostOps0_1 ++ (hostOps0_2 ++ (hostOps0_3 ++ (hostOps0_4 ++ (hostOps0_5 ++ (hostOps0_6 ++ (hostOps0_7 ++
    (hostOps0_8 ++ (hostOps0_9 ++ (hostOps0_10 ++ (hostOps0_11 ++ [])))))))))))) (fun b => m (c, b)) (Proc.devRef .tc main_v49) = _
  rw [after_two, after_two, after_two, after_two, after_two, after_two, after_two, after_two, after_two, after_two, after_two, after_two, StableHlo.after_nil,
    hostOps0_11_main_v49]
  rw [show m ((c.tc : Thread nD τ).loc main_arg3) = (fun b => m (c, b)) (Proc.devRef .tc main_arg3) from rfl]
  generalize (fun b => m (c, b) : Valuation τ sig (Elt F)) = σ
  have h0_main_v1 := hostOps0_main_v1 σ
  have h0_main_c_1 := hostOps0_main_c_1 σ
  have h0_main_c := hostOps0_main_c σ
  have h0_main_c_0 := hostOps0_main_c_0 σ
  have h0_keeps := hostOps0_keeps σ
  generalize StableHlo.after hostOps0 σ = σ1 at *
  have h1_main_v2 := hostOps0_1_main_v2 σ1
  have h1_keeps := hostOps0_1_keeps σ1
  generalize StableHlo.after hostOps0_1 σ1 = σ2 at *
  have h2_main_v4 := hostOps0_2_main_v4 σ2
  have h2_main_c_2 := hostOps0_2_main_c_2 σ2
  have h2_keeps := hostOps0_2_keeps σ2
  generalize StableHlo.after hostOps0_2 σ2 = σ3 at *
  have h3_main_v5 := hostOps0_3_main_v5 σ3
  have h3_keeps := hostOps0_3_keeps σ3
  generalize StableHlo.after hostOps0_3 σ3 = σ4 at *
  have h4_main_v14 := hostOps0_4_main_v14 σ4
  have h4_main_c_4 := hostOps0_4_main_c_4 σ4
  have h4_keeps := hostOps0_4_keeps σ4
  generalize StableHlo.after hostOps0_4 σ4 = σ5 at *
  have h5_main_v15 := hostOps0_5_main_v15 σ5
  have h5_keeps := hostOps0_5_keeps σ5
  generalize StableHlo.after hostOps0_5 σ5 = σ6 at *
  have h6_main_v19 := hostOps0_6_main_v19 σ6
  have h6_main_c_6 := hostOps0_6_main_c_6 σ6
  have h6_keeps := hostOps0_6_keeps σ6
  generalize StableHlo.after hostOps0_6 σ6 = σ7 at *
  have h7_main_v20 := hostOps0_7_main_v20 σ7
  have h7_keeps := hostOps0_7_keeps σ7
  generalize StableHlo.after hostOps0_7 σ7 = σ8 at *
  have h8_main_v24 := hostOps0_8_main_v24 σ8
  have h8_main_c_8 := hostOps0_8_main_c_8 σ8
  have h8_keeps := hostOps0_8_keeps σ8
  generalize StableHlo.after hostOps0_8 σ8 = σ9 at *
  have h9_main_v25 := hostOps0_9_main_v25 σ9
  have h9_keeps := hostOps0_9_keeps σ9
  generalize StableHlo.after hostOps0_9 σ9 = σ10 at *
  have h10_main_v47 := hostOps0_10_main_v47 σ10
  have h10_main_v48 := hostOps0_10_main_v48 σ10
  have h10_main_cst_11 := hostOps0_10_main_cst_11 σ10
  generalize StableHlo.after hostOps0_10 σ10 = σ11 at *
  simp only [h10_main_cst_11, h10_main_v48, h10_main_v47, h9_keeps, h9_main_v25, h8_keeps, h8_main_c_8, h8_main_v24, h7_keeps, h7_main_v20, h6_keeps, h6_main_c_6, h6_main_v19, h5_keeps, h5_main_v15, h4_keeps, h4_main_c_4, h4_main_v14, h3_keeps, h3_main_v5, h2_keeps, h2_main_c_2, h2_main_v4, h1_keeps, h1_main_v2, h0_keeps, h0_main_c_0, h0_main_c, h0_main_c_1, h0_main_v1]
  rfl

end Cert.BandIdeal.Bias

end
-- ==== Proof.Band.Chunks.lean ====
/-
  The chunk numbers in the host's masks, read at one element.
-/
module

public import proofs.«01_k».proof.Proof.Band.Bias

@[expose] public section

set_option maxRecDepth 16384

noncomputable section

namespace Cert.BandIdeal.Bias

open Cert.BandIdeal Cert.BandIdeal.Gen Idealize.ShloMosaic

/-- The sign of a word: zero, minus one or one. -/
def sign (x : BitVec 32) : BitVec 32 := if x = 0 then 0 else if x.msb = true then -1 else 1

/-- Division rounded down, as the host spells it, of a small number by a small positive one. -/
theorem floor_word (n d : ℕ) (hn : n < 2147483648) (hd : d < 2147483648) (h0 : 0 < d) :
    Scalar.select
      (IntOp.andi
        (IntOp.cmpi CmpIPredicate.ne
          (sign (BitVec.ofNat 32 n))
          (sign (BitVec.ofNat 32 d)))
        (IntOp.cmpi CmpIPredicate.ne (IntOp.remsi ArithUnit.host (BitVec.ofNat 32 n) (BitVec.ofNat 32 d)) 0#32))
      (IntOp.subi (IntOp.divsi ArithUnit.host (BitVec.ofNat 32 n) (BitVec.ofNat 32 d)) 1#32)
      (IntOp.divsi ArithUnit.host (BitVec.ofNat 32 n) (BitVec.ofNat 32 d)) = BitVec.ofNat 32 (n / d) := by
  have tn : (BitVec.ofNat 32 n).toNat = n := by simp; omega
  have td : (BitVec.ofNat 32 d).toNat = d := by simp; omega
  have mn : (BitVec.ofNat 32 n).msb = false := by rw [BitVec.msb_eq_false_iff_two_mul_lt, tn]; omega
  have md : (BitVec.ofNat 32 d).msb = false := by rw [BitVec.msb_eq_false_iff_two_mul_lt, td]; omega
  have dz : BitVec.ofNat 32 d ≠ 0 := fun h => by
    have := congrArg BitVec.toNat h; rw [td] at this; simp at this; omega
  have hc : ¬ IntOp.SDivCorner (BitVec.ofNat 32 n) (BitVec.ofNat 32 d) := by
    rintro (h | ⟨h, _⟩)
    · exact dz h
    · have := congrArg BitVec.toNat h; rw [tn] at this; simp at this; omega
  have hdiv : IntOp.divsi ArithUnit.host (BitVec.ofNat 32 n) (BitVec.ofNat 32 d) = BitVec.ofNat 32 (n / d) := by
    have hlt : n / d < 4294967296 := lt_of_le_of_lt (Nat.div_le_self _ _) (by omega)
    rw [IntOp.divsi, if_neg hc, BitVec.sdiv_eq, mn, md]
    apply BitVec.eq_of_toNat_eq
    simp only [BitVec.udiv_eq, BitVec.toNat_udiv, tn, td, BitVec.toNat_ofNat]
    exact (Nat.mod_eq_of_lt hlt).symm
  have hsel : IntOp.andi
        (IntOp.cmpi CmpIPredicate.ne
          (sign (BitVec.ofNat 32 n))
          (sign (BitVec.ofNat 32 d)))
        (IntOp.cmpi CmpIPredicate.ne (IntOp.remsi ArithUnit.host (BitVec.ofNat 32 n) (BitVec.ofNat 32 d)) 0#32) = 0#1 := by
    rw [sign, sign, mn, md, if_neg dz]
    by_cases hz : BitVec.ofNat 32 n = 0
    · have hr : IntOp.remsi ArithUnit.host (BitVec.ofNat 32 n) (BitVec.ofNat 32 d) = 0#32 := by
        rw [IntOp.remsi, if_neg hc, hz]; simp [BitVec.srem_eq, md]
      rw [hr]; simp [IntOp.cmpi, IntOp.andi]
    · rw [if_neg hz]; simp [IntOp.cmpi, IntOp.andi]
  rw [hsel, hdiv, ValueIdx.select_zero]

theorem chunkQ_apply (q : Fin 256) : chunkQ (ix2 q 0) = BitVec.ofNat 32 (q.val / 64) := by
  pointwise [chunkQ, floorQ]
  exact floor_word q.val 64 (by omega) (by omega) (by omega)

theorem chunkK_apply (k : Fin 768) : chunkK (ix2 0 k) = BitVec.ofNat 32 (k.val / 64) := by
  pointwise [chunkK, floorK, keys]
  exact floor_word k.val 64 (by omega) (by omega) (by omega)

theorem blockK_apply (k : Fin 768) : floorK keys (constantI S_ 32 256#32) (ix2 0 k) = BitVec.ofNat 32 (k.val / 256) := by
  pointwise [floorK, keys]
  exact floor_word k.val 256 (by omega) (by omega) (by omega)

/-- A small number's word stands for it. -/
theorem int_word (a : ℕ) (ha : a < 2147483648) : (BitVec.ofNat 32 a).toInt = a := by
  have ta : (BitVec.ofNat 32 a).toNat = a := by simp; omega
  rw [BitVec.toInt_eq_toNat_of_msb (by rw [BitVec.msb_eq_false_iff_two_mul_lt, ta]; omega), ta]

/-- The order of two small numbers, as words. -/
theorem sge_word (a b : ℕ) (ha : a < 2147483648) (hb : b < 2147483648) :
    IntOp.cmpi CmpIPredicate.sge (BitVec.ofNat 32 a) (BitVec.ofNat 32 b) = if b ≤ a then 1#1 else 0#1 := by
  have ta := int_word a ha
  have tb := int_word b hb
  simp only [IntOp.cmpi, BitVec.sle, ta, tb, Int.ofNat_le]
  split_ifs with h <;> simp [h]

theorem sle_word (a b : ℕ) (ha : a < 2147483648) (hb : b < 2147483648) :
    IntOp.cmpi CmpIPredicate.sle (BitVec.ofNat 32 a) (BitVec.ofNat 32 b) = if a ≤ b then 1#1 else 0#1 := sge_word b a hb ha

theorem and_word (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- Which keys count, read at one query and key. -/
theorem counts_apply (b : ℕ) (hb : b < 3) (q : Fin 256) (k : Fin 768) :
    counts (BitVec.ofNat 32 b) (ix2 q k)
      = if (q.val / 64 ≤ k.val / 64 ∧ k.val / 64 ≤ q.val / 64 + 8) ∧ b ≤ k.val / 256 then 1#1 else 0#1 := by
  pointwise [counts, notBefore, inBand]
  rw [chunkQ_apply, chunkK_apply, blockK_apply, show IntOp.addi (BitVec.ofNat 32 (q.val / 64)) 8#32 = BitVec.ofNat 32 (q.val / 64 + 8) from
    (BitVec.ofNat_add _ _).symm]
  rw [sge_word _ _ (by omega) (by omega), sle_word _ _ (by omega) (by omega), sge_word _ _ (by omega) (by omega), and_word, and_word]

end Cert.BandIdeal.Bias

end
-- ==== Proof.Band.BiasValue.lean ====
/-
  The host's bias read at one element: the table's entry for the distance between query and key, or −∞.
-/
module

public import proofs.«01_k».proof.Proof.Band.Chunks

@[expose] public section

set_option maxRecDepth 16384

noncomputable section

namespace Cert.BandIdeal.Bias

open Cert.BandIdeal Cert.BandIdeal.Gen Idealize.ShloMosaic

/-- The table's entry for query `q` and key `k`, counted from 512 keys before the first query: the distance, cut off at
    256 on both sides. -/
def rel (q k : ℕ) : Fin 513 := ⟨min (q + 768 - k) 512, by omega⟩

/-- The gather of a table's columns, read at one element: the column at the index, read signed and cut off at the last. -/
theorem gather_line {α : Type} (t : S8x513.Idx → α) (at' : IVec S1023x1 32) (h : Fin 8) (j : Fin 1023) :
    Host.gather gather_S8x513_S1023x1_S8x1023_0_1_n_n_1_1_81 t at' (ix2 h j)
      = t (ix2 h ⟨min (at' (ix2 j 0)).toInt.toNat 512, by omega⟩) := by
  unfold Host.gather
  congr 1
  funext a
  refine Fin.ext ?_
  show GatherDims.start gather_S8x513_S1023x1_S8x1023_0_1_n_n_1_1_81 (ix2 h j) at' a
    + GatherDims.batchCoord gather_S8x513_S1023x1_S8x1023_0_1_n_n_1_1_81 (ix2 h j) a
    + GatherDims.offCoord gather_S8x513_S1023x1_S8x1023_0_1_n_n_1_1_81 (ix2 h j) a = _
  rw [GatherDims.batchCoord_eq_zero _ _ _ List.not_mem_nil]
  unfold GatherDims.start GatherDims.offCoord
  have h01 : a = 0 ∨ a = 1 := by
    match a with
    | ⟨0, _⟩ => exact .inl rfl
    | ⟨1, _⟩ => exact .inr rfl
  rcases h01 with rfl | rfl
  · rw [dif_neg (by decide), dif_pos (by decide)]
    simp only [Nat.zero_add]
    rfl
  · rw [dif_pos (by decide), dif_neg (by decide)]
    simp only [Nat.add_zero]
    have hsi : ∀ hx, GatherDims.siIdx gather_S8x513_S1023x1_S8x1023_0_1_n_n_1_1_81 (ix2 h j) ⟨List.idxOf (1 : Fin 2) [1], hx⟩ = ix2 j 0 := fun hx => by
      funext b; refine Fin.ext ?_
      match b with
      | ⟨0, _⟩ => rfl
      | ⟨1, _⟩ => rfl
    exact congrArg (fun i => min (at' i).toInt.toNat 512) (hsi _)

/-- The literal indices count down from 512 as the distance grows, cut off at both ends. -/
theorem lit_runs : ∀ (a : Fin 8) (b : Fin 128), a.val * 128 + b.val < 1023 →
    (lit0t (a.val * 128 + b.val)).toInt.toNat = min (1023 - (a.val * 128 + b.val)) 512 := by decide +kernel

theorem lit_apply (j : Fin 1023) : (lit0 j).toInt.toNat = min (1023 - j.val) 512 := by
  have h := lit_runs ⟨j.val / 128, by omega⟩ ⟨j.val % 128, by omega⟩
  have e : j.val / 128 * 128 + j.val % 128 = j.val := Nat.div_add_mod' _ _
  simp only [e] at h
  have e2 : lit0 j = lit0t j.val := by obtain ⟨j, hj⟩ := j; with_reducible rfl
  rw [e2]
  exact h j.isLt

/-- The movement of `skew` over any line. -/
def skewOf (w : Vec Ideal S8x1024 .f32) : Vec Ideal S8x256x768 .f32 :=
  extractStridedSlice S8x256x768 ![0, 0, 255] (shapeCast S8x256x1023 (extractStridedSlice S8x261888 ![0, 0]
    (shapeCast S8x262144 (broadcastInDim S1x8x256x1024 ![0, 1, 2, 3] bcast_S1x8x1x1024_S1x8x256x1024_0_1_2_3
      (shapeCast S1x8x1x1024 w shapeCasts_S8x1024_S1x8x1x1024)) shapeCasts_S1x8x256x1024_S8x262144) slices_S8x262144_S8x261888_0_0)
    shapeCasts_S8x261888_S8x256x1023) slices_S8x256x1023_S8x256x768_0_0_255

/-- It read at one element. -/
theorem skewOf_apply (w : Vec Ideal S8x1024 .f32) (h : Fin 8) (q : Fin 256) (k : Fin 768) :
    skewOf w (ix3 h q k) = w (ix2 h ⟨(q.val * 1023 + (255 + k.val)) % 1024, by omega⟩) := by
  pointwise [skewOf]
/-- The line over any indices, read at one of its 1023 elements. -/
theorem line_apply (t : Vec Ideal S8x513 .f32) (f : Fin 1023 → BitVec 32) (h : Fin 8) (j : Fin 1024) (hj : j.val < 1023) :
    line t (constantI S1023 1 0#1) (fun i => f (S1023.rowMajor i)) (ix2 h j)
      = t (ix2 h ⟨min (f ⟨j.val, hj⟩).toInt.toNat 512, by omega⟩) := by
  have hw : (broadcastInDim S1023x1 ![0] bcast_S1023_S1023x1_0 (select (constantI S1023 1 0#1)
      (addi (fun i => f (S1023.rowMajor i)) (broadcastInDim S1023 ![] bcast_S_S1023 (constantI S_ 32 513#32)))
      fun i => f (S1023.rowMajor i))) (ix2 ⟨j.val, hj⟩ 0) = f ⟨j.val, hj⟩ := by
    have hr : S1023.rowMajor (ix1 ⟨j.val, hj⟩) = (⟨j.val, hj⟩ : Fin 1023) := Fin.ext (Shape.rowMajor_val_one _)
    generalize hx : (fun i => f (S1023.rowMajor i) : IVec S1023 32) = x
    have : x (ix1 ⟨j.val, hj⟩) = f ⟨j.val, hj⟩ := by rw [← hx]; show f (S1023.rowMajor _) = _; rw [hr]
    rw [← this]
    pointwise
  have hg := gather_line t (broadcastInDim S1023x1 ![0] bcast_S1023_S1023x1_0 (select (constantI S1023 1 0#1)
      (addi (fun i => f (S1023.rowMajor i)) (broadcastInDim S1023 ![] bcast_S_S1023 (constantI S_ 32 513#32)))
      fun i => f (S1023.rowMajor i))) h ⟨j.val, hj⟩
  simp only [hw] at hg
  rw [← hg]
  unfold line
  generalize Host.gather gather_S8x513_S1023x1_S8x1023_0_1_n_n_1_1_81 t _ = g
  pointwise
  rw [dif_pos (by omega)]

/-- The skewed line over the host's literal indices: the table's entries by distance. -/
theorem distances_apply (t : Vec Ideal S8x513 .f32) (h : Fin 8) (q : Fin 256) (k : Fin 768) :
    distances t (ix3 h q k) = t (ix2 h (rel q k)) := by
  have hm : (q.val * 1023 + (255 + k.val)) % 1024 = 255 + k.val - q.val := by
    rw [show q.val * 1023 + (255 + k.val) = 1024 * q.val + (255 + k.val - q.val) by omega, Nat.mul_add_mod]
    exact Nat.mod_eq_of_lt (by omega)
  have hl := lit_apply
  unfold distances
  generalize lit0 = f at hl ⊢
  show skewOf (line t (constantI S1023 1 0#1) (fun i => f (S1023.rowMajor i))) (ix3 h q k) = _
  rw [skewOf_apply, line_apply _ _ _ _ (by show (q.val * 1023 + (255 + k.val)) % 1024 < 1023; rw [hm]; omega)]
  congr 2
  refine Fin.ext ?_
  show min (f ⟨(q.val * 1023 + (255 + k.val)) % 1024, _⟩).toInt.toNat 512 = min (q.val + 768 - k.val) 512
  rw [hl]
  show min (min (1023 - (q.val * 1023 + (255 + k.val)) % 1024) 512) 512 = _
  rw [hm]
  omega

/-- The choice between table and −∞ at one element. -/
theorem choose_apply (k : IVec S3x1x256x768 1) (b : FVec Ideal S1x8x256x768 .f32) (z : FVec Ideal S_ .f32) (n : Fin 3) (h : Fin 8) (q : Fin 256) (x : Fin 768) :
    choose k b z (ix4 n h q x) = Scalar.select (k (ix4 n 0 q x)) (b (ix4 0 h q x)) (z ix0) := by
  pointwise [choose]
  rfl

/-- The three masks, read at one element. -/
theorem stack_apply (a b c : IVec S256x768 1) (n : Fin 3) (q : Fin 256) (x : Fin 768) :
    stack a b c (ix3 n q x) = (![a, b, c] n) (ix2 q x) := by
  pointwise [stack]
  fin_cases n
  · rw [dif_pos (by decide)]; rfl
  · rw [dif_neg (by decide), dif_pos (by decide)]; rfl
  · rw [dif_neg (by decide), dif_neg (by decide)]; rfl

/-- The bias read at one element: the table's entry where the key lies in the band and not before the sequence, −∞
    elsewhere. -/
theorem bias_apply (t : FVec Ideal S8x513 .f32) (n : Fin 3) (h : Fin 8) (q : Fin 256) (k : Fin 768) :
    bias t (ix4 n h q k) = if (q.val / 64 ≤ k.val / 64 ∧ k.val / 64 ≤ q.val / 64 + 8) ∧ 2 - n.val ≤ k.val / 256 then t (ix2 h (rel q k)) else ⊥ := by
  have hz : constant (F := Ideal) S_ .f32 0xFF800000#32 ix0 = (⊥ : EReal) := by
    show Ideal.ofBits FTy.f32 0xFF800000#32 = ⊥
    simp [Ideal.ofBits, Ideal.ieee]
  have hb : broadcastInDim S1x8x256x768 ![1, 2, 3] bcast_S8x256x768_S1x8x256x768_1_2_3 (distances t) (ix4 0 h q k) = t (ix2 h (rel q k)) := by
    rw [show t (ix2 h (rel q k)) = distances t (ix3 h q k) from (distances_apply t h q k).symm]; generalize (distances t : FVec Ideal S8x256x768 .f32) = d; pointwise
  have hk : broadcastInDim S3x1x256x768 ![0, 2, 3] bcast_S3x256x768_S3x1x256x768_0_2_3 (stack (counts 2#32) (counts 1#32) (counts 0#32)) (ix4 n 0 q k)
      = counts (BitVec.ofNat 32 (2 - n.val)) (ix2 q k) := by
    have h2 : stack (counts 2#32) (counts 1#32) (counts 0#32) (ix3 n q k) = counts (BitVec.ofNat 32 (2 - n.val)) (ix2 q k) := by
      rw [stack_apply]; fin_cases n <;> rfl
    rw [← h2]; generalize stack (counts 2#32) (counts 1#32) (counts 0#32) = d; pointwise
  unfold bias
  rw [choose_apply, hb, hk, hz, counts_apply _ (by omega)]
  unfold Scalar.select
  split_ifs <;> simp_all

end Cert.BandIdeal.Bias

end
-- ==== Proof.Band.Blocks.lean ====
/-
  The blocks a grid point of the band attention kernel loads, read at an element: the point's own 256 queries, the key
  and value rows of its own block and of the two before it (the first block again where there are none), and the bias of
  the place the point's block has in the sequence.
-/
module

public import proofs.«01_k».proof.Proof.Band.BiasValue
public import Idealize.ShloMosaic.Lib.Pipeline.ValueKit

@[expose] public section

set_option maxRecDepth 16384

noncomputable section

namespace Cert.BandIdeal.Blocks

open Cert.BandIdeal Cert.BandIdeal.Gen Idealize.ShloMosaic Idealize.ShloMosaic.TcCoe

variable (m : (ℓ : Loc nD τ sig) → Buf (Elt Ideal) ℓ)

/-- Which block each window stages at a grid point. -/
theorem idx : ∀ t : Fin cfg0.N, win0_0.index t = ![t.val, 0] ∧ win0_1.index t = ![t.val - 2, 0] ∧ win0_2.index t = ![t.val - 1, 0]
    ∧ win0_3.index t = ![t.val, 0] ∧ win0_4.index t = ![t.val - 2, 0] ∧ win0_5.index t = ![t.val - 1, 0] ∧ win0_6.index t = ![t.val, 0]
    ∧ win0_7.index t = ![min t.val 2, 0, 0, 0] ∧ win0_8.index t = ![t.val, 0] ∧ t.val < 64 :=
  (by decide +kernel : ∀ t : Fin grid0.N, _)

/-- The row of the whole array at which a block's row `j` lies. -/
def at' (n : ℕ) (hn : n < 64) (j : Fin 256) : Fin 16384 := ⟨n * 256 + j.val, by omega⟩

theorem q_at (c : Dev nD) (t : Fin cfg0.N) (ht : t.val < 64) (j : Fin 256) (l : Fin 512) :
    iblk m c 0 t (ix2 j l) = m ((c.tc : Thread nD τ).loc main_arg0) (ix2 (at' t.val ht j) l) := by
  unfold at'; blk_ext [iblk, V_main_arg0, idx t]
theorem k_at0 (c : Dev nD) (t : Fin cfg0.N) (ht : t.val - 2 < 64) (j : Fin 256) (l : Fin 512) :
    iblk m c 1 t (ix2 j l) = m ((c.tc : Thread nD τ).loc main_arg1) (ix2 (at' (t.val - 2) ht j) l) := by
  unfold at'; blk_ext [iblk, V_main_arg1, idx t]
theorem k_at1 (c : Dev nD) (t : Fin cfg0.N) (ht : t.val - 1 < 64) (j : Fin 256) (l : Fin 512) :
    iblk m c 2 t (ix2 j l) = m ((c.tc : Thread nD τ).loc main_arg1) (ix2 (at' (t.val - 1) ht j) l) := by
  unfold at'; blk_ext [iblk, V_main_arg1, idx t]
theorem k_at2 (c : Dev nD) (t : Fin cfg0.N) (ht : t.val < 64) (j : Fin 256) (l : Fin 512) :
    iblk m c 3 t (ix2 j l) = m ((c.tc : Thread nD τ).loc main_arg1) (ix2 (at' t.val ht j) l) := by
  unfold at'; blk_ext [iblk, V_main_arg1, idx t]
theorem v_at0 (c : Dev nD) (t : Fin cfg0.N) (ht : t.val - 2 < 64) (j : Fin 256) (l : Fin 512) :
    iblk m c 4 t (ix2 j l) = m ((c.tc : Thread nD τ).loc main_arg2) (ix2 (at' (t.val - 2) ht j) l) := by
  unfold at'; blk_ext [iblk, V_main_arg2, idx t]
theorem v_at1 (c : Dev nD) (t : Fin cfg0.N) (ht : t.val - 1 < 64) (j : Fin 256) (l : Fin 512) :
    iblk m c 5 t (ix2 j l) = m ((c.tc : Thread nD τ).loc main_arg2) (ix2 (at' (t.val - 1) ht j) l) := by
  unfold at'; blk_ext [iblk, V_main_arg2, idx t]
theorem v_at2 (c : Dev nD) (t : Fin cfg0.N) (ht : t.val < 64) (j : Fin 256) (l : Fin 512) :
    iblk m c 6 t (ix2 j l) = m ((c.tc : Thread nD τ).loc main_arg2) (ix2 (at' t.val ht j) l) := by
  unfold at'; blk_ext [iblk, V_main_arg2, idx t]
theorem b_at (c : Dev nD) (t : Fin cfg0.N) (h : Fin 8) (r : Fin 256) (x : Fin 768) :
    iblk m c 7 t (ix4 0 h r x) = Bias.bias (m ((c.tc : Thread nD τ).loc main_arg3)) (ix4 ⟨min t.val 2, by omega⟩ h r x) := by
  rw [← Bias.entry m c]
  generalize hV : V m c main_v49 = B
  blk_ext [iblk, hV, idx t]

end Cert.BandIdeal.Blocks

end
-- ==== Proof.Band.KernelValue.lean ====
/-
  The band attention kernel's result array, element by element, as a function of its arguments.
-/
module

public import proofs.«01_k».proof.Proof.Band.PairRuns
public import proofs.«01_k».proof.Proof.Band.Blocks

@[expose] public section

set_option maxRecDepth 16384

noncomputable section

namespace Cert.BandIdeal.Whole

open Cert.BandIdeal Cert.BandIdeal.Gen Idealize.ShloMosaic Idealize.ShloMosaic.TcCoe Cert.Softmax Blocks Attn

/-- The column of feature `d` of head `h`. -/
def col (h : Fin 8) (d : Fin 64) : Fin 512 := ⟨h.val * 64 + d.val, by omega⟩

/-- The row of the array at which the `x`-th of the 768 keys of block `t` lies. -/
def keyRow (t : Fin 64) (x : Fin 768) : Fin 16384 := at' (t.val + x.val / 256 - 2) (by omega) ⟨x.val % 256, by omega⟩

/-- The score in base two of query `r` of block `t` and the `x`-th of its 768 keys. -/
def kScore (Q K : FVec Ideal S16384x512 .bf16) (T : FVec Ideal S8x513 .f32) (t : Fin 64) (r : Fin 256) (h : Fin 8) (x : Fin 768) : EReal :=
  (∑ d : Fin 64, Q (ix2 (at' t.val t.isLt r) (col h d)) * K (ix2 (keyRow t x) (col h d)))
    + Bias.bias (F := Ideal) T (ix4 ⟨min t.val 2, by omega⟩ h r x) * (((Real.log 2)⁻¹ : ℝ) : EReal)

/-- Feature `d` of head `h` of the attention of query `r` of block `t`. -/
def kAttn (Q K V : FVec Ideal S16384x512 .bf16) (T : FVec Ideal S8x513 .f32) (t : Fin 64) (r : Fin 256) (h : Fin 8) (d : Fin 64) : EReal :=
  Ideal.div (∑ x, Ideal.exp2 (kScore Q K T t r h x - top (kScore Q K T t r h)) * V (ix2 (keyRow t x) (col h d)))
    (∑ x, Ideal.exp2 (kScore Q K T t r h x - top (kScore Q K T t r h)))

/-- The whole result. -/
def kOut (Q K V : FVec Ideal S16384x512 .bf16) (T : FVec Ideal S8x513 .f32) : FVec Ideal S16384x512 .bf16 := fun i =>
  kAttn Q K V T ⟨(i 0).val / 256, by have : (i 0).val < 16384 := (i 0).isLt; omega⟩ ⟨(i 0).val % 256, by omega⟩
    ⟨(i 1).val / 64, by have : (i 1).val < 512 := (i 1).isLt; omega⟩ ⟨(i 1).val % 64, by omega⟩

variable (m : (ℓ : Loc nD τ sig) → Buf (Elt Ideal) ℓ)

theorem keyRow_run0 (t : Fin 64) (j : Fin 256) : keyRow t (run 0 j) = at' (t.val - 2) (by omega) j :=
  Fin.ext (by simp only [keyRow, run, at']; have := j.isLt; simp; omega)
theorem keyRow_run1 (t : Fin 64) (j : Fin 256) : keyRow t (run 1 j) = at' (t.val - 1) (by omega) j :=
  Fin.ext (by simp only [keyRow, run, at']; have := j.isLt; simp; omega)
theorem keyRow_run2 (t : Fin 64) (j : Fin 256) : keyRow t (run 2 j) = at' t.val t.isLt j :=
  Fin.ext (by simp only [keyRow, run, at']; have := j.isLt; simp; omega)

/-- One pair's output from the blocks of point `t`: `p` is the pair's number, and the loads are given by what they read. -/
theorem pair_point (c : Dev nD) (t : Fin cfg0.N) (ht : t.val < 64) (p : Fin 4)
    (q k0 k1 k2 v0 v1 v2 : Vec Ideal S256x128 .bf16) (b00 b01 b10 b11 b20 b21 : Vec Ideal S1x1x256x256 .f32)
    (hq : ∀ r l, q (ix2 r l) = iblk m c 0 t (ix2 r ⟨p.val * 128 + l.val, by omega⟩))
    (hk0 : ∀ r l, k0 (ix2 r l) = iblk m c 1 t (ix2 r ⟨p.val * 128 + l.val, by omega⟩))
    (hk1 : ∀ r l, k1 (ix2 r l) = iblk m c 2 t (ix2 r ⟨p.val * 128 + l.val, by omega⟩))
    (hk2 : ∀ r l, k2 (ix2 r l) = iblk m c 3 t (ix2 r ⟨p.val * 128 + l.val, by omega⟩))
    (hv0 : ∀ r l, v0 (ix2 r l) = iblk m c 4 t (ix2 r ⟨p.val * 128 + l.val, by omega⟩))
    (hv1 : ∀ r l, v1 (ix2 r l) = iblk m c 5 t (ix2 r ⟨p.val * 128 + l.val, by omega⟩))
    (hv2 : ∀ r l, v2 (ix2 r l) = iblk m c 6 t (ix2 r ⟨p.val * 128 + l.val, by omega⟩))
    (hb00 : ∀ r j, b00 (ix4 0 0 r j) = iblk m c 7 t (ix4 0 ⟨p.val * 2, by omega⟩ r (run 0 j)))
    (hb01 : ∀ r j, b01 (ix4 0 0 r j) = iblk m c 7 t (ix4 0 ⟨p.val * 2 + 1, by omega⟩ r (run 0 j)))
    (hb10 : ∀ r j, b10 (ix4 0 0 r j) = iblk m c 7 t (ix4 0 ⟨p.val * 2, by omega⟩ r (run 1 j)))
    (hb11 : ∀ r j, b11 (ix4 0 0 r j) = iblk m c 7 t (ix4 0 ⟨p.val * 2 + 1, by omega⟩ r (run 1 j)))
    (hb20 : ∀ r j, b20 (ix4 0 0 r j) = iblk m c 7 t (ix4 0 ⟨p.val * 2, by omega⟩ r (run 2 j)))
    (hb21 : ∀ r j, b21 (ix4 0 0 r j) = iblk m c 7 t (ix4 0 ⟨p.val * 2 + 1, by omega⟩ r (run 2 j)))
    (r : Fin 256) (h : Fin 2) (d : Fin 64) :
    pairOut q k0 k1 k2 v0 v1 v2 b00 b01 b10 b11 b20 b21 (ix2 r (lane h d))
      = kAttn (m ((c.tc : Thread nD τ).loc main_arg0)) (m ((c.tc : Thread nD τ).loc main_arg1)) (m ((c.tc : Thread nD τ).loc main_arg2))
        (m ((c.tc : Thread nD τ).loc main_arg3)) ⟨t.val, ht⟩ r ⟨p.val * 2 + h.val, by omega⟩ d := by
  have hl : ∀ d : Fin 64, (⟨p.val * 128 + (lane h d).val, by omega⟩ : Fin 512) = col ⟨p.val * 2 + h.val, by omega⟩ d :=
    fun d => Fin.ext (by simp only [lane, col]; omega)
  have hB : ∀ (b : Fin 3) (j : Fin 256) (x y : Vec Ideal S1x1x256x256 .f32)
      (hx : x (ix4 0 0 r j) = iblk m c 7 t (ix4 0 ⟨p.val * 2, by omega⟩ r (run b j)))
      (hy : y (ix4 0 0 r j) = iblk m c 7 t (ix4 0 ⟨p.val * 2 + 1, by omega⟩ r (run b j))),
      (![x, y] h) (ix4 0 0 r j) = Bias.bias (F := Ideal) (m ((c.tc : Thread nD τ).loc main_arg3))
        (ix4 ⟨min t.val 2, by omega⟩ ⟨p.val * 2 + h.val, by omega⟩ r (run b j)) := by
    intro b j x y hx hy
    rw [← b_at m c t]
    fin_cases h
    · exact hx
    · exact hy
  unfold kAttn
  refine pairOut_apply q k0 k1 k2 v0 v1 v2 b00 b01 b10 b11 b20 b21 h r d _ (fun x => m ((c.tc : Thread nD τ).loc main_arg2) (ix2 (keyRow ⟨t.val, ht⟩ x) (col ⟨p.val * 2 + h.val, by omega⟩ d))) ?_ ?_ ?_ ?_ ?_ ?_
  · intro j
    unfold scoreOf kScore
    rw [hB 0 j _ _ (hb00 r j) (hb01 r j)]
    refine congrArg (fun z : EReal => z + _) (Finset.sum_congr rfl fun d _ => ?_)
    rw [hq, hk0, hl, q_at m c t ht, k_at0 m c t (by omega), keyRow_run0]
  · intro j
    unfold scoreOf kScore
    rw [hB 1 j _ _ (hb10 r j) (hb11 r j)]
    refine congrArg (fun z : EReal => z + _) (Finset.sum_congr rfl fun d _ => ?_)
    rw [hq, hk1, hl, q_at m c t ht, k_at1 m c t (by omega), keyRow_run1]
  · intro j
    unfold scoreOf kScore
    rw [hB 2 j _ _ (hb20 r j) (hb21 r j)]
    refine congrArg (fun z : EReal => z + _) (Finset.sum_congr rfl fun d _ => ?_)
    rw [hq, hk2, hl, q_at m c t ht, k_at2 m c t ht, keyRow_run2]
  · intro j
    rw [hv0, hl, v_at0 m c t (by omega), keyRow_run0]
  · intro j
    rw [hv1, hl, v_at1 m c t (by omega), keyRow_run1]
  · intro j
    rw [hv2, hl, v_at2 m c t ht, keyRow_run2]

end Cert.BandIdeal.Whole

end
-- ==== Proof.Band.KernelFinal.lean ====
/-
  The band attention kernel's result array after the run is `kOut` of its arguments: each grid point writes its own 256
  rows, pair by pair.
-/
module

public import proofs.«01_k».proof.Proof.Band.KernelValue
public import Idealize.ShloMosaic.Lib.Pipeline.ValueKit

@[expose] public section

set_option maxRecDepth 16384

noncomputable section

namespace Cert.BandIdeal.Whole

open Cert.BandIdeal Cert.BandIdeal.Gen Idealize.ShloMosaic Idealize.ShloMosaic.TcCoe Cert.Softmax Blocks Attn

variable (m : (ℓ : Loc nD τ sig) → Buf (Elt Ideal) ℓ)

/-- `kOut` read at row `256 t + r` and at a lane of pair `p`. -/
theorem kOut_at (Q K V : FVec Ideal S16384x512 .bf16) (T : FVec Ideal S8x513 .f32) (t : Fin 64) (r : Fin 256) (p : Fin 4) (l : Fin 128) (i : S16384x512.Idx)
    (h0 : (i 0 : ℕ) = t.val * 256 + r.val) (h1 : (i 1 : ℕ) = p.val * 128 + l.val) :
    kOut Q K V T i = kAttn Q K V T t r ⟨p.val * 2 + l.val / 64, by omega⟩ ⟨l.val % 64, by omega⟩ := by
  unfold kOut
  congr 1 <;> exact Fin.ext (by simp only [h0, h1]; omega)

/-- An index of a pair's block is a row, a head and a feature. -/
theorem x_lane (x : S256x128.Idx) (h0 : (x 0 : ℕ) < 256) (h1 : (x 1 : ℕ) < 128) :
    x = ix2 (⟨x 0, h0⟩ : Fin 256) (lane ⟨(x 1 : ℕ) / 64, by omega⟩ ⟨(x 1 : ℕ) % 64, by omega⟩) := by
  funext a
  have h01 : a = 0 ∨ a = 1 := by
    match a with
    | ⟨0, _⟩ => exact .inl rfl
    | ⟨1, _⟩ => exact .inr rfl
  rcases h01 with rfl | rfl
  · rfl
  · exact Fin.ext (Nat.div_add_mod' _ _).symm

/-- A load of 128 lanes from lane `o` on. -/
theorem ld_pair (X : Vec Ideal S256x512 .bf16) (o : ℕ) (inb) (r : Fin 256) (l : Fin 128) (h : o + l.val < 512) :
    View.ld X (Rect.unit (s := S256x512) ![0, o] S256x128.size inb) (ix2 r l) = X (ix2 r ⟨o + l.val, h⟩) :=
  View.ld_unit_apply_of X _ _ inb _ _ fun a => by
    match a with
    | ⟨0, _⟩ => exact (Nat.zero_add _).symm
    | ⟨1, _⟩ => rfl

/-- A load of one head's bias for 256 keys from key `o` on. -/
theorem ld_bias (X : Vec Ideal S1x8x256x768 .f32) (n o : ℕ) (inb) (r j : Fin 256) (hn : n < 8) (h : o + j.val < 768) :
    View.ld X (Rect.unit (s := S1x8x256x768) ![0, n, 0, o] S1x1x256x256.size inb) (ix4 0 0 r j) = X (ix4 0 ⟨n, hn⟩ r ⟨o + j.val, h⟩) :=
  View.ld_unit_apply_of X _ _ inb _ _ fun a => by
    match a with
    | ⟨0, _⟩ => rfl
    | ⟨1, _⟩ => rfl
    | ⟨2, _⟩ => exact (Nat.zero_add _).symm
    | ⟨3, _⟩ => rfl

theorem ld0 (X : Vec Ideal S256x512 .bf16) (r : Fin 256) (l : Fin 128) :
    View.ld X r0_0 (ix2 r l) = X (ix2 r ⟨(0 : Fin 4).val * 128 + l.val, by omega⟩) := ld_pair X _ _ r l (by omega)
theorem ldb0_00 (X : Vec Ideal S1x8x256x768 .f32) (r j : Fin 256) :
    View.ld X r0_1 (ix4 0 0 r j) = X (ix4 0 ⟨(0 : Fin 4).val * 2, by omega⟩ r (run 0 j)) := ld_bias X _ _ _ r j (by omega) (by omega)
theorem ldb0_01 (X : Vec Ideal S1x8x256x768 .f32) (r j : Fin 256) :
    View.ld X r0_2 (ix4 0 0 r j) = X (ix4 0 ⟨(0 : Fin 4).val * 2 + 1, by omega⟩ r (run 0 j)) := ld_bias X _ _ _ r j (by omega) (by omega)
theorem ldb0_10 (X : Vec Ideal S1x8x256x768 .f32) (r j : Fin 256) :
    View.ld X r0_3 (ix4 0 0 r j) = X (ix4 0 ⟨(0 : Fin 4).val * 2, by omega⟩ r (run 1 j)) := ld_bias X _ _ _ r j (by omega) (by omega)
theorem ldb0_11 (X : Vec Ideal S1x8x256x768 .f32) (r j : Fin 256) :
    View.ld X r0_4 (ix4 0 0 r j) = X (ix4 0 ⟨(0 : Fin 4).val * 2 + 1, by omega⟩ r (run 1 j)) := ld_bias X _ _ _ r j (by omega) (by omega)
theorem ldb0_20 (X : Vec Ideal S1x8x256x768 .f32) (r j : Fin 256) :
    View.ld X r0_5 (ix4 0 0 r j) = X (ix4 0 ⟨(0 : Fin 4).val * 2, by omega⟩ r (run 2 j)) := ld_bias X _ _ _ r j (by omega) (by omega)
theorem ldb0_21 (X : Vec Ideal S1x8x256x768 .f32) (r j : Fin 256) :
    View.ld X r0_6 (ix4 0 0 r j) = X (ix4 0 ⟨(0 : Fin 4).val * 2 + 1, by omega⟩ r (run 2 j)) := ld_bias X _ _ _ r j (by omega) (by omega)
theorem ld1 (X : Vec Ideal S256x512 .bf16) (r : Fin 256) (l : Fin 128) :
    View.ld X r0_7 (ix2 r l) = X (ix2 r ⟨(1 : Fin 4).val * 128 + l.val, by omega⟩) := ld_pair X _ _ r l (by omega)
theorem ldb1_00 (X : Vec Ideal S1x8x256x768 .f32) (r j : Fin 256) :
    View.ld X r0_8 (ix4 0 0 r j) = X (ix4 0 ⟨(1 : Fin 4).val * 2, by omega⟩ r (run 0 j)) := ld_bias X _ _ _ r j (by omega) (by omega)
theorem ldb1_01 (X : Vec Ideal S1x8x256x768 .f32) (r j : Fin 256) :
    View.ld X r0_9 (ix4 0 0 r j) = X (ix4 0 ⟨(1 : Fin 4).val * 2 + 1, by omega⟩ r (run 0 j)) := ld_bias X _ _ _ r j (by omega) (by omega)
theorem ldb1_10 (X : Vec Ideal S1x8x256x768 .f32) (r j : Fin 256) :
    View.ld X r0_10 (ix4 0 0 r j) = X (ix4 0 ⟨(1 : Fin 4).val * 2, by omega⟩ r (run 1 j)) := ld_bias X _ _ _ r j (by omega) (by omega)
theorem ldb1_11 (X : Vec Ideal S1x8x256x768 .f32) (r j : Fin 256) :
    View.ld X r0_11 (ix4 0 0 r j) = X (ix4 0 ⟨(1 : Fin 4).val * 2 + 1, by omega⟩ r (run 1 j)) := ld_bias X _ _ _ r j (by omega) (by omega)
theorem ldb1_20 (X : Vec Ideal S1x8x256x768 .f32) (r j : Fin 256) :
    View.ld X r0_12 (ix4 0 0 r j) = X (ix4 0 ⟨(1 : Fin 4).val * 2, by omega⟩ r (run 2 j)) := ld_bias X _ _ _ r j (by omega) (by omega)
theorem ldb1_21 (X : Vec Ideal S1x8x256x768 .f32) (r j : Fin 256) :
    View.ld X r0_13 (ix4 0 0 r j) = X (ix4 0 ⟨(1 : Fin 4).val * 2 + 1, by omega⟩ r (run 2 j)) := ld_bias X _ _ _ r j (by omega) (by omega)
theorem ld2 (X : Vec Ideal S256x512 .bf16) (r : Fin 256) (l : Fin 128) :
    View.ld X r0_14 (ix2 r l) = X (ix2 r ⟨(2 : Fin 4).val * 128 + l.val, by omega⟩) := ld_pair X _ _ r l (by omega)
theorem ldb2_00 (X : Vec Ideal S1x8x256x768 .f32) (r j : Fin 256) :
    View.ld X r0_15 (ix4 0 0 r j) = X (ix4 0 ⟨(2 : Fin 4).val * 2, by omega⟩ r (run 0 j)) := ld_bias X _ _ _ r j (by omega) (by omega)
theorem ldb2_01 (X : Vec Ideal S1x8x256x768 .f32) (r j : Fin 256) :
    View.ld X r0_16 (ix4 0 0 r j) = X (ix4 0 ⟨(2 : Fin 4).val * 2 + 1, by omega⟩ r (run 0 j)) := ld_bias X _ _ _ r j (by omega) (by omega)
theorem ldb2_10 (X : Vec Ideal S1x8x256x768 .f32) (r j : Fin 256) :
    View.ld X r0_17 (ix4 0 0 r j) = X (ix4 0 ⟨(2 : Fin 4).val * 2, by omega⟩ r (run 1 j)) := ld_bias X _ _ _ r j (by omega) (by omega)
theorem ldb2_11 (X : Vec Ideal S1x8x256x768 .f32) (r j : Fin 256) :
    View.ld X r0_18 (ix4 0 0 r j) = X (ix4 0 ⟨(2 : Fin 4).val * 2 + 1, by omega⟩ r (run 1 j)) := ld_bias X _ _ _ r j (by omega) (by omega)
theorem ldb2_20 (X : Vec Ideal S1x8x256x768 .f32) (r j : Fin 256) :
    View.ld X r0_19 (ix4 0 0 r j) = X (ix4 0 ⟨(2 : Fin 4).val * 2, by omega⟩ r (run 2 j)) := ld_bias X _ _ _ r j (by omega) (by omega)
theorem ldb2_21 (X : Vec Ideal S1x8x256x768 .f32) (r j : Fin 256) :
    View.ld X r0_20 (ix4 0 0 r j) = X (ix4 0 ⟨(2 : Fin 4).val * 2 + 1, by omega⟩ r (run 2 j)) := ld_bias X _ _ _ r j (by omega) (by omega)
theorem ld3 (X : Vec Ideal S256x512 .bf16) (r : Fin 256) (l : Fin 128) :
    View.ld X r0_21 (ix2 r l) = X (ix2 r ⟨(3 : Fin 4).val * 128 + l.val, by omega⟩) := ld_pair X _ _ r l (by omega)
theorem ldb3_00 (X : Vec Ideal S1x8x256x768 .f32) (r j : Fin 256) :
    View.ld X r0_22 (ix4 0 0 r j) = X (ix4 0 ⟨(3 : Fin 4).val * 2, by omega⟩ r (run 0 j)) := ld_bias X _ _ _ r j (by omega) (by omega)
theorem ldb3_01 (X : Vec Ideal S1x8x256x768 .f32) (r j : Fin 256) :
    View.ld X r0_23 (ix4 0 0 r j) = X (ix4 0 ⟨(3 : Fin 4).val * 2 + 1, by omega⟩ r (run 0 j)) := ld_bias X _ _ _ r j (by omega) (by omega)
theorem ldb3_10 (X : Vec Ideal S1x8x256x768 .f32) (r j : Fin 256) :
    View.ld X r0_24 (ix4 0 0 r j) = X (ix4 0 ⟨(3 : Fin 4).val * 2, by omega⟩ r (run 1 j)) := ld_bias X _ _ _ r j (by omega) (by omega)
theorem ldb3_11 (X : Vec Ideal S1x8x256x768 .f32) (r j : Fin 256) :
    View.ld X r0_25 (ix4 0 0 r j) = X (ix4 0 ⟨(3 : Fin 4).val * 2 + 1, by omega⟩ r (run 1 j)) := ld_bias X _ _ _ r j (by omega) (by omega)
theorem ldb3_20 (X : Vec Ideal S1x8x256x768 .f32) (r j : Fin 256) :
    View.ld X r0_26 (ix4 0 0 r j) = X (ix4 0 ⟨(3 : Fin 4).val * 2, by omega⟩ r (run 2 j)) := ld_bias X _ _ _ r j (by omega) (by omega)
theorem ldb3_21 (X : Vec Ideal S1x8x256x768 .f32) (r j : Fin 256) :
    View.ld X r0_27 (ix4 0 0 r j) = X (ix4 0 ⟨(3 : Fin 4).val * 2 + 1, by omega⟩ r (run 2 j)) := ld_bias X _ _ _ r j (by omega) (by omega)

theorem point (c : Dev nD) (t : Fin cfg0.N) (y : S256x512.Idx) :
    out0_8 (iblk m c 0 t) (iblk m c 1 t) (iblk m c 2 t) (iblk m c 3 t) (iblk m c 4 t) (iblk m c 5 t) (iblk m c 6 t) (iblk m c 7 t) y
      = kOut (m ((c.tc : Thread nD τ).loc main_arg0)) (m ((c.tc : Thread nD τ).loc main_arg1)) (m ((c.tc : Thread nD τ).loc main_arg2))
        (m ((c.tc : Thread nD τ).loc main_arg3)) (((cfg0.win 8).blk t).view.emb y) := by
  have ht : t.val < 64 := (idx t).2.2.2.2.2.2.2.2.2
  rw [out_eq]
  canon_tiles x h
  · rw [kOut_at _ _ _ _ ⟨t.val, ht⟩ ⟨x 0, x0_lt⟩ 3 ⟨x 1, x1_lt⟩ _ (by blk_simp [idx t]; simp only [h0]) (by blk_simp [idx t]; simp [h1])]
    refine (congrArg _ (x_lane x x0_lt x1_lt)).trans ?_
    exact pair_point m c t ht 3 _ _ _ _ _ _ _ _ _ _ _ _ _ (ld3 _) (ld3 _) (ld3 _) (ld3 _) (ld3 _) (ld3 _) (ld3 _) (ldb3_00 _) (ldb3_01 _) (ldb3_10 _) (ldb3_11 _) (ldb3_20 _) (ldb3_21 _) _ ⟨(x 1).val / 64, by omega⟩ _
  · rw [kOut_at _ _ _ _ ⟨t.val, ht⟩ ⟨x 0, x0_lt⟩ 2 ⟨x 1, x1_lt⟩ _ (by blk_simp [idx t]; simp only [h0]) (by blk_simp [idx t]; simp [h1])]
    refine (congrArg _ (x_lane x x0_lt x1_lt)).trans ?_
    exact pair_point m c t ht 2 _ _ _ _ _ _ _ _ _ _ _ _ _ (ld2 _) (ld2 _) (ld2 _) (ld2 _) (ld2 _) (ld2 _) (ld2 _) (ldb2_00 _) (ldb2_01 _) (ldb2_10 _) (ldb2_11 _) (ldb2_20 _) (ldb2_21 _) _ ⟨(x 1).val / 64, by omega⟩ _
  · rw [kOut_at _ _ _ _ ⟨t.val, ht⟩ ⟨x 0, x0_lt⟩ 1 ⟨x 1, x1_lt⟩ _ (by blk_simp [idx t]; simp only [h0]) (by blk_simp [idx t]; simp [h1])]
    refine (congrArg _ (x_lane x x0_lt x1_lt)).trans ?_
    exact pair_point m c t ht 1 _ _ _ _ _ _ _ _ _ _ _ _ _ (ld1 _) (ld1 _) (ld1 _) (ld1 _) (ld1 _) (ld1 _) (ld1 _) (ldb1_00 _) (ldb1_01 _) (ldb1_10 _) (ldb1_11 _) (ldb1_20 _) (ldb1_21 _) _ ⟨(x 1).val / 64, by omega⟩ _
  · rw [kOut_at _ _ _ _ ⟨t.val, ht⟩ ⟨x 0, x0_lt⟩ 0 ⟨x 1, x1_lt⟩ _ (by blk_simp [idx t]; simp only [h0]) (by blk_simp [idx t]; simp [h1])]
    refine (congrArg _ (x_lane x x0_lt x1_lt)).trans ?_
    exact pair_point m c t ht 0 _ _ _ _ _ _ _ _ _ _ _ _ _ (ld0 _) (ld0 _) (ld0 _) (ld0 _) (ld0 _) (ld0 _) (ld0 _) (ldb0_00 _) (ldb0_01 _) (ldb0_10 _) (ldb0_11 _) (ldb0_20 _) (ldb0_21 _) _ ⟨(x 1).val / 64, by omega⟩ _

/-- The result array after the run. -/
theorem final (c : Dev nD) : (dats m 0 c).arrAt 8 (cfgs 0).N
    = kOut (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 8 _ (by decide +kernel) fun t _ y => ?_
  blk_simp
  rw [after0_8]
  exact point m c t y

end Cert.BandIdeal.Whole

end
-- ==== Proof.Band.RefTerms.lean ====
/-
  The reference's attention, cut into named steps: the padded keys and values, the nine chunks a query's chunk sees, the
  distances, the mask, the scores and the softmax. `res_eq` says that the reference's result is these steps in a row.
-/
module

public import proofs.«01_k».proof.Proof.Gen.BandRefIdeal.Run
public import Idealize.ShloMosaic.Lib.Pointwise

@[expose] public section

set_option maxRecDepth 16384

noncomputable section

namespace Cert.BandRefIdeal.Attn

open Cert.BandRefIdeal Cert.BandRefIdeal.Gen Idealize.ShloMosaic Idealize.ShloMosaic.TcCoe

variable {F : FTy → Type} [FloatOps F]

/-- Keys or values in chunks of 64, with eight chunks of zeros before them. -/
def padded (x : FVec F S16384x512 .bf16) : FVec F S1x264x64x8x64 .f32 :=
  shapeCast _ (concatenate S1x16896x8x64 1 [⟨S1x512x8x64, (broadcastInDim S1x512x8x64 ![] bcast_S_S1x512x8x64 (constant S_ .f32 0x00000000#32))⟩,
    ⟨S1x16384x8x64, (shapeCast _ (extf .f32 x bitsLt_bf16_f32) shapeCasts_S16384x512_S1x16384x8x64)⟩]
    concatenates_S1x512x8x64_S1x16384x8x64_S1x16896x8x64_d1) shapeCasts_S1x16896x8x64_S1x264x64x8x64

/-- For each chunk, the nine chunks that end at it. -/
def bands (x : FVec F S1x264x64x8x64 .f32) : FVec F S1x256x576x8x64 .f32 :=
  concatenate S1x256x576x8x64 2 [⟨S1x256x64x8x64, extractStridedSlice S1x256x64x8x64 ![0, 0, 0, 0, 0] x slices_S1x264x64x8x64_S1x256x64x8x64_0_0_0_0_0⟩, ⟨S1x256x64x8x64, extractStridedSlice S1x256x64x8x64 ![0, 1, 0, 0, 0] x slices_S1x264x64x8x64_S1x256x64x8x64_0_1_0_0_0⟩, ⟨S1x256x64x8x64, extractStridedSlice S1x256x64x8x64 ![0, 2, 0, 0, 0] x slices_S1x264x64x8x64_S1x256x64x8x64_0_2_0_0_0⟩, ⟨S1x256x64x8x64, extractStridedSlice S1x256x64x8x64 ![0, 3, 0, 0, 0] x slices_S1x264x64x8x64_S1x256x64x8x64_0_3_0_0_0⟩, ⟨S1x256x64x8x64, extractStridedSlice S1x256x64x8x64 ![0, 4, 0, 0, 0] x slices_S1x264x64x8x64_S1x256x64x8x64_0_4_0_0_0⟩, ⟨S1x256x64x8x64, extractStridedSlice S1x256x64x8x64 ![0, 5, 0, 0, 0] x slices_S1x264x64x8x64_S1x256x64x8x64_0_5_0_0_0⟩, ⟨S1x256x64x8x64, extractStridedSlice S1x256x64x8x64 ![0, 6, 0, 0, 0] x slices_S1x264x64x8x64_S1x256x64x8x64_0_6_0_0_0⟩, ⟨S1x256x64x8x64, extractStridedSlice S1x256x64x8x64 ![0, 7, 0, 0, 0] x slices_S1x264x64x8x64_S1x256x64x8x64_0_7_0_0_0⟩, ⟨S1x256x64x8x64, extractStridedSlice S1x256x64x8x64 ![0, 8, 0, 0, 0] x slices_S1x264x64x8x64_S1x256x64x8x64_0_8_0_0_0⟩] concatenates_S1x256x64x8x64_S1x256x64x8x64_S1x256x64x8x64_S1x256x64x8x64_S1x256x64x8x64_S1x256x64x8x64_S1x256x64x8x64_S1x256x64x8x64_S1x256x64x8x64_S1x256x576x8x64_d2

/-- The queries in chunks. -/
def queries (x : FVec F S16384x512 .bf16) : FVec F S1x256x64x8x64 .f32 :=
  shapeCast _ (shapeCast _ (extf .f32 x bitsLt_bf16_f32) shapeCasts_S16384x512_S1x16384x8x64) shapeCasts_S1x16384x8x64_S1x256x64x8x64

/-- The distance between query and key, cut off at 256 on both sides and counted from there. -/
def clipped : IVec S64x576 32 :=
  addi (minsi (broadcastInDim S64x576 ![] bcast_S_S64x576 (id (constantI S_ 32 256#32))) (maxsi (broadcastInDim S64x576 ![] bcast_S_S64x576 (id (constantI S_ 32 4294967040#32))) (subi (broadcastInDim S64x576 ![0, 1] bcast_S64x1_S64x576_0_1 (addi (broadcastInDim S64x1 ![0] bcast_S64_S64x1_0 (iotaInDim S64 32 0)) (broadcastInDim S64x1 ![] bcast_S_S64x1 (constantI S_ 32 512#32)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 256#32))

/-- The indices into the table. -/
def places (x : IVec S64x576 32) : IVec S64x576x1 32 :=
  broadcastInDim S64x576x1 ![0, 1] bcast_S64x576_S64x576x1_0_1 (select (cmpi .slt x (broadcastInDim S64x576 ![] bcast_S_S64x576 (constantI S_ 32 0#32)))
    (addi x (broadcastInDim S64x576 ![] bcast_S_S64x576 (constantI S_ 32 513#32))) x)

/-- Whether a slot of a chunk's band lies in the sequence. -/
def valid : IVec S256x576 1 :=
  cmpi .sge (addi (broadcastInDim S256x576 ![0, 1] bcast_S256x1_S256x576_0_1 (muli (subi (broadcastInDim S256x1 ![0] bcast_S256_S256x1_0 (iotaInDim S256 32 0)) (broadcastInDim S256x1 ![] bcast_S_S256x1 (constantI S_ 32 8#32))) (broadcastInDim S256x1 ![] bcast_S_S256x1 (constantI S_ 32 64#32)))) (broadcastInDim S256x576 ![0, 1] bcast_S1x576_S256x576_0_1 (broadcastInDim S1x576 ![1] bcast_S576_S1x576_1 (iotaInDim S576 32 0)))) (broadcastInDim S256x576 ![] bcast_S_S256x576 (constantI S_ 32 0#32))

/-- The scores: products times the logarithm of two, plus the table's entries, −∞ outside the sequence. -/
def scores (ok : IVec S256x576 1) (q : FVec F S1x256x64x8x64 .f32) (k : FVec F S1x256x576x8x64 .f32) (b : FVec F S8x64x576 .f32) : FVec F S1x256x8x64x576 .f32 :=
  select (broadcastInDim S1x256x8x64x576 ![0, 1, 2, 3, 4] bcast_S1x256x1x1x576_S1x256x8x64x576_0_1_2_3_4 (broadcastInDim S1x256x1x1x576 ![1, 4] bcast_S256x576_S1x256x1x1x576_1_4 ok))
    (addf (mulf (Host.dotGeneral dot_S1x256x64x8x64_S1x256x576x8x64_S1x256x8x64x576_4_4_2_2_013_013 none q k)
      (broadcastInDim S1x256x8x64x576 ![] bcast_S_S1x256x8x64x576 (id (Host.log (constant S_ .f32 0x40000000#32)))))
      (broadcastInDim S1x256x8x64x576 ![0, 1, 2, 3, 4] bcast_S1x1x8x64x576_S1x256x8x64x576_0_1_2_3_4 (broadcastInDim S1x1x8x64x576 ![2, 3, 4] bcast_S8x64x576_S1x1x8x64x576_2_3_4 b)))
    (broadcastInDim S1x256x8x64x576 ![] bcast_S_S1x256x8x64x576 (id (constant S_ .f32 0xFF800000#32)))

/-- The exponentials of the scores less their largest. -/
def expo (s : FVec F S1x256x8x64x576 .f32) : FVec F S1x256x8x64x576 .f32 :=
  Host.exp (subf s (broadcastInDim S1x256x8x64x576 ![0, 1, 2, 3, 4] bcast_S1x256x8x64x1_S1x256x8x64x576_0_1_2_3_4 (broadcastInDim S1x256x8x64x1 ![0, 1, 2, 3] bcast_S1x256x8x64_S1x256x8x64x1_0_1_2_3
    (maximumf (broadcastInDim S1x256x8x64 ![] bcast_S_S1x256x8x64 (constant S_ .f32 0xFF800000#32)) (Host.reduce FloatOps.maximumf s (constant S_ .f32 0xFF800000#32) reducesTo_S1x256x8x64x576_S1x256x8x64_d4 h_S_)))))

/-- Each over the sum of its row. -/
def normed (e : FVec F S1x256x8x64x576 .f32) : FVec F S1x256x8x64x576 .f32 :=
  Host.divf e (broadcastInDim S1x256x8x64x576 ![0, 1, 2, 3, 4] bcast_S1x256x8x64x1_S1x256x8x64x576_0_1_2_3_4 (broadcastInDim S1x256x8x64x1 ![0, 1, 2, 3] bcast_S1x256x8x64_S1x256x8x64x1_0_1_2_3
    (Host.reduceAdd e (constant S_ .f32 0x00000000#32) reducesTo_S1x256x8x64x576_S1x256x8x64_d4 h_S_)))

/-- The weights' combination of the values, laid out as the queries came. -/
def combine (v : FVec F S1x256x576x8x64 .f32) (w : FVec F S1x256x8x64x576 .f32) : FVec F S16384x512 .bf16 :=
  truncf .bf16 (shapeCast _ (transpose S1x256x64x8x64 [0, 1, 4, 2, 3] (Host.dotGeneral dot_S1x256x576x8x64_S1x256x8x64x576_S1x256x8x64x64_2_4_4_3_013_012 none v w)
    transposes_S1x256x8x64x64_S1x256x64x8x64_0_1_4_2_3) shapeCasts_S1x256x64x8x64_S16384x512) bitsLt_bf16_f32

/-- The whole attention. -/
def attention (q k v : FVec F S16384x512 .bf16) (t : FVec F S8x513 .f32) : FVec F S16384x512 .bf16 :=
  combine (bands (padded v)) (normed (expo (scores valid (queries q) (bands (padded k))
    (Host.gather gather_S8x513_S64x576x1_S8x64x576_0_1_n_n_1_2_81 t (places clipped)))))

/-- The reference's result is the attention of its arguments. -/
theorem res_eq (m : (ℓ : Loc nD τ sig) → Buf (Elt F) ℓ) (c : Dev nD) :
    Value.res_main_v87 m c = attention (m ((c.tc : Thread nD τ).loc main_arg0)) (m ((c.tc : Thread nD τ).loc main_arg1))
      (m ((c.tc : Thread nD τ).loc main_arg2)) (m ((c.tc : Thread nD τ).loc main_arg3)) := rfl

end Cert.BandRefIdeal.Attn

end
-- ==== Proof.Band.RefValue.lean ====
/-
  The reference's attention read at one element.
-/
module

public import proofs.«01_k».proof.Proof.Band.RefTerms
public import proofs.«01_k».proof.Proof.Band.Softmax

@[expose] public section

set_option maxRecDepth 16384

noncomputable section

namespace Cert.BandRefIdeal.Attn

open Cert.BandRefIdeal Cert.BandRefIdeal.Gen Idealize.ShloMosaic Cert.Softmax

/-- The column of feature `d` of head `h`. -/
def col (h : Fin 8) (d : Fin 64) : Fin 512 := ⟨h.val * 64 + d.val, by omega⟩

theorem zero_word : Ideal.ofBits FTy.f32 0x00000000#32 = 0 := by simp [Ideal.ofBits, Ideal.ieee]

theorem two_word : Ideal.ofBits FTy.f32 0x40000000#32 = ((2 : ℝ) : EReal) := by
  simp [Ideal.ofBits, Ideal.ieee]
  rw [← EReal.coe_mul]
  norm_num

theorem bot_word : Ideal.ofBits FTy.f32 0xFF800000#32 = ⊥ := by simp [Ideal.ofBits, Ideal.ieee]

/-- Chunk `n` of the padded array: zeros in the first eight chunks. -/
theorem padded_apply (x : FVec Ideal S16384x512 .bf16) (n : Fin 264) (j : Fin 64) (h : Fin 8) (d : Fin 64) :
    padded x (ix5 0 n j h d) = if hn : n.val * 64 + j.val < 512 then (0 : EReal) else x (ix2 ⟨n.val * 64 + j.val - 512, by omega⟩ (col h d)) := by
  pointwise [padded, col]

/-- Slot `y` of chunk `n`'s band is in chunk `n + y / 64` of the padded array. -/
theorem bands_apply (x : FVec Ideal S1x264x64x8x64 .f32) (n : Fin 256) (y : Fin 576) (h : Fin 8) (d : Fin 64) :
    bands x (ix5 0 n y h d) = x (ix5 0 ⟨n.val + y.val / 64, by omega⟩ ⟨y.val % 64, by omega⟩ h d) := by
  pointwise [bands]
  have key : ∀ (a b : ℕ) (ha : a < 264) (hb : b < 64), a = n.val + y.val / 64 → b = y.val % 64 →
      x (ix5 0 ⟨a, ha⟩ ⟨b, hb⟩ h d) = x (ix5 0 ⟨n.val + y.val / 64, by omega⟩ ⟨y.val % 64, by omega⟩ h d) := by
    intro a b ha hb e1 e2; subst e1 e2; rfl
  split_ifs <;> exact key _ _ _ _ (by omega) (by omega)

theorem queries_apply (x : FVec Ideal S16384x512 .bf16) (n : Fin 256) (j : Fin 64) (h : Fin 8) (d : Fin 64) :
    queries x (ix5 0 n j h d) = x (ix2 ⟨n.val * 64 + j.val, by omega⟩ (col h d)) := by
  pointwise [queries, col]

theorem scores_apply (ok : IVec S256x576 1) (q : FVec Ideal S1x256x64x8x64 .f32) (k : FVec Ideal S1x256x576x8x64 .f32) (b : FVec Ideal S8x64x576 .f32)
    (n : Fin 256) (h : Fin 8) (j : Fin 64) (y : Fin 576) :
    scores ok q k b (ix5 0 n h j y) = Scalar.select (ok (ix2 n y))
      ((∑ d : Fin 64, q (ix5 0 n j h d) * k (ix5 0 n y h d)) * ((Real.log 2 : ℝ) : EReal) + b (ix3 h j y)) ⊥ := by
  pointwise [scores]
  have hl : id (Host.log (constant (F := Ideal) S_ FTy.f32 1073741824#32)) ix0 = ((Real.log 2 : ℝ) : EReal) := by
    show Ideal.log (Ideal.ofBits FTy.f32 0x40000000#32) = _
    rw [two_word]
    show (if (2 : ℝ) ≤ 0 then ⊥ else ((Real.log 2 : ℝ) : EReal)) = _
    rw [if_neg (by norm_num)]
  have hb : id (constant (F := Ideal) S_ FTy.f32 4286578688#32) ix0 = (⊥ : EReal) := bot_word
  rw [hl, hb]

/-- The scores' exponentials over any row maxima. -/
def expoOf (s : FVec Ideal S1x256x8x64x576 .f32) (r : FVec Ideal S1x256x8x64 .f32) : FVec Ideal S1x256x8x64x576 .f32 :=
  Host.exp (subf s (broadcastInDim S1x256x8x64x576 ![0, 1, 2, 3, 4] bcast_S1x256x8x64x1_S1x256x8x64x576_0_1_2_3_4 (broadcastInDim S1x256x8x64x1 ![0, 1, 2, 3] bcast_S1x256x8x64_S1x256x8x64x1_0_1_2_3
    (maximumf (broadcastInDim S1x256x8x64 ![] bcast_S_S1x256x8x64 (constant S_ .f32 0xFF800000#32)) r))))

theorem expoOf_apply (s : FVec Ideal S1x256x8x64x576 .f32) (r : FVec Ideal S1x256x8x64 .f32) (n : Fin 256) (h : Fin 8) (j : Fin 64) (y : Fin 576) :
    expoOf s r (ix5 0 n h j y) = Ideal.exp (s (ix5 0 n h j y) - r (ix4 0 n h j)) := by
  pointwise [expoOf]
  rw [bot_word, max_eq_right bot_le]

/-- The largest score of a row. -/
theorem rowTop_apply (s : FVec Ideal S1x256x8x64x576 .f32) (n : Fin 256) (h : Fin 8) (j : Fin 64) :
    Host.reduce FloatOps.maximumf s (constant S_ .f32 0xFF800000#32) reducesTo_S1x256x8x64x576_S1x256x8x64_d4 h_S_ (ix4 0 n h j) = top fun y => s (ix5 0 n h j y) := by
  have hb : ∀ i, constant (F := Ideal) S_ .f32 0xFF800000#32 i = (⊥ : EReal) := fun _ => bot_word
  generalize (constant (F := Ideal) S_ .f32 0xFF800000#32) = z at hb ⊢
  unfold top
  pointwise
  rw [hb]

theorem expo_apply (s : FVec Ideal S1x256x8x64x576 .f32) (n : Fin 256) (h : Fin 8) (j : Fin 64) (y : Fin 576) :
    expo s (ix5 0 n h j y) = Ideal.exp (s (ix5 0 n h j y) - top fun y => s (ix5 0 n h j y)) :=
  (expoOf_apply s _ n h j y).trans (congrArg (fun z => Ideal.exp (s (ix5 0 n h j y) - z)) (rowTop_apply s n h j))

theorem normed_apply (e : FVec Ideal S1x256x8x64x576 .f32) (n : Fin 256) (h : Fin 8) (j : Fin 64) (y : Fin 576) :
    normed e (ix5 0 n h j y) = Ideal.div (e (ix5 0 n h j y)) (∑ y, e (ix5 0 n h j y)) := by
  pointwise [normed]

theorem combine_apply (v : FVec Ideal S1x256x576x8x64 .f32) (w : FVec Ideal S1x256x8x64x576 .f32) (n : Fin 256) (j : Fin 64) (h : Fin 8) (d : Fin 64) :
    combine v w (ix2 ⟨n.val * 64 + j.val, by omega⟩ (col h d)) = ∑ y, v (ix5 0 n y h d) * w (ix5 0 n h j y) := by
  pointwise [combine, col]

end Cert.BandRefIdeal.Attn

end
-- ==== Proof.Band.RefIndex.lean ====
/-
  The integers of the reference's attention: which table entry a query and a slot of its band read, and which slots lie in
  the sequence.
-/
module

public import proofs.«01_k».proof.Proof.Band.RefTerms

@[expose] public section

set_option maxRecDepth 16384

noncomputable section

namespace Cert.BandRefIdeal.Attn

open Cert.BandRefIdeal Cert.BandRefIdeal.Gen Idealize.ShloMosaic

/-- The gather of the table, read at one element: the column at the index, read signed and cut off at the last. -/
theorem gather_table {α : Type} (t : S8x513.Idx → α) (at' : IVec S64x576x1 32) (h : Fin 8) (j : Fin 64) (y : Fin 576) :
    Host.gather gather_S8x513_S64x576x1_S8x64x576_0_1_n_n_1_2_81 t at' (ix3 h j y)
      = t (ix2 h ⟨min (at' (ix3 j y 0)).toInt.toNat 512, by omega⟩) := by
  unfold Host.gather
  congr 1
  funext a
  refine Fin.ext ?_
  show GatherDims.start gather_S8x513_S64x576x1_S8x64x576_0_1_n_n_1_2_81 (ix3 h j y) at' a
    + GatherDims.batchCoord gather_S8x513_S64x576x1_S8x64x576_0_1_n_n_1_2_81 (ix3 h j y) a
    + GatherDims.offCoord gather_S8x513_S64x576x1_S8x64x576_0_1_n_n_1_2_81 (ix3 h j y) a = _
  rw [GatherDims.batchCoord_eq_zero _ _ _ List.not_mem_nil]
  unfold GatherDims.start GatherDims.offCoord
  have h01 : a = 0 ∨ a = 1 := by
    match a with
    | ⟨0, _⟩ => exact .inl rfl
    | ⟨1, _⟩ => exact .inr rfl
  rcases h01 with rfl | rfl
  · rw [dif_neg (by decide), dif_pos (by decide)]
    simp only [Nat.zero_add]
    rfl
  · rw [dif_pos (by decide), dif_neg (by decide)]
    simp only [Nat.add_zero]
    have hsi : ∀ hx, GatherDims.siIdx gather_S8x513_S64x576x1_S8x64x576_0_1_n_n_1_2_81 (ix3 h j y) ⟨List.idxOf (1 : Fin 2) [1], hx⟩ = ix3 j y 0 := fun hx => by
      funext b; refine Fin.ext ?_
      match b with
      | ⟨0, _⟩ => rfl
      | ⟨1, _⟩ => rfl
      | ⟨2, _⟩ => rfl
    exact congrArg (fun i => min (at' i).toInt.toNat 512) (hsi _)

/-- The index computed from the distance less its least value. -/
def word (n : ℕ) : BitVec 32 :=
  IntOp.addi (IntOp.minsi 256#32 (IntOp.maxsi 4294967040#32 (BitVec.ofNat 32 n - 63#32))) 256#32

theorem word_runs : ∀ (a : Fin 5) (b : Fin 128), (word (a.val * 128 + b.val)).toInt.toNat = min (a.val * 128 + b.val + 193) 512
    ∧ IntOp.cmpi CmpIPredicate.slt (word (a.val * 128 + b.val)) 0#32 = 0#1 := by
  decide +kernel

theorem clipped_apply (j : Fin 64) (y : Fin 576) : clipped (ix2 j y) = word (j.val + 575 - y.val) := by
  pointwise [clipped]
  have e : IntOp.subi (IntOp.addi (BitVec.ofNat 32 j.val) 512#32) (BitVec.ofNat 32 y.val) = BitVec.ofNat 32 (j.val + 575 - y.val) - 63#32 := by
    have h1 : BitVec.ofNat 32 (j.val + 575 - y.val) + BitVec.ofNat 32 y.val = BitVec.ofNat 32 j.val + 575#32 := by
      rw [← BitVec.ofNat_add, ← BitVec.ofNat_add, Nat.sub_add_cancel (by omega)]
    show BitVec.ofNat 32 j.val + 512#32 - BitVec.ofNat 32 y.val = _
    generalize BitVec.ofNat 32 (j.val + 575 - y.val) = a at h1 ⊢
    generalize BitVec.ofNat 32 y.val = b at h1 ⊢
    generalize BitVec.ofNat 32 j.val = c at h1 ⊢
    bv_omega
  rw [e]
  rfl

theorem places_apply (j : Fin 64) (y : Fin 576) : (places clipped (ix3 j y 0)).toInt.toNat = min (j.val + 768 - y.val) 512 := by
  have h := word_runs ⟨(j.val + 575 - y.val) / 128, by omega⟩ ⟨(j.val + 575 - y.val) % 128, by omega⟩
  have e : (j.val + 575 - y.val) / 128 * 128 + (j.val + 575 - y.val) % 128 = j.val + 575 - y.val := Nat.div_add_mod' _ _
  simp only [e] at h
  have hc := clipped_apply j y
  generalize clipped = x at hc ⊢
  have hp : places x (ix3 j y 0) = Scalar.select (IntOp.cmpi CmpIPredicate.slt (x (ix2 j y)) 0#32) (IntOp.addi (x (ix2 j y)) 513#32) (x (ix2 j y)) := by
    pointwise [places]
  rw [hp, hc, h.2]
  show (word (j.val + 575 - y.val)).toInt.toNat = _
  rw [h.1]
  omega

theorem valid_apply (n : Fin 256) (y : Fin 576) : valid (ix2 n y) = if 512 ≤ n.val * 64 + y.val then 1#1 else 0#1 := by
  pointwise [valid]
  have hw : (IntOp.addi (IntOp.muli (IntOp.subi (BitVec.ofNat 32 n.val) 8#32) 64#32) (BitVec.ofNat 32 y.val)).toNat
      = (n.val * 64 + y.val + 4294966784) % 4294967296 := by
    show ((BitVec.ofNat 32 n.val - 8#32) * 64#32 + BitVec.ofNat 32 y.val).toNat = _
    simp [BitVec.toNat_add, BitVec.toNat_mul, BitVec.toNat_sub]
    omega
  generalize IntOp.addi (IntOp.muli (IntOp.subi (BitVec.ofNat 32 n.val) 8#32) 64#32) (BitVec.ofNat 32 y.val) = w at hw ⊢
  have hn := n.isLt
  have hy := y.isLt
  have hi : w.toInt = (n.val * 64 + y.val : ℤ) - 512 := by
    rw [BitVec.toInt_eq_toNat_cond, hw]
    split_ifs <;> omega
  simp only [IntOp.cmpi, BitVec.sle, hi]
  by_cases h1 : 512 ≤ n.val * 64 + y.val
  · have h2 : (0#32).toInt ≤ (n.val * 64 + y.val : ℤ) - 512 := by rw [BitVec.toInt_zero]; omega
    rw [if_pos h1, decide_eq_true h2]; rfl
  · have h2 : ¬ (0#32).toInt ≤ (n.val * 64 + y.val : ℤ) - 512 := by rw [BitVec.toInt_zero]; omega
    rw [if_neg h1, decide_eq_false h2]; rfl

end Cert.BandRefIdeal.Attn

end
-- ==== Proof.Band.RefAttn.lean ====
/-
  The reference's attention, element by element: a softmax over the 576 slots of the band of the query's chunk.
-/
module

public import proofs.«01_k».proof.Proof.Band.RefValue
public import proofs.«01_k».proof.Proof.Band.RefIndex

@[expose] public section

set_option maxRecDepth 16384

noncomputable section

namespace Cert.BandRefIdeal.Attn

open Cert.BandRefIdeal Cert.BandRefIdeal.Gen Idealize.ShloMosaic Cert.Softmax

/-- Slot `y` of chunk `n`'s band: zero before the sequence. -/
def slot (x : FVec Ideal S16384x512 .bf16) (n : Fin 256) (y : Fin 576) (h : Fin 8) (d : Fin 64) : EReal :=
  if hn : n.val * 64 + y.val < 512 then 0 else x (ix2 ⟨n.val * 64 + y.val - 512, by omega⟩ (col h d))

/-- The score of query `j` of chunk `n` and slot `y`. -/
def rScore (q k : FVec Ideal S16384x512 .bf16) (t : FVec Ideal S8x513 .f32) (n : Fin 256) (j : Fin 64) (h : Fin 8) (y : Fin 576) : EReal :=
  if 512 ≤ n.val * 64 + y.val then
    (∑ d : Fin 64, q (ix2 ⟨n.val * 64 + j.val, by omega⟩ (col h d)) * slot k n y h d) * ((Real.log 2 : ℝ) : EReal)
      + t (ix2 h ⟨min (j.val + 768 - y.val) 512, by omega⟩)
  else ⊥

theorem slot_apply (x : FVec Ideal S16384x512 .bf16) (n : Fin 256) (y : Fin 576) (h : Fin 8) (d : Fin 64) :
    bands (padded x) (ix5 0 n y h d) = slot x n y h d := by
  rw [bands_apply, padded_apply]
  have e : (n.val + y.val / 64) * 64 + y.val % 64 = n.val * 64 + y.val := by omega
  unfold slot
  simp only [e]

theorem rScore_apply (q k : FVec Ideal S16384x512 .bf16) (t : FVec Ideal S8x513 .f32) (n : Fin 256) (j : Fin 64) (h : Fin 8) (y : Fin 576) :
    scores valid (queries q) (bands (padded k)) (Host.gather gather_S8x513_S64x576x1_S8x64x576_0_1_n_n_1_2_81 t (places clipped)) (ix5 0 n h j y)
      = rScore q k t n j h y := by
  rw [scores_apply, valid_apply, gather_table]
  have e : ∀ hx, (⟨min (places clipped (ix3 j y 0)).toInt.toNat 512, hx⟩ : Fin 513) = ⟨min (j.val + 768 - y.val) 512, by omega⟩ := fun hx =>
    Fin.ext (by show min (places clipped (ix3 j y 0)).toInt.toNat 512 = min (j.val + 768 - y.val) 512; rw [places_apply]; omega)
  rw [e]
  simp only [queries_apply, slot_apply]
  unfold rScore
  split_ifs with h1
  · rfl
  · rfl

/-- The whole attention at one element. -/
theorem attention_apply (q k v : FVec Ideal S16384x512 .bf16) (t : FVec Ideal S8x513 .f32) (n : Fin 256) (j : Fin 64) (h : Fin 8) (d : Fin 64) :
    attention q k v t (ix2 ⟨n.val * 64 + j.val, by omega⟩ (col h d))
      = ∑ y, slot v n y h d * Ideal.div (Ideal.exp (rScore q k t n j h y - top (rScore q k t n j h)))
          (∑ y', Ideal.exp (rScore q k t n j h y' - top (rScore q k t n j h))) := by
  unfold attention
  rw [combine_apply]
  simp only [normed_apply, expo_apply, rScore_apply, slot_apply]

end Cert.BandRefIdeal.Attn

end
-- ==== Proof.Band.Equation.lean ====
/-
  The kernel's and the reference's attention are one function of finite queries, keys and table and of any values.
-/
module

public import proofs.«01_k».proof.Proof.Band.KernelValue
public import proofs.«01_k».proof.Proof.Band.RefAttn

@[expose] public section

set_option maxRecDepth 16384

noncomputable section

namespace Cert.BandEquation

open Idealize.ShloMosaic Cert.Softmax Cert.BandIdeal.Whole
open Cert.BandIdeal (S16384x512 S8x513)
open Cert.BandIdeal.Blocks (at')
open Cert.BandIdeal.Bias (rel bias_apply)
open Cert.BandRefIdeal.Attn (slot rScore attention)

/-- Position of slot `y` among the 768 keys, for a query of the block's chunk `a`. -/
def shift (a : Fin 4) (y : Fin 576) : Fin 768 := ⟨y.val + 64 * a.val, by omega⟩

theorem bot_scaled (x : ℝ) : (x : EReal) + ⊥ * (((Real.log 2)⁻¹ : ℝ) : EReal) = ⊥ := by
  rw [EReal.bot_mul_coe_of_pos (inv_pos.mpr (Real.log_pos (by norm_num))), EReal.add_bot]

/-- Both attentions at query `j` of the `a`-th chunk of block `t`. -/
theorem attn_eq (Q K V : FVec Ideal S16384x512 .bf16) (T : FVec Ideal S8x513 .f32)
    (Qr Kr : S16384x512.Idx → ℝ) (Tr : S8x513.Idx → ℝ) (hQ : ∀ i, Q i = (Qr i : EReal)) (hK : ∀ i, K i = (Kr i : EReal)) (hT : ∀ i, T i = (Tr i : EReal))
    (t : Fin 64) (a : Fin 4) (j : Fin 64) (h : Fin 8) (d : Fin 64) :
    kAttn Q K V T t ⟨a.val * 64 + j.val, by omega⟩ h d
      = ∑ y, slot V ⟨t.val * 4 + a.val, by omega⟩ y h d * Ideal.div (Ideal.exp (rScore Q K T ⟨t.val * 4 + a.val, by omega⟩ j h y - top (rScore Q K T ⟨t.val * 4 + a.val, by omega⟩ j h)))
          (∑ y', Ideal.exp (rScore Q K T ⟨t.val * 4 + a.val, by omega⟩ j h y' - top (rScore Q K T ⟨t.val * 4 + a.val, by omega⟩ j h))) := by
  have hlog : Real.log 2 ≠ 0 := (Real.log_pos (by norm_num)).ne'
  have hcol : ∀ d, Cert.BandRefIdeal.Attn.col h d = col h d := fun _ => rfl
  have hbias : ∀ x : Fin 768, Cert.BandIdeal.Bias.bias (F := Ideal) T (ix4 ⟨min t.val 2, by omega⟩ h ⟨a.val * 64 + j.val, by omega⟩ x)
      = if (a.val ≤ x.val / 64 ∧ x.val / 64 ≤ a.val + 8) ∧ 512 ≤ t.val * 256 + x.val then T (ix2 h (rel (a.val * 64 + j.val) x.val)) else ⊥ := by
    intro x
    rw [bias_apply]
    refine if_congr ?_ rfl rfl
    show ((a.val * 64 + j.val) / 64 ≤ x.val / 64 ∧ x.val / 64 ≤ (a.val * 64 + j.val) / 64 + 8) ∧ 2 - min t.val 2 ≤ x.val / 256 ↔ _
    constructor <;> rintro ⟨⟨h1, h2⟩, h3⟩ <;> refine ⟨⟨?_, ?_⟩, ?_⟩ <;> omega
  have hrow : ∀ x : Fin 768, 512 ≤ t.val * 256 + x.val → (keyRow t x).val = t.val * 256 + x.val - 512 := by
    intro x hx
    show (t.val + x.val / 256 - 2) * 256 + x.val % 256 = _
    omega
  have hprod : ∀ x : Fin 768, (∑ d : Fin 64, Q (ix2 (at' t.val t.isLt ⟨a.val * 64 + j.val, by omega⟩) (col h d)) * K (ix2 (keyRow t x) (col h d)))
      = ((∑ d : Fin 64, Qr (ix2 (at' t.val t.isLt ⟨a.val * 64 + j.val, by omega⟩) (col h d)) * Kr (ix2 (keyRow t x) (col h d)) : ℝ) : EReal) := by
    intro x
    rw [coe_sum]
    exact Finset.sum_congr rfl fun d _ => by rw [hQ, hK, EReal.coe_mul]
  unfold kAttn
  refine band_eq (shift a) ?_ (kScore Q K T t ⟨a.val * 64 + j.val, by omega⟩ h) (fun x => V (ix2 (keyRow t x) (col h d)))
    (rScore Q K T ⟨t.val * 4 + a.val, by omega⟩ j h) (fun y => slot V ⟨t.val * 4 + a.val, by omega⟩ y h d)
    (fun y => (∑ d : Fin 64, Qr (ix2 (at' t.val t.isLt ⟨a.val * 64 + j.val, by omega⟩) (col h d)) * Kr (ix2 (keyRow t (shift a y)) (col h d))) * Real.log 2
      + Tr (ix2 h (rel j.val y.val)))
    (fun y => 512 ≤ (t.val * 4 + a.val) * 64 + y.val) ?_ ?_ ?_ ?_ ?_
  · intro y z hyz
    have := congrArg Fin.val hyz
    simp only [shift] at this
    exact Fin.ext (by omega)
  · intro y
    unfold rScore
    by_cases hy : 512 ≤ (t.val * 4 + a.val) * 64 + y.val
    swap
    · rw [if_neg hy, if_neg hy]
    rw [if_pos hy, if_pos hy]
    have hr : (⟨(t.val * 4 + a.val) * 64 + j.val, by omega⟩ : Fin 16384) = at' t.val t.isLt ⟨a.val * 64 + j.val, by omega⟩ :=
      Fin.ext (by show (t.val * 4 + a.val) * 64 + j.val = t.val * 256 + (a.val * 64 + j.val); omega)
    have hs : ∀ d, slot K ⟨t.val * 4 + a.val, by omega⟩ y h d = K (ix2 (keyRow t (shift a y)) (col h d)) := by
      intro d
      unfold slot
      rw [dif_neg (by show ¬ (t.val * 4 + a.val) * 64 + y.val < 512; omega)]
      refine congrArg (fun z => K (ix2 z (col h d))) (Fin.ext ?_)
      rw [hrow _ (by show 512 ≤ t.val * 256 + (y.val + 64 * a.val); omega)]
      show (t.val * 4 + a.val) * 64 + y.val - 512 = t.val * 256 + (y.val + 64 * a.val) - 512
      omega
    simp only [hs, hr, hcol]
    rw [hprod, ← EReal.coe_mul, hT, ← EReal.coe_add]
    rfl
  · intro y
    unfold kScore
    rw [hprod, hbias]
    by_cases hy : 512 ≤ (t.val * 4 + a.val) * 64 + y.val
    · rw [if_pos ⟨⟨by show a.val ≤ (y.val + 64 * a.val) / 64; omega, by show (y.val + 64 * a.val) / 64 ≤ a.val + 8; omega⟩,
        by show 512 ≤ t.val * 256 + (y.val + 64 * a.val); omega⟩, if_pos hy]
      have hrel : rel (a.val * 64 + j.val) (shift a y).val = rel j.val y.val :=
        Fin.ext (by show min (a.val * 64 + j.val + 768 - (y.val + 64 * a.val)) 512 = min (j.val + 768 - y.val) 512; omega)
      rw [hrel, hT, ← EReal.coe_mul, ← EReal.coe_add]
      congr 1
      rw [add_mul, mul_assoc, mul_inv_cancel₀ hlog, mul_one]
    · rw [if_neg (by rintro ⟨_, h3⟩; exact hy (by have : 512 ≤ t.val * 256 + (y.val + 64 * a.val) := h3; omega)), if_neg hy, bot_scaled]
  · intro x hx
    unfold kScore
    rw [hprod, hbias, if_neg, bot_scaled]
    rintro ⟨⟨h1, h2⟩, -⟩
    exact hx ⟨x.val - 64 * a.val, by omega⟩ (Fin.ext (by show x.val - 64 * a.val + 64 * a.val = x.val; omega))
  · intro y hy
    show V (ix2 (keyRow t (shift a y)) (col h d)) = slot V ⟨t.val * 4 + a.val, by omega⟩ y h d
    unfold slot
    rw [dif_neg (by show ¬ (t.val * 4 + a.val) * 64 + y.val < 512; omega)]
    refine congrArg (fun z => V (ix2 z (col h d))) (Fin.ext ?_)
    rw [hrow _ (by show 512 ≤ t.val * 256 + (y.val + 64 * a.val); omega)]
    show t.val * 256 + (y.val + 64 * a.val) - 512 = (t.val * 4 + a.val) * 64 + y.val - 512
    omega
  · exact ⟨⟨512, by omega⟩, by show 512 ≤ _ + 512; omega⟩

/-- The whole results. -/
theorem out_eq (Q K V : FVec Ideal S16384x512 .bf16) (T : FVec Ideal S8x513 .f32)
    (Qr Kr : S16384x512.Idx → ℝ) (Tr : S8x513.Idx → ℝ) (hQ : ∀ i, Q i = (Qr i : EReal)) (hK : ∀ i, K i = (Kr i : EReal)) (hT : ∀ i, T i = (Tr i : EReal)) :
    kOut Q K V T = attention (F := Ideal) Q K V T := by
  funext i
  have h0 : (i 0).val < 16384 := (i 0).isLt
  have h1 : (i 1).val < 512 := (i 1).isLt
  have e := attn_eq Q K V T Qr Kr Tr hQ hK hT ⟨(i 0).val / 256, by omega⟩ ⟨(i 0).val % 256 / 64, by omega⟩ ⟨(i 0).val % 64, by omega⟩
    ⟨(i 1).val / 64, by omega⟩ ⟨(i 1).val % 64, by omega⟩
  rw [← Cert.BandRefIdeal.Attn.attention_apply] at e
  have hi : i = ix2 (⟨((i 0).val / 256 * 4 + (i 0).val % 256 / 64) * 64 + (i 0).val % 64, by omega⟩ : Fin 16384)
      (Cert.BandRefIdeal.Attn.col ⟨(i 1).val / 64, by omega⟩ ⟨(i 1).val % 64, by omega⟩) := by
    funext b
    have h01 : b = 0 ∨ b = 1 := by
      match b with
      | ⟨0, _⟩ => exact .inl rfl
      | ⟨1, _⟩ => exact .inr rfl
    rcases h01 with rfl | rfl
    · exact Fin.ext (by show (i 0).val = ((i 0).val / 256 * 4 + (i 0).val % 256 / 64) * 64 + (i 0).val % 64; omega)
    · exact Fin.ext (by show (i 1).val = (i 1).val / 64 * 64 + (i 1).val % 64; omega)
  have hk : kOut Q K V T i = kAttn Q K V T ⟨(i 0).val / 256, by omega⟩ ⟨(i 0).val % 256 / 64 * 64 + (i 0).val % 64, by omega⟩
      ⟨(i 1).val / 64, by omega⟩ ⟨(i 1).val % 64, by omega⟩ := by
    unfold kOut
    congr 1
    exact Fin.ext (by show (i 0).val % 256 = (i 0).val % 256 / 64 * 64 + (i 0).val % 64; omega)
  rw [hk]
  exact e.trans (congrArg (attention (F := Ideal) Q K V T) hi.symm)

end Cert.BandEquation

end
-- ==== Proof.Common.Finite.lean ====
/-
  An extended real whose absolute value is below the top is a real number; an array all of whose entries pass that test is an array of reals.
-/
module

public import Idealize.ShloMosaic.Lib.ReduceAll
public import Idealize.ShloMosaic.Lib.Pointwise

@[expose] public section

set_option maxRecDepth 16384

noncomputable section

namespace Cert.Finite

open Idealize.ShloMosaic

theorem top_bits : Ideal.ofBits FTy.f32 0x7F800000#32 = (⊤ : EReal) := by
  simp [Ideal.ofBits, Ideal.ieee]

/-- The absolute value is below the top only at the real numbers. -/
theorem real_of_abs_lt (x : EReal) (h : max x (-x) < ⊤) : ∃ r : ℝ, x = (r : EReal) := by
  induction x using EReal.rec with
  | bot => simp at h
  | top => simp at h
  | coe r => exact ⟨r, rfl⟩

theorem and_ones (a b : BitVec 1) (h : a &&& b = 1#1) : a = 1#1 ∧ b = 1#1 := by
  revert a b; decide

/-- An array that passes the test everywhere holds real numbers. -/
theorem real_of_all {S T : Shape} {axes : List (Fin S.rank)} [Subsingleton T.Idx] (X : FVec Ideal S .f32) (hb : (⟨0, ![]⟩ : Shape).BroadcastsInDim S (![] : Fin 0 → Fin S.rank))
    (init : IVec T 1) (hr : S.ReducesTo axes T) (hn : 0 < T.numel) (j : T.Idx)
    (h : Host.reduce IntOp.andi (cmpf .olt (Host.absf X) (broadcastInDim S ![] hb (constant (F := Ideal) ⟨0, ![]⟩ .f32 0x7F800000#32))) init hr hn j = 1#1) :
    ∃ r : S.Idx → ℝ, ∀ i, X i = (r i : EReal) := by
  have hall : ∀ i, ∃ r : ℝ, X i = (r : EReal) := by
    intro i
    have e := Host.reduce_andi_all _ _ _ _ j h i
    apply real_of_abs_lt
    have e' : BitVec.ofBool (decide (max (X i) (-(X i)) < Ideal.ofBits FTy.f32 0x7F800000#32)) = 1#1 := e
    rw [top_bits] at e'
    by_contra hc
    simp [hc] at e'
  choose r hr using hall
  exact ⟨r, hr⟩

end Cert.Finite

end
-- ==== Proof.Band.Finite.lean ====
/-
  What the attention's precondition says: queries, keys and table hold real numbers.
-/
module

public import proofs.«01_k».proof.Pre_band_finite
public import proofs.«01_k».proof.Proof.Common.Finite

@[expose] public section

set_option maxRecDepth 16384

noncomputable section

namespace Cert.BandFinite

open Idealize.ShloMosaic
open Cert.Pre_band_finite (S16384x512 S8x513)

theorem reals [hp : Cert.Pre_band_finite.Facts] (Q K V : FVec Ideal S16384x512 .bf16) (T : FVec Ideal S8x513 .f32)
    (h : Cert.Pre_band_finite.fn (F := Ideal) Q K V T = fun _ => 1#1) :
    (∃ r : S16384x512.Idx → ℝ, ∀ i, Q i = (r i : EReal)) ∧ (∃ r : S16384x512.Idx → ℝ, ∀ i, K i = (r i : EReal))
      ∧ ∃ r : S8x513.Idx → ℝ, ∀ i, T i = (r i : EReal) := by
  dsimp only [Cert.Pre_band_finite.fn] at h
  have e := congrFun h default
  obtain ⟨e1, e3⟩ := Cert.Finite.and_ones _ _ e
  obtain ⟨e1, e2⟩ := Cert.Finite.and_ones _ _ e1
  exact ⟨Cert.Finite.real_of_all _ _ _ _ _ _ e1, Cert.Finite.real_of_all _ _ _ _ _ _ e2, Cert.Finite.real_of_all _ _ _ _ _ _ e3⟩

end Cert.BandFinite

end
-- ==== Proof.Band.Claims.lean ====
/-
  The claims about the attention: every program runs, keeps its arguments and ends with its counters at zero; the named constant is the
  number it stands for; the kernel and the reference end with the same result.
-/
module

public import proofs.«01_k».proof.Defs
public import proofs.«01_k».proof.Proof.Gen.Band.Frame
public import proofs.«01_k».proof.Proof.Gen.BandIdeal.Frame
public import proofs.«01_k».proof.Proof.Gen.BandIdeal.Value
public import proofs.«01_k».proof.Proof.Gen.BandRefIdeal
public import proofs.«01_k».proof.Proof.Gen.BandRefIdeal.Run
public import proofs.«01_k».proof.Proof.Gen.Pre_band_finite
public import proofs.«01_k».proof.Proof.Band.KernelFinal
public import proofs.«01_k».proof.Proof.Band.RefTerms
public import proofs.«01_k».proof.Proof.Band.Equation
public import proofs.«01_k».proof.Proof.Band.Finite
public import Idealize.ShloMosaic.Lib.Claim

@[expose] public section

set_option maxRecDepth 16384

noncomputable section

namespace Cert.BandClaims

open Idealize.ShloMosaic Idealize.SL.Sem

theorem frame_kernel : Cert.quiescent_Band := fun m ρ _ => Cert.Band.Gen.frame m ρ

theorem frame_ideal : Cert.quiescent_BandIdeal := fun m ρ _ => Cert.BandIdeal.Gen.frame m ρ

theorem frame_ideal_pre : Cert.quiescent_BandIdeal_pre_band_finite := fun m ρ _ => Cert.BandIdeal.Gen.frame m ρ

/-- The reference's program has no counters. -/
theorem frame_reference : Cert.quiescent_BandRefIdeal := by
  intro m ρ _
  refine (θ_run Cert.BandRefIdeal.defs _ _).mono (fun r h => ⟨fun c => (h c).2, ?_⟩) (Cert.BandRefIdeal.Value.run m ρ)
  exact sem_eq_zero_of_no_sems (by decide) r.2

theorem frame_reference_pre : Cert.quiescent_BandRefIdeal_pre_band_finite := fun m ρ _ => frame_reference m ρ trivial

theorem constant : Cert.preserves_Band_BandIdeal := IdealRules.named_const.statement Cert.BandIdeal.κ "log2e" .f32 0x3FB8AA3B#32 _ rfl

theorem value : Cert.algebraic_BandIdeal_BandRefIdeal_pre_band_finite := by
  pair_intro
  · run_from Cert.BandIdeal.Value.run_blocks m g
  · run_from Cert.BandRefIdeal.Value.run m' g'
    obtain ⟨⟨Qr, hQ⟩, ⟨Kr, hK⟩, ⟨Tr, hT⟩⟩ := Cert.BandFinite.reals _ _ _ _ (hpre c)
    rw [Cert.BandRefIdeal.Attn.res_eq]
    obtain ⟨a0, a1, a2, a3⟩ := hagree c
    rw [a0, a1, a2, a3]
    exact (Cert.BandEquation.out_eq _ _ _ _ Qr Kr Tr hQ hK hT).symm.trans (Cert.BandIdeal.Whole.final m c).symm

end Cert.BandClaims

end
-- ==== Proof.Ffn.Frames.lean ====
/-
  The feed-forward programs run, keep their arguments and end with their counters at zero.
-/
module

public import proofs.«01_k».proof.Defs
public import proofs.«01_k».proof.Proof.Gen.Ffn.Frame
public import proofs.«01_k».proof.Proof.Gen.FfnIdeal.Frame
public import proofs.«01_k».proof.Proof.Gen.FfnRefIdeal
public import proofs.«01_k».proof.Proof.Gen.FfnRefIdeal.Run
public import Idealize.ShloMosaic.Lib.Claim

@[expose] public section

set_option maxRecDepth 16384

noncomputable section

namespace Cert.FfnFrames

open Idealize.ShloMosaic Idealize.SL.Sem

theorem frame_kernel : Cert.quiescent_Ffn := fun m ρ _ => Cert.Ffn.Gen.frame m ρ

theorem frame_ideal : Cert.quiescent_FfnIdeal := fun m ρ _ => Cert.FfnIdeal.Gen.frame m ρ

/-- The reference's program has no counters. -/
theorem frame_reference : Cert.quiescent_FfnRefIdeal := by
  intro m ρ _
  refine (θ_run Cert.FfnRefIdeal.defs _ _).mono (fun r h => ⟨fun c => (h c).2, ?_⟩) (Cert.FfnRefIdeal.Value.run m ρ)
  exact sem_eq_zero_of_no_sems (by decide) r.2

end Cert.FfnFrames

end
-- ==== Proof.Ffn.Piece.lean ====
/-
  What the feed-forward kernel's body leaves behind at a grid point. A row block is worked on in four points, one for each
  1024 of the hidden features. The first computes the residual sum and its normalised rows and adds the first part of the
  product to zero; the others add their parts; the last one makes the output.
-/
module

public import proofs.«01_k».proof.Proof.Gen.FfnIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnIdeal.Block

open Cert.FfnIdeal Cert.FfnIdeal.Gen Idealize.ShloMosaic Idealize.ShloMosaic.TcCoe

variable (m : (ℓ : Loc nD τ sig) → Buf (Elt Ideal) ℓ)

/-- The point before. -/
theorem lt_pred (t : Fin cfg0.N) : t.val - 1 < cfg0.N := Nat.lt_of_le_of_lt (Nat.sub_le _ _) t.isLt

theorem first_out (c : Dev nD) (t : Fin cfg0.N) (h0 : t.val % 4 = 0) (h1 : ¬t.val % 4 = 3) :
    (outsAt0 m c t.val t.isLt).1 = k0_pay1 (iblk m c 0 t) (iblk m c 5 t) (iblk m c 6 t) := by
  rw [outsAt0_A m c t h0 h1]
  frame_out

theorem first_norm (c : Dev nD) (t : Fin cfg0.N) (h0 : t.val % 4 = 0) (h1 : ¬t.val % 4 = 3) :
    (outsAt0 m c t.val t.isLt).2.1 = k0_pay2 (iblk m c 0 t) (iblk m c 5 t) (iblk m c 6 t) (iblk m c 1 t) := by
  rw [outsAt0_A m c t h0 h1]
  frame_out

theorem first_acc (c : Dev nD) (t : Fin cfg0.N) (h0 : t.val % 4 = 0) (h1 : ¬t.val % 4 = 3) :
    (outsAt0 m c t.val t.isLt).2.2 = k0_pay4 (k0_pay2 (iblk m c 0 t) (iblk m c 5 t) (iblk m c 6 t) (iblk m c 1 t)) (iblk m c 2 t) (iblk m c 3 t)
      (k0_pay3 (F := Ideal)) (iblk m c 4 t) := by
  rw [outsAt0_A m c t h0 h1]
  frame_out

theorem mid_out (c : Dev nD) (t : Fin cfg0.N) (h0 : ¬t.val % 4 = 0) (h1 : ¬t.val % 4 = 3) :
    (outsAt0 m c t.val t.isLt).1 = (outsAt0 m c (t.val - 1) (lt_pred t)).1 := by
  rw [outsAt0_B m c t h0 h1]
  rfl

theorem mid_norm (c : Dev nD) (t : Fin cfg0.N) (h0 : ¬t.val % 4 = 0) (h1 : ¬t.val % 4 = 3) :
    (outsAt0 m c t.val t.isLt).2.1 = (outsAt0 m c (t.val - 1) (lt_pred t)).2.1 := by
  rw [outsAt0_B m c t h0 h1]
  rfl

theorem mid_acc (c : Dev nD) (t : Fin cfg0.N) (h0 : ¬t.val % 4 = 0) (h1 : ¬t.val % 4 = 3) :
    (outsAt0 m c t.val t.isLt).2.2 = k0_pay4 (outsAt0 m c (t.val - 1) (lt_pred t)).2.1 (iblk m c 2 t) (iblk m c 3 t)
      (outsAt0 m c (t.val - 1) (lt_pred t)).2.2 (iblk m c 4 t) := by
  rw [outsAt0_B m c t h0 h1]
  frame_out
  simp only [read_unread_whole]

theorem last_out (c : Dev nD) (t : Fin cfg0.N) (h0 : ¬t.val % 4 = 0) (h1 : t.val % 4 = 3) :
    (outsAt0 m c t.val t.isLt).1 = k0_pay5 (outsAt0 m c (t.val - 1) (lt_pred t)).1
      (k0_pay4 (outsAt0 m c (t.val - 1) (lt_pred t)).2.1 (iblk m c 2 t) (iblk m c 3 t) (outsAt0 m c (t.val - 1) (lt_pred t)).2.2 (iblk m c 4 t))
      (iblk m c 7 t) := by
  rw [outsAt0_C m c t h0 h1]
  frame_out
  simp only [read_unread_whole]

end Cert.FfnIdeal.Block

end
-- ==== Proof.Ffn.Math.lean ====
/-
  The feed-forward step as a function of numbers: a row normalised by its root mean square, the two ways of writing the
  gate, and the equation between them.
-/
module

public import proofs.«01_k».proof.Proof.Band.Softmax

@[expose] public section

noncomputable section

namespace Cert.FfnMath

open Idealize.ShloMosaic

/-- One half, as the programs write it. -/
def half : EReal := Ideal.ofBits FTy.f32 0x3F000000#32

/-- One, as the reference writes it. -/
def one : EReal := Ideal.ofBits FTy.f32 0x3F800000#32

/-- A row normalised by its root mean square and scaled by `g`. -/
def rms (x g : Fin 1024 → EReal) (d : Fin 1024) : EReal :=
  x d * Ideal.rsqrt (Ideal.div (∑ k, x k * x k) (Ideal.ofBits FTy.f32 0x44800000#32) + Ideal.ofBits FTy.f32 0x358637BD#32) * g d

/-- The gate as the kernel computes it. -/
def gateK (u : EReal) : EReal := half * u + half * u * Ideal.tanh (half * u)

/-- The gate as the reference computes it. -/
def gateR (u : EReal) : EReal := u * Ideal.div one (one + Ideal.exp (-u))

theorem half_eq : half = ((1 / 2 : ℝ) : EReal) := by
  show Ideal.ofBits FTy.f32 0x3F000000#32 = ((1 / 2 : ℝ) : EReal)
  simp [Ideal.ofBits, Ideal.ieee]
  rw [← EReal.coe_mul]
  norm_num

theorem one_eq : one = ((1 : ℝ) : EReal) := by
  show Ideal.ofBits FTy.f32 0x3F800000#32 = ((1 : ℝ) : EReal)
  simp [Ideal.ofBits, Ideal.ieee]
  rw [← EReal.coe_mul]
  norm_num

/-- The mean's divisor. -/
theorem count_eq : Ideal.ofBits FTy.f32 0x44800000#32 = ((1024 : ℝ) : EReal) := by
  simp [Ideal.ofBits, Ideal.ieee]
  rw [← EReal.coe_mul]
  norm_num

/-- What is added under the root. -/
theorem eps_eq : Ideal.ofBits FTy.f32 0x358637BD#32 = ((8796093 / 8796093022208 : ℝ) : EReal) := by
  simp [Ideal.ofBits, Ideal.ieee]
  rw [← EReal.coe_mul]
  norm_num

/-- The two gates agree on numbers. -/
theorem gate_eq (u : ℝ) : gateK (u : EReal) = gateR (u : EReal) := by
  have hp := Real.exp_pos (-u)
  unfold gateK gateR
  rw [half_eq, one_eq, ← EReal.coe_neg, Ideal.exp_coe, ← EReal.coe_add, Ideal.div_coe (by positivity), ← EReal.coe_mul, Ideal.tanh_coe,
    ← EReal.coe_mul, ← EReal.coe_add, ← EReal.coe_mul]
  refine congrArg _ ?_
  rw [Real.tanh_eq_sinh_div_cosh, Real.sinh_eq, Real.cosh_eq, show -u = -(1 / 2 * u) + -(1 / 2 * u) by ring, Real.exp_add]
  have ha := Real.exp_pos (1 / 2 * u)
  have hb := Real.exp_pos (-(1 / 2 * u))
  have hab : Real.exp (1 / 2 * u) * Real.exp (-(1 / 2 * u)) = 1 := by rw [← Real.exp_add]; simp
  generalize Real.exp (1 / 2 * u) = a at *
  generalize Real.exp (-(1 / 2 * u)) = b at *
  have h2 : a = b⁻¹ := eq_inv_of_mul_eq_one_left hab
  subst h2
  field_simp
  ring

/-- A normalised row is a row of numbers whatever the row was: if an entry is infinite, so is the sum of squares, and the
    inverse of its root is zero. -/
theorem rms_real (x : Fin 1024 → EReal) (g : Fin 1024 → ℝ) (d : Fin 1024) : ∃ y : ℝ, rms x (fun k => (g k : EReal)) d = (y : EReal) := by
  unfold rms
  rw [count_eq, eps_eq]
  have sq : ∀ k, 0 ≤ x k * x k := fun k => by
    induction x k using EReal.rec with
    | bot => simp
    | top => simp
    | coe r => rw [← EReal.coe_mul]; exact_mod_cast mul_self_nonneg r
  by_cases hS : (∑ k, x k * x k) = ⊤
  · rw [hS]
    refine ⟨0, ?_⟩
    rw [Ideal.div_coe (by norm_num), EReal.top_mul_coe_of_pos (by norm_num), EReal.top_add_coe, Ideal.rsqrt_top]
    simp
  · have hx : ∀ k, ∃ r : ℝ, x k = (r : EReal) := by
      intro k
      have hk : x k * x k ≤ ∑ k, x k * x k := Finset.single_le_sum (f := fun k => x k * x k) (fun k _ => sq k) (Finset.mem_univ k)
      have hk' : x k * x k ≠ ⊤ := fun h => hS (top_le_iff.mp (h ▸ hk))
      generalize x k = z at hk'
      induction z using EReal.rec with
      | bot => exact absurd (by simp) hk'
      | top => exact absurd (by simp) hk'
      | coe r => exact ⟨r, rfl⟩
    choose r hr using hx
    obtain ⟨s, hs⟩ : ∃ s : ℝ, (∑ k, x k * x k) = (s : EReal) := by
      refine ⟨∑ k, r k * r k, ?_⟩
      rw [Cert.Softmax.coe_sum]
      exact Finset.sum_congr rfl fun k _ => by rw [hr, EReal.coe_mul]
    have hs0 : 0 ≤ s := by
      have := Finset.sum_nonneg fun k (_ : k ∈ Finset.univ) => sq k
      rw [hs] at this
      exact_mod_cast this
    rw [hs, Ideal.div_coe (by norm_num), ← EReal.coe_mul, ← EReal.coe_add, Ideal.rsqrt_coe, if_neg (by positivity |> not_lt.mpr), if_neg (by positivity), hr, ← EReal.coe_mul,
      ← EReal.coe_mul]
    exact ⟨_, rfl⟩

end Cert.FfnMath

end
-- ==== Proof.Ffn.PieceValue.lean ====
/-
  The values the body computes, read at a row and a column.
-/
module

public import proofs.«01_k».proof.Proof.Ffn.Piece
public import proofs.«01_k».proof.Proof.Ffn.Math

@[expose] public section

set_option maxRecDepth 16384

noncomputable section

namespace Cert.FfnIdeal.Block

open Cert.FfnIdeal Cert.FfnIdeal.Gen Idealize.ShloMosaic Idealize.ShloMosaic.TcCoe Cert.FfnMath

/-- The residual sum. -/
theorem pay1_at (x : Vec Ideal S1024x1024 .f32) (a w : Vec Ideal S1024x1024 .bf16) (r d : Fin 1024) :
    k0_pay1 x a w (ix2 r d) = x (ix2 r d) + ∑ k : Fin 1024, a (ix2 r k) * w (ix2 k d) := by
  pointwise [k0_pay1]

/-- The normalised rows. -/
theorem pay2_at (x : Vec Ideal S1024x1024 .f32) (a w : Vec Ideal S1024x1024 .bf16) (g : Vec Ideal S1x1024 .f32) (r d : Fin 1024) :
    k0_pay2 x a w g (ix2 r d) = rms (fun k => k0_pay1 x a w (ix2 r k)) (fun k => g (ix2 0 k)) d := by
  unfold k0_pay2 rms
  generalize k0_pay1 x a w = X
  pointwise

/-- The sum starts at zero. -/
theorem pay3_at (i : S1024x1024.Idx) : k0_pay3 (F := Ideal) i = 0 := by
  pointwise [k0_pay3]

/-- One part of the product. -/
theorem pay4_at (h wg wu : Vec Ideal S1024x1024 .bf16) (acc : Vec Ideal S1024x1024 .f32) (wd : Vec Ideal S1024x1024 .bf16) (r d : Fin 1024) :
    k0_pay4 h wg wu acc wd (ix2 r d) = acc (ix2 r d)
      + ∑ f : Fin 1024, gateK (∑ k : Fin 1024, h (ix2 r k) * wg (ix2 k f)) * (∑ k : Fin 1024, h (ix2 r k) * wu (ix2 k f)) * wd (ix2 f d) := by
  unfold gateK half
  pointwise [k0_pay4]

/-- The output rows. -/
theorem pay5_at (o acc : Vec Ideal S1024x1024 .f32) (g : Vec Ideal S1x1024 .f32) (r d : Fin 1024) :
    k0_pay5 o acc g (ix2 r d) = rms (fun k => o (ix2 r k) + half * acc (ix2 r k)) (fun k => g (ix2 0 k)) d := by
  unfold rms half
  pointwise [k0_pay5]

end Cert.FfnIdeal.Block

end
-- ==== Proof.Ffn.Rows.lean ====
/-
  One row block's sweep over the hidden features. A kernel works on 1024 rows in four grid points, each with its 1024 hidden
  features. Its buffers hold the rows to add to, their normalised rows and the sum so far. What they hold in the end depends
  only on how they start and on how a point changes them, so it is said once here for every kernel of this form.
-/
module

public import proofs.«01_k».proof.FfnIdeal
public import proofs.«01_k».proof.Proof.Ffn.Math

@[expose] public section

set_option maxRecDepth 16384

noncomputable section

namespace Cert.FfnRows

open Idealize.ShloMosaic Cert.FfnMath
open Cert.FfnIdeal (S16384x1024 S1024x1024 S1024 S1024x4096 S4096x1024)

/-- The row of the whole array at which a block's row `r` lies. -/
def row (n : ℕ) (hn : n / 4 < 16) (r : Fin 1024) : Fin 16384 := ⟨n / 4 * 1024 + r.val, by omega⟩

/-- The hidden feature at which a block's feature `f` lies. -/
def feat (n : ℕ) (f : Fin 1024) : Fin 4096 := ⟨n % 4 * 1024 + f.val, by omega⟩

theorem feat_mod (n : ℕ) (f : Fin 1024) : feat (n % 4) f = feat n f := by
  unfold feat
  simp only [Nat.mod_mod]

theorem not_last {n : ℕ} (h : n % 4 = 0) : ¬n % 4 = 3 := by omega

/-- The residual sum of row `r`. -/
def resid (X : FVec Ideal S16384x1024 .f32) (A : FVec Ideal S16384x1024 .bf16) (Wo : FVec Ideal S1024x1024 .bf16) (r : Fin 16384) (d : Fin 1024) : EReal :=
  X (ix2 r d) + ∑ k : Fin 1024, A (ix2 r k) * Wo (ix2 k d)

/-- A normalised row times a column of a weight. -/
def proj (h : Fin 1024 → EReal) (W : FVec Ideal S1024x4096 .bf16) (f : Fin 4096) : EReal := ∑ k : Fin 1024, h k * W (ix2 k f)

/-- One hidden feature's share of the product. -/
def share (h : Fin 1024 → EReal) (Wg Wu : FVec Ideal S1024x4096 .bf16) (Wd : FVec Ideal S4096x1024 .bf16) (d : Fin 1024) (f : Fin 4096) : EReal :=
  gateK (proj h Wg f) * proj h Wu f * Wd (ix2 f d)

/-- The product over the first `n + 1` blocks of hidden features, as the kernel adds it up. -/
def upTo (h : Fin 1024 → EReal) (Wg Wu : FVec Ideal S1024x4096 .bf16) (Wd : FVec Ideal S4096x1024 .bf16) (d : Fin 1024) : ℕ → EReal
  | 0 => 0 + ∑ f : Fin 1024, share h Wg Wu Wd d (feat 0 f)
  | n + 1 => upTo h Wg Wu Wd d n + ∑ f : Fin 1024, share h Wg Wu Wd d (feat (n + 1) f)

/-- A row with half its step added. -/
def halfStep (R : Fin 1024 → EReal) (g : FVec Ideal S1024 .f32) (Wg Wu : FVec Ideal S1024x4096 .bf16) (Wd : FVec Ideal S4096x1024 .bf16) (d : Fin 1024) : EReal :=
  R d + half * upTo (rms R fun k => g (ix1 k)) Wg Wu Wd d 3

/-- How the buffers `O`, `H` and `A` (rows, normalised rows and sum) change over the grid points of a sweep over rows `R` with
    the normalised rows `G`. -/
structure Sweep {N : ℕ} (O H A : (n : ℕ) → n < N → Fin 1024 → Fin 1024 → EReal) (R G : Fin 16384 → Fin 1024 → EReal)
    (Wg Wu : FVec Ideal S1024x4096 .bf16) (Wd : FVec Ideal S4096x1024 .bf16) : Prop where
  /-- A first point writes the rows. -/
  startO : ∀ (n : ℕ) (hn : n < N) (hr : n / 4 < 16) (r d : Fin 1024), n % 4 = 0 → O n hn r d = R (row n hr r) d
  /-- A first point writes the normalised rows. -/
  startH : ∀ (n : ℕ) (hn : n < N) (hr : n / 4 < 16) (r d : Fin 1024), n % 4 = 0 → H n hn r d = G (row n hr r) d
  /-- A first point adds its part to zero. -/
  startA : ∀ (n : ℕ) (hn : n < N) (hr : n / 4 < 16) (r d : Fin 1024), n % 4 = 0 →
    A n hn r d = 0 + ∑ f : Fin 1024, share (G (row n hr r)) Wg Wu Wd d (feat n f)
  /-- A later point keeps the rows. -/
  keepO : ∀ (n : ℕ) (hn : n < N) (r d : Fin 1024), ¬n % 4 = 0 → ¬n % 4 = 3 → O n hn r d = O (n - 1) (Nat.lt_of_le_of_lt (Nat.sub_le _ _) hn) r d
  /-- A later point keeps the normalised rows. -/
  keepH : ∀ (n : ℕ) (hn : n < N) (r d : Fin 1024), ¬n % 4 = 0 → ¬n % 4 = 3 → H n hn r d = H (n - 1) (Nat.lt_of_le_of_lt (Nat.sub_le _ _) hn) r d
  /-- A later point adds its part to the sum. -/
  addA : ∀ (n : ℕ) (hn : n < N) (r d : Fin 1024) (K : Fin 1024 → EReal), ¬n % 4 = 0 → ¬n % 4 = 3 →
    (∀ k, H (n - 1) (Nat.lt_of_le_of_lt (Nat.sub_le _ _) hn) r k = K k) →
    A n hn r d = A (n - 1) (Nat.lt_of_le_of_lt (Nat.sub_le _ _) hn) r d + ∑ f : Fin 1024, share K Wg Wu Wd d (feat n f)

section

variable {N : ℕ} {O H A : (n : ℕ) → n < N → Fin 1024 → Fin 1024 → EReal} {R G : Fin 16384 → Fin 1024 → EReal}
  {Wg Wu : FVec Ideal S1024x4096 .bf16} {Wd : FVec Ideal S4096x1024 .bf16}

/-- What the buffers hold after a point that is not the last of its row block. -/
theorem Sweep.held (s : Sweep O H A R G Wg Wu Wd) : ∀ (n : ℕ) (hn : n < N) (_ : ¬n % 4 = 3) (hr : n / 4 < 16) (r d : Fin 1024),
    O n hn r d = R (row n hr r) d ∧ H n hn r d = G (row n hr r) d ∧ A n hn r d = upTo (G (row n hr r)) Wg Wu Wd d (n % 4) := by
  intro n
  induction n with
  | zero => exact fun hn h3 hr r d => ⟨s.startO 0 hn hr r d rfl, s.startH 0 hn hr r d rfl, s.startA 0 hn hr r d rfl⟩
  | succ n ih =>
    intro hn h3 hr r d
    by_cases h0 : (n + 1) % 4 = 0
    · refine ⟨s.startO _ hn hr r d h0, s.startH _ hn hr r d h0, (s.startA _ hn hr r d h0).trans ?_⟩
      rw [h0]
      simp only [← feat_mod (n + 1), h0]
      rfl
    · have hr' : n / 4 < 16 := by omega
      have e := ih (Nat.lt_of_succ_lt hn) (by omega) hr'
      have hrow : row n hr' r = row (n + 1) hr r := Fin.ext (by show n / 4 * 1024 + r.val = (n + 1) / 4 * 1024 + r.val; omega)
      have hmod : (n + 1) % 4 = n % 4 + 1 := by omega
      refine ⟨((s.keepO _ hn r d h0 h3).trans (e r d).1).trans (by rw [hrow]), ((s.keepH _ hn r d h0 h3).trans (e r d).2.1).trans (by rw [hrow]), ?_⟩
      refine (s.addA _ hn r d _ h0 h3 fun k => (e r k).2.1).trans ?_
      rw [hrow, hmod]
      refine congrArg₂ (· + ·) ((e r d).2.2.trans (by rw [hrow])) ?_
      simp only [← feat_mod (n + 1), hmod]

/-- What a last point finds, and what the sum is with its part added. -/
theorem Sweep.last (s : Sweep O H A R G Wg Wu Wd) (n : ℕ) (hn : n < N) (h3 : n % 4 = 3) (hr : n / 4 < 16) (r k : Fin 1024) :
    O (n - 1) (Nat.lt_of_le_of_lt (Nat.sub_le _ _) hn) r k = R (row n hr r) k
    ∧ H (n - 1) (Nat.lt_of_le_of_lt (Nat.sub_le _ _) hn) r k = G (row n hr r) k
    ∧ A (n - 1) (Nat.lt_of_le_of_lt (Nat.sub_le _ _) hn) r k + ∑ f : Fin 1024, share (G (row n hr r)) Wg Wu Wd k (feat n f)
      = upTo (G (row n hr r)) Wg Wu Wd k 3 := by
  have hr' : (n - 1) / 4 < 16 := by omega
  have e := s.held (n - 1) (Nat.lt_of_le_of_lt (Nat.sub_le _ _) hn) (by omega) hr' r k
  have hrow : row (n - 1) hr' r = row n hr r := Fin.ext (by show (n - 1) / 4 * 1024 + r.val = n / 4 * 1024 + r.val; omega)
  have hmod : (n - 1) % 4 = 2 := by omega
  rw [hrow, hmod] at e
  refine ⟨e.1, e.2.1, ?_⟩
  rw [e.2.2]
  simp only [← feat_mod n, h3]
  rfl

end

end Cert.FfnRows

end
-- ==== Proof.Ffn.Blocks.lean ====
/-
  The blocks a grid point of the feed-forward kernel loads, read at an element. Point `4 i + j` works on the `i`-th 1024
  rows and on the `j`-th 1024 hidden features.
-/
module

public import proofs.«01_k».proof.Proof.Ffn.PieceValue
public import proofs.«01_k».proof.Proof.Ffn.Rows
public import Idealize.ShloMosaic.Lib.Claim

@[expose] public section

set_option maxRecDepth 16384

noncomputable section

namespace Cert.FfnIdeal.Block

open Cert.FfnIdeal Cert.FfnIdeal.Gen Idealize.ShloMosaic Idealize.ShloMosaic.TcCoe Cert.FfnRows

variable (m : (ℓ : Loc nD τ sig) → Buf (Elt Ideal) ℓ)

/-- Which block each window stages at a grid point. -/
theorem idx : ∀ t : Fin cfg0.N, win0_0.index t = ![t.val / 4, 0] ∧ win0_1.index t = ![0, 0] ∧ win0_2.index t = ![0, t.val % 4]
    ∧ win0_3.index t = ![0, t.val % 4] ∧ win0_4.index t = ![t.val % 4, 0] ∧ win0_5.index t = ![t.val / 4, 0] ∧ win0_6.index t = ![0, 0]
    ∧ win0_7.index t = ![0, 0] ∧ win0_8.index t = ![t.val / 4, 0] ∧ t.val < 64 :=
  (by decide +kernel : ∀ t : Fin grid0.N, _)

theorem x_at (c : Dev nD) (t : Fin cfg0.N) (ht : t.val / 4 < 16) (r l : Fin 1024) :
    iblk m c 0 t (ix2 r l) = m ((c.tc : Thread nD τ).loc main_arg0) (ix2 (row t.val ht r) l) := by
  unfold row; blk_ext [iblk, V_main_arg0, idx t]
theorem wg_at (c : Dev nD) (t : Fin cfg0.N) (r l : Fin 1024) :
    iblk m c 2 t (ix2 r l) = m ((c.tc : Thread nD τ).loc main_arg2) (ix2 r (feat t.val l)) := by
  unfold feat; blk_ext [iblk, V_main_arg2, idx t]
theorem wu_at (c : Dev nD) (t : Fin cfg0.N) (r l : Fin 1024) :
    iblk m c 3 t (ix2 r l) = m ((c.tc : Thread nD τ).loc main_arg3) (ix2 r (feat t.val l)) := by
  unfold feat; blk_ext [iblk, V_main_arg3, idx t]
theorem wd_at (c : Dev nD) (t : Fin cfg0.N) (r l : Fin 1024) :
    iblk m c 4 t (ix2 r l) = m ((c.tc : Thread nD τ).loc main_arg4) (ix2 (feat t.val r) l) := by
  unfold feat; blk_ext [iblk, V_main_arg4, idx t]
theorem a_at (c : Dev nD) (t : Fin cfg0.N) (ht : t.val / 4 < 16) (r l : Fin 1024) :
    iblk m c 5 t (ix2 r l) = m ((c.tc : Thread nD τ).loc main_arg6) (ix2 (row t.val ht r) l) := by
  unfold row; blk_ext [iblk, V_main_arg6, idx t]
theorem wo_at (c : Dev nD) (t : Fin cfg0.N) (r l : Fin 1024) :
    iblk m c 6 t (ix2 r l) = m ((c.tc : Thread nD τ).loc main_arg7) (ix2 r l) := by
  blk_ext [iblk, V_main_arg7, idx t]

/-- The scales reach the kernel as rows of one. -/
theorem entry_g (c : Dev nD) : V m c main_v0 = shapeCast S1x1024 (m ((c.tc : Thread nD τ).loc main_arg1)) shapeCasts_S1024_S1x1024 := by
  entry_read
  rfl
theorem entry_gf (c : Dev nD) : V m c main_v1 = shapeCast S1x1024 (m ((c.tc : Thread nD τ).loc main_arg5)) shapeCasts_S1024_S1x1024 := by
  entry_read
  rfl

theorem g_at (c : Dev nD) (t : Fin cfg0.N) (l : Fin 1024) :
    iblk m c 1 t (ix2 0 l) = m ((c.tc : Thread nD τ).loc main_arg1) (ix1 l) := by
  have e : iblk m c 1 t (ix2 0 l) = V m c main_v0 (ix2 0 l) := by
    generalize hV : V m c main_v0 = B
    blk_ext [iblk, hV, idx t]
  rw [e, entry_g]
  pointwise
theorem gf_at (c : Dev nD) (t : Fin cfg0.N) (l : Fin 1024) :
    iblk m c 7 t (ix2 0 l) = m ((c.tc : Thread nD τ).loc main_arg5) (ix1 l) := by
  have e : iblk m c 7 t (ix2 0 l) = V m c main_v1 (ix2 0 l) := by
    generalize hV : V m c main_v1 = B
    blk_ext [iblk, hV, idx t]
  rw [e, entry_gf]
  pointwise

end Cert.FfnIdeal.Block

end
-- ==== Proof.Ffn.KernelValue.lean ====
/-
  The feed-forward kernel's result array, element by element, as a function of its arguments.
-/
module

public import proofs.«01_k».proof.Proof.Ffn.Blocks
public import proofs.«01_k».proof.Proof.Ffn.Rows
public import Idealize.ShloMosaic.Lib.Pipeline.ValueKit

@[expose] public section

set_option maxRecDepth 16384

noncomputable section

namespace Cert.FfnIdeal.Block

open Cert.FfnIdeal Cert.FfnIdeal.Gen Idealize.ShloMosaic Idealize.ShloMosaic.TcCoe Cert.FfnMath Cert.FfnRows

/-- Row `r` of the result. -/
def kRow (X : FVec Ideal S16384x1024 .f32) (g : FVec Ideal S1024 .f32) (Wg Wu : FVec Ideal S1024x4096 .bf16) (Wd : FVec Ideal S4096x1024 .bf16)
    (gf : FVec Ideal S1024 .f32) (A : FVec Ideal S16384x1024 .bf16) (Wo : FVec Ideal S1024x1024 .bf16) (r : Fin 16384) (d : Fin 1024) : EReal :=
  rms (halfStep (resid X A Wo r) g Wg Wu Wd) (fun k => gf (ix1 k)) d

/-- The whole result. -/
def kOut (X : FVec Ideal S16384x1024 .f32) (g : FVec Ideal S1024 .f32) (Wg Wu : FVec Ideal S1024x4096 .bf16) (Wd : FVec Ideal S4096x1024 .bf16)
    (gf : FVec Ideal S1024 .f32) (A : FVec Ideal S16384x1024 .bf16) (Wo : FVec Ideal S1024x1024 .bf16) : FVec Ideal S16384x1024 .f32 :=
  fun i => kRow X g Wg Wu Wd gf A Wo (i 0) (i 1)

variable (m : (ℓ : Loc nD τ sig) → Buf (Elt Ideal) ℓ)

/-- The residual sum of the arguments in memory. -/
abbrev residM (c : Dev nD) (r : Fin 16384) : Fin 1024 → EReal :=
  resid (m ((c.tc : Thread nD τ).loc main_arg0)) (m ((c.tc : Thread nD τ).loc main_arg6)) (m ((c.tc : Thread nD τ).loc main_arg7)) r

/-- Its normalised row. -/
abbrev normM (c : Dev nD) (r : Fin 16384) : Fin 1024 → EReal :=
  rms (residM m c r) fun k => m ((c.tc : Thread nD τ).loc main_arg1) (ix1 k)

theorem resid_at (c : Dev nD) (t : Fin cfg0.N) (ht : t.val / 4 < 16) (r d : Fin 1024) :
    k0_pay1 (iblk m c 0 t) (iblk m c 5 t) (iblk m c 6 t) (ix2 r d) = residM m c (row t.val ht r) d := by
  rw [pay1_at, x_at m c t ht]
  unfold residM resid
  simp only [a_at m c t ht, wo_at]

theorem norm_at (c : Dev nD) (t : Fin cfg0.N) (ht : t.val / 4 < 16) (r d : Fin 1024) :
    k0_pay2 (iblk m c 0 t) (iblk m c 5 t) (iblk m c 6 t) (iblk m c 1 t) (ix2 r d) = normM m c (row t.val ht r) d := by
  rw [pay2_at]
  simp only [resid_at m c t ht, g_at]

/-- A block's part of the product, added to what is there. -/
theorem part_at (c : Dev nD) (t : Fin cfg0.N) (h : Vec Ideal S1024x1024 .bf16) (acc : Vec Ideal S1024x1024 .f32) (r d : Fin 1024)
    (H : Fin 1024 → EReal) (hH : ∀ k, h (ix2 r k) = H k) :
    k0_pay4 h (iblk m c 2 t) (iblk m c 3 t) acc (iblk m c 4 t) (ix2 r d) = acc (ix2 r d)
      + ∑ f : Fin 1024, share H (m ((c.tc : Thread nD τ).loc main_arg2)) (m ((c.tc : Thread nD τ).loc main_arg3)) (m ((c.tc : Thread nD τ).loc main_arg4)) d (feat t.val f) := by
  rw [pay4_at]
  simp only [hH, wg_at, wu_at, wd_at]
  rfl

/-- The grid points sweep over the hidden features. -/
theorem sweep (c : Dev nD) : Sweep (fun n hn r d => (outsAt0 m c n hn).1 (ix2 r d)) (fun n hn r d => (outsAt0 m c n hn).2.1 (ix2 r d))
    (fun n hn r d => (outsAt0 m c n hn).2.2 (ix2 r d)) (residM m c) (normM m c) (m ((c.tc : Thread nD τ).loc main_arg2)) (m ((c.tc : Thread nD τ).loc main_arg3)) (m ((c.tc : Thread nD τ).loc main_arg4)) where
  startO n hn hr r d h0 := (congrFun (first_out m c ⟨n, hn⟩ h0 (not_last h0)) _).trans (resid_at m c ⟨n, hn⟩ hr r d)
  startH n hn hr r d h0 := (congrFun (first_norm m c ⟨n, hn⟩ h0 (not_last h0)) _).trans (norm_at m c ⟨n, hn⟩ hr r d)
  startA n hn hr r d h0 := by
    refine (congrFun (first_acc m c ⟨n, hn⟩ h0 (not_last h0)) _).trans ?_
    refine (part_at m c ⟨n, hn⟩ _ _ r d _ (norm_at m c ⟨n, hn⟩ hr r)).trans ?_
    rw [pay3_at]
  keepO n hn r d h0 h3 := congrFun (mid_out m c ⟨n, hn⟩ h0 h3) _
  keepH n hn r d h0 h3 := congrFun (mid_norm m c ⟨n, hn⟩ h0 h3) _
  addA n hn r d K h0 h3 hK := (congrFun (mid_acc m c ⟨n, hn⟩ h0 h3) _).trans (part_at m c ⟨n, hn⟩ _ _ r d _ hK)

/-- What the output block holds after the last point of a row block. -/
theorem out_at (c : Dev nD) (t : Fin cfg0.N) (h3 : t.val % 4 = 3) (hr : t.val / 4 < 16) (r d : Fin 1024) :
    (outsAt0 m c t.val t.isLt).1 (ix2 r d) = kRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (row t.val hr r) d := by
  have e := fun k => (sweep m c).last t.val t.isLt h3 hr r k
  have hacc : ∀ k, k0_pay4 (outsAt0 m c (t.val - 1) (lt_pred t)).2.1 (iblk m c 2 t) (iblk m c 3 t) (outsAt0 m c (t.val - 1) (lt_pred t)).2.2 (iblk m c 4 t) (ix2 r k)
      = upTo (normM m c (row t.val hr r)) (m ((c.tc : Thread nD τ).loc main_arg2)) (m ((c.tc : Thread nD τ).loc main_arg3)) (m ((c.tc : Thread nD τ).loc main_arg4)) k 3 :=
    fun k => (part_at m c t _ _ r k _ fun k => (e k).2.1).trans (e k).2.2
  have hres : ∀ k, (outsAt0 m c (t.val - 1) (lt_pred t)).1 (ix2 r k) = residM m c (row t.val hr r) k := fun k => (e k).1
  rw [last_out m c t (by omega) h3, pay5_at]
  simp only [hacc, hres, gf_at]
  rfl

/-- The result read at a row and a column. -/
theorem kOut_at (X : FVec Ideal S16384x1024 .f32) (g : FVec Ideal S1024 .f32) (Wg Wu : FVec Ideal S1024x4096 .bf16) (Wd : FVec Ideal S4096x1024 .bf16)
    (gf : FVec Ideal S1024 .f32) (A : FVec Ideal S16384x1024 .bf16) (Wo : FVec Ideal S1024x1024 .bf16) (i : S16384x1024.Idx) (r : Fin 16384) (d : Fin 1024)
    (h0 : (i 0 : ℕ) = r.val) (h1 : (i 1 : ℕ) = d.val) : kOut X g Wg Wu Wd gf A Wo i = kRow X g Wg Wu Wd gf A Wo r d :=
  congrArg₂ (kRow X g Wg Wu Wd gf A Wo) (Fin.ext h0) (Fin.ext h1)

/-- The block written back after the last point of a row block holds those rows of the result. -/
theorem point (c : Dev nD) (t : Fin cfg0.N) (h3 : t.val % 4 = 3) (hr : t.val / 4 < 16) (y : S1024x1024.Idx) (h0 : (y 0 : ℕ) < 1024) (h1 : (y 1 : ℕ) < 1024) :
    (outsAt0 m c t.val t.isLt).1 y = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (((cfg0.win 8).blk t).view.emb y) := by
  refine (congrArg _ (ix2_eta y).symm).trans ?_
  refine (out_at m c t h3 hr _ _).trans ?_
  refine (kOut_at _ _ _ _ _ _ _ _ _ _ _ ?_ ?_).symm
  · blk_simp [idx t]
    rfl
  · blk_simp [idx t]
    try rfl

/-- The result array after the run. -/
theorem final (c : Dev nD) : (dats m 0 c).arrAt 8 (cfgs 0).N
    = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  have h3 : t.val % 4 = 3 := (flush0_8 t).mp hf
  have hr : t.val / 4 < 16 := by have := (idx t).2.2.2.2.2.2.2.2.2; omega
  blk_simp
  rw [after0_8]
  exact point m c t h3 hr y (y 0).isLt (y 1).isLt

end Cert.FfnIdeal.Block

end
-- ==== Proof.Ffn.RefTerms.lean ====
/-
  The reference's feed-forward step, cut into named steps, and each step read at a row and a column.
-/
module

public import proofs.«01_k».proof.Proof.Gen.FfnRefIdeal.Run
public import proofs.«01_k».proof.Proof.Ffn.Math

@[expose] public section

set_option maxRecDepth 16384

noncomputable section

namespace Cert.FfnRefIdeal.Steps

open Cert.FfnRefIdeal Cert.FfnRefIdeal.Gen Idealize.ShloMosaic Idealize.ShloMosaic.TcCoe Cert.FfnMath

section Terms

variable {F : FTy → Type} [FloatOps F]

/-- The residual sum. -/
def resid (X : FVec F S16384x1024 .f32) (A : FVec F S16384x1024 .bf16) (Wo : FVec F S1024x1024 .bf16) : FVec F S16384x1024 .f32 :=
  addf X (Host.dotGeneral dot_S16384x1024_S1024x1024_S16384x1024_1_0_0_1_n_n none (extf .f32 A bitsLt_bf16_f32) (extf .f32 Wo bitsLt_bf16_f32))

/-- Rows normalised by their root mean square. -/
def norm (X : FVec F S16384x1024 .f32) (g : FVec F S1024 .f32) : FVec F S16384x1024 .f32 :=
  mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Rows times a weight. -/
def proj (h : FVec F S16384x1024 .f32) (W : FVec F S1024x4096 .bf16) : FVec F S16384x4096 .f32 :=
  Host.dotGeneral dot_S16384x1024_S1024x4096_S16384x4096_1_0_0_1_n_n none h (extf .f32 W bitsLt_bf16_f32)

/-- The gate. -/
def gate (G : FVec F S16384x4096 .f32) : FVec F S16384x4096 .f32 :=
  mulf G (Host.divf (broadcastInDim S16384x4096 ![] bcast_S_S16384x4096 (constant S_ .f32 0x3F800000#32))
    (addf (broadcastInDim S16384x4096 ![] bcast_S_S16384x4096 (constant S_ .f32 0x3F800000#32)) (Host.exp (Host.negf G))))

/-- The product of the gated features with the last weight. -/
def down (h : FVec F S16384x1024 .f32) (Wg Wu : FVec F S1024x4096 .bf16) (Wd : FVec F S4096x1024 .bf16) : FVec F S16384x1024 .f32 :=
  Host.dotGeneral dot_S16384x4096_S4096x1024_S16384x1024_1_0_0_1_n_n none (mulf (gate (proj h Wg)) (proj h Wu)) (extf .f32 Wd bitsLt_bf16_f32)

/-- The step with its half weight added to the rows. -/
def step (X : FVec F S16384x1024 .f32) (g : FVec F S1024 .f32) (Wg Wu : FVec F S1024x4096 .bf16) (Wd : FVec F S4096x1024 .bf16) : FVec F S16384x1024 .f32 :=
  addf X (mulf (broadcastInDim S16384x1024 ![] bcast_S_S16384x1024 (constant S_ .f32 0x3F000000#32)) (down (norm X g) Wg Wu Wd))

/-- The reference's result is these steps in a row. -/
theorem res_eq (m : (ℓ : Loc nD τ sig) → Buf (Elt F) ℓ) (c : Dev nD) :
    Value.res_main_v40 m c = norm (step (resid (m ((c.tc : Thread nD τ).loc main_arg0)) (m ((c.tc : Thread nD τ).loc main_arg6)) (m ((c.tc : Thread nD τ).loc main_arg7)))
      (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg5)) := rfl

end Terms

theorem resid_at (X : FVec Ideal S16384x1024 .f32) (A : FVec Ideal S16384x1024 .bf16) (Wo : FVec Ideal S1024x1024 .bf16) (r : Fin 16384) (d : Fin 1024) :
    resid X A Wo (ix2 r d) = X (ix2 r d) + ∑ k : Fin 1024, A (ix2 r k) * Wo (ix2 k d) := by
  pointwise [resid]

theorem norm_at (X : FVec Ideal S16384x1024 .f32) (g : FVec Ideal S1024 .f32) (r : Fin 16384) (d : Fin 1024) :
    norm X g (ix2 r d) = rms (fun k => X (ix2 r k)) (fun k => g (ix1 k)) d := by
  unfold rms
  pointwise [norm]

theorem proj_at (h : FVec Ideal S16384x1024 .f32) (W : FVec Ideal S1024x4096 .bf16) (r : Fin 16384) (f : Fin 4096) :
    proj h W (ix2 r f) = ∑ k : Fin 1024, h (ix2 r k) * W (ix2 k f) := by
  pointwise [proj]

theorem gate_at (G : FVec Ideal S16384x4096 .f32) (r : Fin 16384) (f : Fin 4096) : gate G (ix2 r f) = gateR (G (ix2 r f)) := by
  unfold gateR one
  pointwise [gate]

theorem down_at (h : FVec Ideal S16384x1024 .f32) (Wg Wu : FVec Ideal S1024x4096 .bf16) (Wd : FVec Ideal S4096x1024 .bf16) (r : Fin 16384) (d : Fin 1024) :
    down h Wg Wu Wd (ix2 r d) = ∑ f : Fin 4096, gateR (proj h Wg (ix2 r f)) * proj h Wu (ix2 r f) * Wd (ix2 f d) := by
  simp only [← gate_at]
  unfold down
  generalize gate (proj h Wg) = G
  generalize proj h Wu = U
  pointwise

theorem step_at (X : FVec Ideal S16384x1024 .f32) (g : FVec Ideal S1024 .f32) (Wg Wu : FVec Ideal S1024x4096 .bf16) (Wd : FVec Ideal S4096x1024 .bf16) (r : Fin 16384) (d : Fin 1024) :
    step X g Wg Wu Wd (ix2 r d) = X (ix2 r d) + half * down (norm X g) Wg Wu Wd (ix2 r d) := by
  unfold step half
  generalize down (norm X g) Wg Wu Wd = D
  pointwise

end Cert.FfnRefIdeal.Steps

end
-- ==== Proof.Ffn.Equation.lean ====
/-
  The kernel's and the reference's feed-forward step are one function, for finite scales and gate weights: a normalised row
  is then a row of numbers, so the gates agree, and a sum over 4096 features is the sum of its four blocks.
-/
module

public import proofs.«01_k».proof.Proof.Ffn.KernelValue
public import proofs.«01_k».proof.Proof.Ffn.RefTerms

@[expose] public section

set_option maxRecDepth 16384

noncomputable section

namespace Cert.FfnEquation

open Idealize.ShloMosaic Cert.FfnMath
open Cert.FfnIdeal (S16384x1024 S1024x1024 S1024 S1024x4096 S4096x1024)
open Cert.FfnRows (feat upTo share proj halfStep resid)
open Cert.FfnIdeal.Block (kOut kRow)
open Cert.FfnRefIdeal.Steps (down norm step down_at norm_at step_at proj_at resid_at)

/-- The kernel's sum over the four blocks is the sum over all features. -/
theorem upTo_all (h : Fin 1024 → EReal) (Wg Wu : FVec Ideal S1024x4096 .bf16) (Wd : FVec Ideal S4096x1024 .bf16) (d : Fin 1024) :
    upTo h Wg Wu Wd d 3 = ∑ f : Fin 4096, share h Wg Wu Wd d f := by
  rw [← Fin.sum_mul_add_fin 4 1024 (share h Wg Wu Wd d) (by norm_num), Fin.sum_univ_four]
  simp only [upTo, zero_add]
  rfl

/-- A finite row times a finite weight is a number. -/
theorem proj_real (h : Fin 1024 → EReal) (hr : ∀ k, ∃ y : ℝ, h k = (y : EReal)) (W : FVec Ideal S1024x4096 .bf16) (w : S1024x4096.Idx → ℝ)
    (hw : ∀ i, W i = (w i : EReal)) (f : Fin 4096) : ∃ y : ℝ, proj h W f = (y : EReal) := by
  choose y hy using hr
  refine ⟨∑ k, y k * w (ix2 k f), ?_⟩
  rw [Cert.Softmax.coe_sum]
  exact Finset.sum_congr rfl fun k _ => by rw [hy, hw, EReal.coe_mul]

/-- The two products of the gated features. -/
theorem down_eq (X : FVec Ideal S16384x1024 .f32) (g : FVec Ideal S1024 .f32) (Wg Wu : FVec Ideal S1024x4096 .bf16) (Wd : FVec Ideal S4096x1024 .bf16)
    (gr : S1024.Idx → ℝ) (wr : S1024x4096.Idx → ℝ) (hg : ∀ i, g i = (gr i : EReal)) (hw : ∀ i, Wg i = (wr i : EReal)) (r : Fin 16384) (d : Fin 1024) :
    down (norm X g) Wg Wu Wd (ix2 r d) = upTo (rms (fun k => X (ix2 r k)) fun k => g (ix1 k)) Wg Wu Wd d 3 := by
  rw [upTo_all, down_at]
  refine Finset.sum_congr rfl fun f _ => ?_
  have hp : ∀ W : FVec Ideal S1024x4096 .bf16, Cert.FfnRefIdeal.Steps.proj (norm X g) W (ix2 r f) = proj (rms (fun k => X (ix2 r k)) fun k => g (ix1 k)) W f := by
    intro W
    rw [proj_at]
    simp only [norm_at]
    rfl
  have hn : ∀ k, ∃ y : ℝ, rms (fun k => X (ix2 r k)) (fun k => g (ix1 k)) k = (y : EReal) := by
    simp only [hg]
    exact rms_real _ _
  obtain ⟨u, hu⟩ := proj_real _ hn Wg wr hw f
  rw [hp, hp]
  unfold share
  rw [hu, gate_eq]

/-- A step at a row and a column. -/
theorem step_eq (X : FVec Ideal S16384x1024 .f32) (g : FVec Ideal S1024 .f32) (Wg Wu : FVec Ideal S1024x4096 .bf16) (Wd : FVec Ideal S4096x1024 .bf16)
    (gr : S1024.Idx → ℝ) (wr : S1024x4096.Idx → ℝ) (hg : ∀ i, g i = (gr i : EReal)) (hw : ∀ i, Wg i = (wr i : EReal)) (r : Fin 16384) (d : Fin 1024) :
    step X g Wg Wu Wd (ix2 r d) = halfStep (fun k => X (ix2 r k)) g Wg Wu Wd d := by
  rw [step_at, down_eq _ _ _ _ _ gr wr hg hw]
  rfl

/-- A step from the residual sum at a row and a column. -/
theorem step_resid_eq (X : FVec Ideal S16384x1024 .f32) (g : FVec Ideal S1024 .f32) (Wg Wu : FVec Ideal S1024x4096 .bf16) (Wd : FVec Ideal S4096x1024 .bf16)
    (A : FVec Ideal S16384x1024 .bf16) (Wo : FVec Ideal S1024x1024 .bf16)
    (gr : S1024.Idx → ℝ) (wr : S1024x4096.Idx → ℝ) (hg : ∀ i, g i = (gr i : EReal)) (hw : ∀ i, Wg i = (wr i : EReal)) (r : Fin 16384) (d : Fin 1024) :
    step (Cert.FfnRefIdeal.Steps.resid X A Wo) g Wg Wu Wd (ix2 r d) = halfStep (resid X A Wo r) g Wg Wu Wd d := by
  rw [step_eq _ _ _ _ _ gr wr hg hw]
  simp only [resid_at]
  rfl

/-- Both results at a row and a column. -/
theorem row_eq (X : FVec Ideal S16384x1024 .f32) (g : FVec Ideal S1024 .f32) (Wg Wu : FVec Ideal S1024x4096 .bf16) (Wd : FVec Ideal S4096x1024 .bf16)
    (gf : FVec Ideal S1024 .f32) (A : FVec Ideal S16384x1024 .bf16) (Wo : FVec Ideal S1024x1024 .bf16)
    (gr : S1024.Idx → ℝ) (wr : S1024x4096.Idx → ℝ) (hg : ∀ i, g i = (gr i : EReal)) (hw : ∀ i, Wg i = (wr i : EReal)) (r : Fin 16384) (d : Fin 1024) :
    norm (step (Cert.FfnRefIdeal.Steps.resid X A Wo) g Wg Wu Wd) gf (ix2 r d) = kRow X g Wg Wu Wd gf A Wo r d := by
  rw [norm_at]
  simp only [step_resid_eq _ _ _ _ _ _ _ gr wr hg hw]
  rfl

/-- Both results. -/
theorem out_eq (X : FVec Ideal S16384x1024 .f32) (g : FVec Ideal S1024 .f32) (Wg Wu : FVec Ideal S1024x4096 .bf16) (Wd : FVec Ideal S4096x1024 .bf16)
    (gf : FVec Ideal S1024 .f32) (A : FVec Ideal S16384x1024 .bf16) (Wo : FVec Ideal S1024x1024 .bf16)
    (gr : S1024.Idx → ℝ) (wr : S1024x4096.Idx → ℝ) (hg : ∀ i, g i = (gr i : EReal)) (hw : ∀ i, Wg i = (wr i : EReal)) :
    norm (step (Cert.FfnRefIdeal.Steps.resid X A Wo) g Wg Wu Wd) gf = kOut X g Wg Wu Wd gf A Wo := by
  funext i
  exact (congrArg _ (ix2_eta i).symm).trans (row_eq X g Wg Wu Wd gf A Wo gr wr hg hw (i 0) (i 1))

end Cert.FfnEquation

end
-- ==== Proof.Ffn.Finite.lean ====
/-
  What the feed-forward step's precondition says: the scales and the gate's weights hold real numbers.
-/
module

public import proofs.«01_k».proof.Pre_ffn_finite
public import proofs.«01_k».proof.Proof.Common.Finite

@[expose] public section

set_option maxRecDepth 16384

noncomputable section

namespace Cert.FfnFinite

open Idealize.ShloMosaic
open Cert.Pre_ffn_finite (S16384x1024 S1024 S1024x4096 S4096x1024 S1024x1024)

theorem reals [hp : Cert.Pre_ffn_finite.Facts] (X : FVec Ideal S16384x1024 .f32) (g : FVec Ideal S1024 .f32) (Wg Wu : FVec Ideal S1024x4096 .bf16)
    (Wd : FVec Ideal S4096x1024 .bf16) (gf : FVec Ideal S1024 .f32) (A : FVec Ideal S16384x1024 .bf16) (Wo : FVec Ideal S1024x1024 .bf16)
    (h : Cert.Pre_ffn_finite.fn (F := Ideal) X g Wg Wu Wd gf A Wo = fun _ => 1#1) :
    (∃ r : S1024.Idx → ℝ, ∀ i, g i = (r i : EReal)) ∧ ∃ r : S1024x4096.Idx → ℝ, ∀ i, Wg i = (r i : EReal) := by
  dsimp only [Cert.Pre_ffn_finite.fn] at h
  have e := congrFun h default
  obtain ⟨e1, e2⟩ := Cert.Finite.and_ones _ _ e
  exact ⟨Cert.Finite.real_of_all _ _ _ _ _ _ e1, Cert.Finite.real_of_all _ _ _ _ _ _ e2⟩

end Cert.FfnFinite

end
-- ==== Proof.Ffn.Claims.lean ====
/-
  The claim about the feed-forward step: the kernel and the reference end with the same result.
-/
module

public import proofs.«01_k».proof.Defs
public import proofs.«01_k».proof.Proof.Ffn.Frames
public import proofs.«01_k».proof.Proof.Gen.FfnIdeal.Value
public import proofs.«01_k».proof.Proof.Gen.FfnRefIdeal.Run
public import proofs.«01_k».proof.Proof.Gen.Pre_ffn_finite
public import proofs.«01_k».proof.Proof.Ffn.Equation
public import proofs.«01_k».proof.Proof.Ffn.Finite
public import Idealize.ShloMosaic.Lib.Claim

@[expose] public section

set_option maxRecDepth 16384

noncomputable section

namespace Cert.FfnClaims

open Idealize.ShloMosaic Idealize.SL.Sem

theorem frame_ideal_pre : Cert.quiescent_FfnIdeal_pre_ffn_finite := fun m ρ _ => Cert.FfnIdeal.Gen.frame m ρ

theorem frame_reference_pre : Cert.quiescent_FfnRefIdeal_pre_ffn_finite := fun m ρ _ => Cert.FfnFrames.frame_reference m ρ trivial

theorem value : Cert.algebraic_FfnIdeal_FfnRefIdeal_pre_ffn_finite := by
  pair_intro
  · run_from Cert.FfnIdeal.Value.run_blocks m g
  · run_from Cert.FfnRefIdeal.Value.run m' g'
    obtain ⟨⟨gr, hg⟩, ⟨wr, hw⟩⟩ := Cert.FfnFinite.reals _ _ _ _ _ _ _ _ (hpre c)
    rw [Cert.FfnRefIdeal.Steps.res_eq]
    obtain ⟨a0, a1, a2, a3, a4, a5, a6, a7⟩ := hagree c
    rw [a0, a1, a2, a3, a4, a5, a6, a7]
    exact (Cert.FfnEquation.out_eq _ _ _ _ _ _ _ _ gr wr hg hw).trans (Cert.FfnIdeal.Block.final m c).symm

end Cert.FfnClaims

end
-- ==== Proof.First.Piece.lean ====
/-
  What the body of the feed-forward kernel without a residual product leaves behind at a grid point.
-/
module

public import proofs.«01_k».proof.Proof.Gen.FirstIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FirstIdeal.Block

open Cert.FirstIdeal Cert.FirstIdeal.Gen Idealize.ShloMosaic Idealize.ShloMosaic.TcCoe

variable (m : (ℓ : Loc nD τ sig) → Buf (Elt Ideal) ℓ)

/-- The point before. -/
theorem lt_pred (t : Fin cfg0.N) : t.val - 1 < cfg0.N := Nat.lt_of_le_of_lt (Nat.sub_le _ _) t.isLt

theorem first_out (c : Dev nD) (t : Fin cfg0.N) (h0 : t.val % 4 = 0) (h1 : ¬t.val % 4 = 3) :
    (outsAt0 m c t.val t.isLt).1 = (iblk m c 0 t) := by
  rw [outsAt0_A m c t h0 h1]
  frame_out

theorem first_norm (c : Dev nD) (t : Fin cfg0.N) (h0 : t.val % 4 = 0) (h1 : ¬t.val % 4 = 3) :
    (outsAt0 m c t.val t.isLt).2.1 = k0_pay1 (iblk m c 0 t) (iblk m c 1 t) := by
  rw [outsAt0_A m c t h0 h1]
  frame_out

theorem first_acc (c : Dev nD) (t : Fin cfg0.N) (h0 : t.val % 4 = 0) (h1 : ¬t.val % 4 = 3) :
    (outsAt0 m c t.val t.isLt).2.2 = k0_pay3 (k0_pay1 (iblk m c 0 t) (iblk m c 1 t)) (iblk m c 2 t) (iblk m c 3 t)
      (k0_pay2 (F := Ideal)) (iblk m c 4 t) := by
  rw [outsAt0_A m c t h0 h1]
  frame_out

theorem mid_out (c : Dev nD) (t : Fin cfg0.N) (h0 : ¬t.val % 4 = 0) (h1 : ¬t.val % 4 = 3) :
    (outsAt0 m c t.val t.isLt).1 = (outsAt0 m c (t.val - 1) (lt_pred t)).1 := by
  rw [outsAt0_B m c t h0 h1]
  rfl

theorem mid_norm (c : Dev nD) (t : Fin cfg0.N) (h0 : ¬t.val % 4 = 0) (h1 : ¬t.val % 4 = 3) :
    (outsAt0 m c t.val t.isLt).2.1 = (outsAt0 m c (t.val - 1) (lt_pred t)).2.1 := by
  rw [outsAt0_B m c t h0 h1]
  rfl

theorem mid_acc (c : Dev nD) (t : Fin cfg0.N) (h0 : ¬t.val % 4 = 0) (h1 : ¬t.val % 4 = 3) :
    (outsAt0 m c t.val t.isLt).2.2 = k0_pay3 (outsAt0 m c (t.val - 1) (lt_pred t)).2.1 (iblk m c 2 t) (iblk m c 3 t)
      (outsAt0 m c (t.val - 1) (lt_pred t)).2.2 (iblk m c 4 t) := by
  rw [outsAt0_B m c t h0 h1]
  frame_out
  simp only [read_unread_whole]

theorem last_out (c : Dev nD) (t : Fin cfg0.N) (h0 : ¬t.val % 4 = 0) (h1 : t.val % 4 = 3) :
    (outsAt0 m c t.val t.isLt).1 = k0_pay4 (outsAt0 m c (t.val - 1) (lt_pred t)).1
      (k0_pay3 (outsAt0 m c (t.val - 1) (lt_pred t)).2.1 (iblk m c 2 t) (iblk m c 3 t) (outsAt0 m c (t.val - 1) (lt_pred t)).2.2 (iblk m c 4 t)) := by
  rw [outsAt0_C m c t h0 h1]
  frame_out
  simp only [read_unread_whole]

end Cert.FirstIdeal.Block

end
-- ==== Proof.First.PieceValue.lean ====
/-
  The values the body computes, read at a row and a column. The part of the product is the one of the kernel with a residual
  product.
-/
module

public import proofs.«01_k».proof.Proof.First.Piece
public import proofs.«01_k».proof.Proof.Ffn.PieceValue

@[expose] public section

set_option maxRecDepth 16384

noncomputable section

namespace Cert.FirstIdeal.Block

open Cert.FirstIdeal Cert.FirstIdeal.Gen Idealize.ShloMosaic Idealize.ShloMosaic.TcCoe Cert.FfnMath

/-- The normalised rows. -/
theorem pay1_at (x : Vec Ideal S1024x1024 .f32) (g : Vec Ideal S1x1024 .f32) (r d : Fin 1024) :
    k0_pay1 x g (ix2 r d) = rms (fun k => x (ix2 r k)) (fun k => g (ix2 0 k)) d := by
  unfold rms
  pointwise [k0_pay1]

/-- The sum starts at zero. -/
theorem pay2_at (i : S1024x1024.Idx) : k0_pay2 (F := Ideal) i = 0 := Cert.FfnIdeal.Block.pay3_at i

/-- One part of the product. -/
theorem pay3_at (h wg wu : Vec Ideal S1024x1024 .bf16) (acc : Vec Ideal S1024x1024 .f32) (wd : Vec Ideal S1024x1024 .bf16) (r d : Fin 1024) :
    k0_pay3 h wg wu acc wd (ix2 r d) = acc (ix2 r d)
      + ∑ f : Fin 1024, gateK (∑ k : Fin 1024, h (ix2 r k) * wg (ix2 k f)) * (∑ k : Fin 1024, h (ix2 r k) * wu (ix2 k f)) * wd (ix2 f d) :=
  Cert.FfnIdeal.Block.pay4_at h wg wu acc wd r d

/-- The output rows. -/
theorem pay4_at (o acc : Vec Ideal S1024x1024 .f32) (r d : Fin 1024) :
    k0_pay4 o acc (ix2 r d) = o (ix2 r d) + half * acc (ix2 r d) := by
  unfold half
  pointwise [k0_pay4]

end Cert.FirstIdeal.Block

end
-- ==== Proof.First.Blocks.lean ====
/-
  The blocks a grid point loads, read at an element. Point `4 i + j` works on the `i`-th 1024 rows and on the `j`-th 1024
  hidden features.
-/
module

public import proofs.«01_k».proof.Proof.First.PieceValue
public import proofs.«01_k».proof.Proof.Ffn.Rows
public import Idealize.ShloMosaic.Lib.Claim

@[expose] public section

set_option maxRecDepth 16384

noncomputable section

namespace Cert.FirstIdeal.Block

open Cert.FirstIdeal Cert.FirstIdeal.Gen Idealize.ShloMosaic Idealize.ShloMosaic.TcCoe Cert.FfnRows

variable (m : (ℓ : Loc nD τ sig) → Buf (Elt Ideal) ℓ)

/-- Which block each window stages at a grid point. -/
theorem idx : ∀ t : Fin cfg0.N, win0_0.index t = ![t.val / 4, 0] ∧ win0_1.index t = ![0, 0] ∧ win0_2.index t = ![0, t.val % 4]
    ∧ win0_3.index t = ![0, t.val % 4] ∧ win0_4.index t = ![t.val % 4, 0] ∧ win0_5.index t = ![t.val / 4, 0] ∧ t.val < 64 :=
  (by decide +kernel : ∀ t : Fin grid0.N, _)

theorem x_at (c : Dev nD) (t : Fin cfg0.N) (ht : t.val / 4 < 16) (r l : Fin 1024) :
    iblk m c 0 t (ix2 r l) = m ((c.tc : Thread nD τ).loc main_arg0) (ix2 (row t.val ht r) l) := by
  unfold row; blk_ext [iblk, V_main_arg0, idx t]
theorem wg_at (c : Dev nD) (t : Fin cfg0.N) (r l : Fin 1024) :
    iblk m c 2 t (ix2 r l) = m ((c.tc : Thread nD τ).loc main_arg2) (ix2 r (feat t.val l)) := by
  unfold feat; blk_ext [iblk, V_main_arg2, idx t]
theorem wu_at (c : Dev nD) (t : Fin cfg0.N) (r l : Fin 1024) :
    iblk m c 3 t (ix2 r l) = m ((c.tc : Thread nD τ).loc main_arg3) (ix2 r (feat t.val l)) := by
  unfold feat; blk_ext [iblk, V_main_arg3, idx t]
theorem wd_at (c : Dev nD) (t : Fin cfg0.N) (r l : Fin 1024) :
    iblk m c 4 t (ix2 r l) = m ((c.tc : Thread nD τ).loc main_arg4) (ix2 (feat t.val r) l) := by
  unfold feat; blk_ext [iblk, V_main_arg4, idx t]

/-- The scale reaches the kernel as a row of one. -/
theorem entry_g (c : Dev nD) : V m c main_v0 = shapeCast S1x1024 (m ((c.tc : Thread nD τ).loc main_arg1)) shapeCasts_S1024_S1x1024 := by
  entry_read
  rfl

theorem g_at (c : Dev nD) (t : Fin cfg0.N) (l : Fin 1024) :
    iblk m c 1 t (ix2 0 l) = m ((c.tc : Thread nD τ).loc main_arg1) (ix1 l) := by
  have e : iblk m c 1 t (ix2 0 l) = V m c main_v0 (ix2 0 l) := by
    generalize hV : V m c main_v0 = B
    blk_ext [iblk, hV, idx t]
  rw [e, entry_g]
  pointwise

end Cert.FirstIdeal.Block

end
-- ==== Proof.First.KernelValue.lean ====
/-
  The plain feed-forward kernel's result array, element by element, as a function of its arguments.
-/
module

public import proofs.«01_k».proof.Proof.First.Blocks
public import proofs.«01_k».proof.Proof.Ffn.Rows
public import Idealize.ShloMosaic.Lib.Pipeline.ValueKit

@[expose] public section

set_option maxRecDepth 16384

noncomputable section

namespace Cert.FirstIdeal.Block

open Cert.FirstIdeal Cert.FirstIdeal.Gen Idealize.ShloMosaic Idealize.ShloMosaic.TcCoe Cert.FfnMath Cert.FfnRows

/-- Row `r` of the result. -/
def kRow (X : FVec Ideal S16384x1024 .f32) (g : FVec Ideal S1024 .f32) (Wg Wu : FVec Ideal S1024x4096 .bf16) (Wd : FVec Ideal S4096x1024 .bf16) (r : Fin 16384) (d : Fin 1024) : EReal :=
  halfStep (fun k => X (ix2 r k)) g Wg Wu Wd d

/-- The whole result. -/
def kOut (X : FVec Ideal S16384x1024 .f32) (g : FVec Ideal S1024 .f32) (Wg Wu : FVec Ideal S1024x4096 .bf16) (Wd : FVec Ideal S4096x1024 .bf16) : FVec Ideal S16384x1024 .f32 :=
  fun i => kRow X g Wg Wu Wd (i 0) (i 1)

variable (m : (ℓ : Loc nD τ sig) → Buf (Elt Ideal) ℓ)

/-- The rows of the arguments in memory. -/
abbrev residM (c : Dev nD) (r : Fin 16384) : Fin 1024 → EReal :=
  fun k => (m ((c.tc : Thread nD τ).loc main_arg0)) (ix2 r k)

/-- Its normalised row. -/
abbrev normM (c : Dev nD) (r : Fin 16384) : Fin 1024 → EReal :=
  rms (residM m c r) fun k => m ((c.tc : Thread nD τ).loc main_arg1) (ix1 k)

theorem norm_at (c : Dev nD) (t : Fin cfg0.N) (ht : t.val / 4 < 16) (r d : Fin 1024) :
    k0_pay1 (iblk m c 0 t) (iblk m c 1 t) (ix2 r d) = normM m c (row t.val ht r) d := by
  rw [pay1_at]
  simp only [x_at m c t ht, g_at]

/-- A block's part of the product, added to what is there. -/
theorem part_at (c : Dev nD) (t : Fin cfg0.N) (h : Vec Ideal S1024x1024 .bf16) (acc : Vec Ideal S1024x1024 .f32) (r d : Fin 1024)
    (H : Fin 1024 → EReal) (hH : ∀ k, h (ix2 r k) = H k) :
    k0_pay3 h (iblk m c 2 t) (iblk m c 3 t) acc (iblk m c 4 t) (ix2 r d) = acc (ix2 r d)
      + ∑ f : Fin 1024, share H (m ((c.tc : Thread nD τ).loc main_arg2)) (m ((c.tc : Thread nD τ).loc main_arg3)) (m ((c.tc : Thread nD τ).loc main_arg4)) d (feat t.val f) := by
  rw [pay3_at]
  simp only [hH, wg_at, wu_at, wd_at]
  rfl

/-- The grid points sweep over the hidden features. -/
theorem sweep (c : Dev nD) : Sweep (fun n hn r d => (outsAt0 m c n hn).1 (ix2 r d)) (fun n hn r d => (outsAt0 m c n hn).2.1 (ix2 r d))
    (fun n hn r d => (outsAt0 m c n hn).2.2 (ix2 r d)) (residM m c) (normM m c) (m ((c.tc : Thread nD τ).loc main_arg2)) (m ((c.tc : Thread nD τ).loc main_arg3)) (m ((c.tc : Thread nD τ).loc main_arg4)) where
  startO n hn hr r d h0 := (congrFun (first_out m c ⟨n, hn⟩ h0 (not_last h0)) _).trans (x_at m c ⟨n, hn⟩ hr r d)
  startH n hn hr r d h0 := (congrFun (first_norm m c ⟨n, hn⟩ h0 (not_last h0)) _).trans (norm_at m c ⟨n, hn⟩ hr r d)
  startA n hn hr r d h0 := by
    refine (congrFun (first_acc m c ⟨n, hn⟩ h0 (not_last h0)) _).trans ?_
    refine (part_at m c ⟨n, hn⟩ _ _ r d _ (norm_at m c ⟨n, hn⟩ hr r)).trans ?_
    rw [pay2_at]
  keepO n hn r d h0 h3 := congrFun (mid_out m c ⟨n, hn⟩ h0 h3) _
  keepH n hn r d h0 h3 := congrFun (mid_norm m c ⟨n, hn⟩ h0 h3) _
  addA n hn r d K h0 h3 hK := (congrFun (mid_acc m c ⟨n, hn⟩ h0 h3) _).trans (part_at m c ⟨n, hn⟩ _ _ r d _ hK)

/-- What the output block holds after the last point of a row block. -/
theorem out_at (c : Dev nD) (t : Fin cfg0.N) (h3 : t.val % 4 = 3) (hr : t.val / 4 < 16) (r d : Fin 1024) :
    (outsAt0 m c t.val t.isLt).1 (ix2 r d) = kRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (row t.val hr r) d := by
  have e := fun k => (sweep m c).last t.val t.isLt h3 hr r k
  have hacc : ∀ k, k0_pay3 (outsAt0 m c (t.val - 1) (lt_pred t)).2.1 (iblk m c 2 t) (iblk m c 3 t) (outsAt0 m c (t.val - 1) (lt_pred t)).2.2 (iblk m c 4 t) (ix2 r k)
      = upTo (normM m c (row t.val hr r)) (m ((c.tc : Thread nD τ).loc main_arg2)) (m ((c.tc : Thread nD τ).loc main_arg3)) (m ((c.tc : Thread nD τ).loc main_arg4)) k 3 :=
    fun k => (part_at m c t _ _ r k _ fun k => (e k).2.1).trans (e k).2.2
  have hres : ∀ k, (outsAt0 m c (t.val - 1) (lt_pred t)).1 (ix2 r k) = residM m c (row t.val hr r) k := fun k => (e k).1
  rw [last_out m c t (by omega) h3, pay4_at]
  simp only [hacc, hres]
  rfl

/-- The result read at a row and a column. -/
theorem kOut_at (X : FVec Ideal S16384x1024 .f32) (g : FVec Ideal S1024 .f32) (Wg Wu : FVec Ideal S1024x4096 .bf16) (Wd : FVec Ideal S4096x1024 .bf16) (i : S16384x1024.Idx) (r : Fin 16384) (d : Fin 1024)
    (h0 : (i 0 : ℕ) = r.val) (h1 : (i 1 : ℕ) = d.val) : kOut X g Wg Wu Wd i = kRow X g Wg Wu Wd r d :=
  congrArg₂ (kRow X g Wg Wu Wd) (Fin.ext h0) (Fin.ext h1)

/-- The block written back after the last point of a row block holds those rows of the result. -/
theorem point (c : Dev nD) (t : Fin cfg0.N) (h3 : t.val % 4 = 3) (hr : t.val / 4 < 16) (y : S1024x1024.Idx) (h0 : (y 0 : ℕ) < 1024) (h1 : (y 1 : ℕ) < 1024) :
    (outsAt0 m c t.val t.isLt).1 y = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (((cfg0.win 5).blk t).view.emb y) := by
  refine (congrArg _ (ix2_eta y).symm).trans ?_
  refine (out_at m c t h3 hr _ _).trans ?_
  refine (kOut_at _ _ _ _ _ _ _ _ ?_ ?_).symm
  · blk_simp [idx t]
    rfl
  · blk_simp [idx t]
    try rfl

/-- The result array after the run. -/
theorem final (c : Dev nD) : (dats m 0 c).arrAt 5 (cfgs 0).N
    = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  have h3 : t.val % 4 = 3 := (flush0_5 t).mp hf
  have hr : t.val / 4 < 16 := by have := (idx t).2.2.2.2.2.2; omega
  blk_simp
  rw [after0_5]
  exact point m c t h3 hr y (y 0).isLt (y 1).isLt

end Cert.FirstIdeal.Block

end
-- ==== Proof.First.Claims.lean ====
/-
  The claims about the plain feed-forward step: its programs run, keep their arguments and end with their counters at zero,
  and the kernel and the reference end with the same result.
-/
module

public import proofs.«01_k».proof.Defs
public import proofs.«01_k».proof.Proof.Gen.First.Frame
public import proofs.«01_k».proof.Proof.Gen.FirstRefIdeal
public import proofs.«01_k».proof.Proof.Gen.FirstRefIdeal.Run
public import proofs.«01_k».proof.Proof.Gen.Pre_first_finite
public import proofs.«01_k».proof.Proof.Gen.Pre_ffn_finite
public import proofs.«01_k».proof.Proof.First.KernelValue
public import proofs.«01_k».proof.Proof.Ffn.Equation
public import proofs.«01_k».proof.Proof.Ffn.Finite
public import Idealize.ShloMosaic.Lib.Claim

@[expose] public section

set_option maxRecDepth 16384

noncomputable section

namespace Cert.FirstClaims

open Idealize.ShloMosaic Idealize.SL.Sem
open Cert.FfnIdeal (S16384x1024 S1024x1024 S1024 S1024x4096 S4096x1024)
open Cert.FfnRefIdeal.Steps (step)
open Cert.FfnEquation (step_eq step_resid_eq)

theorem frame_kernel : Cert.quiescent_First := fun m ρ _ => Cert.First.Gen.frame m ρ

theorem frame_ideal : Cert.quiescent_FirstIdeal := fun m ρ _ => Cert.FirstIdeal.Gen.frame m ρ

theorem frame_ideal_pre : Cert.quiescent_FirstIdeal_pre_first_finite := fun m ρ _ => Cert.FirstIdeal.Gen.frame m ρ

/-- The reference's program has no counters. -/
theorem frame_reference : Cert.quiescent_FirstRefIdeal := by
  intro m ρ _
  refine (θ_run Cert.FirstRefIdeal.defs _ _).mono (fun r h => ⟨fun c => (h c).2, ?_⟩) (Cert.FirstRefIdeal.Value.run m ρ)
  exact sem_eq_zero_of_no_sems (by decide) r.2

theorem frame_reference_pre : Cert.quiescent_FirstRefIdeal_pre_first_finite := fun m ρ _ => frame_reference m ρ trivial

/-- The precondition says the same of its scale and gate weight as that of the other feed-forward step. -/
theorem reals (X : FVec Ideal S16384x1024 .f32) (g : FVec Ideal S1024 .f32) (Wg Wu : FVec Ideal S1024x4096 .bf16) (Wd : FVec Ideal S4096x1024 .bf16)
    (h : Cert.Pre_first_finite.fn (F := Ideal) X g Wg Wu Wd = fun _ => 1#1) :
    (∃ r : S1024.Idx → ℝ, ∀ i, g i = (r i : EReal)) ∧ ∃ r : S1024x4096.Idx → ℝ, ∀ i, Wg i = (r i : EReal) :=
  Cert.FfnFinite.reals X g Wg Wu Wd g (fun _ => (0 : EReal)) (fun _ => (0 : EReal)) h

/-- Both results. -/
theorem out_eq (X : FVec Ideal S16384x1024 .f32) (g : FVec Ideal S1024 .f32) (Wg Wu : FVec Ideal S1024x4096 .bf16) (Wd : FVec Ideal S4096x1024 .bf16)
    (gr : S1024.Idx → ℝ) (wr : S1024x4096.Idx → ℝ) (hg : ∀ i, g i = (gr i : EReal)) (hw : ∀ i, Wg i = (wr i : EReal)) :
    step X g Wg Wu Wd = Cert.FirstIdeal.Block.kOut X g Wg Wu Wd := by
  funext i
  exact (congrArg _ (ix2_eta i).symm).trans (step_eq X g Wg Wu Wd gr wr hg hw (i 0) (i 1))

theorem value : Cert.algebraic_FirstIdeal_FirstRefIdeal_pre_first_finite := by
  pair_intro
  · run_from Cert.FirstIdeal.Value.run_blocks m g
  · run_from Cert.FirstRefIdeal.Value.run m' g'
    obtain ⟨⟨gr, hg⟩, ⟨wr, hw⟩⟩ := reals _ _ _ _ _ (hpre c)
    refine Eq.trans (b := step (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4))) rfl ?_
    exact (out_eq _ _ _ _ _ gr wr hg hw).trans (Cert.FirstIdeal.Block.final m c).symm

end Cert.FirstClaims

end
-- ==== Proof.Last.Piece.lean ====
/-
  What the body of the feed-forward kernel with a residual product and no last normalisation leaves behind at a grid point.
-/
module

public import proofs.«01_k».proof.Proof.Gen.LastIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.LastIdeal.Block

open Cert.LastIdeal Cert.LastIdeal.Gen Idealize.ShloMosaic Idealize.ShloMosaic.TcCoe

variable (m : (ℓ : Loc nD τ sig) → Buf (Elt Ideal) ℓ)

/-- The point before. -/
theorem lt_pred (t : Fin cfg0.N) : t.val - 1 < cfg0.N := Nat.lt_of_le_of_lt (Nat.sub_le _ _) t.isLt

theorem first_out (c : Dev nD) (t : Fin cfg0.N) (h0 : t.val % 4 = 0) (h1 : ¬t.val % 4 = 3) :
    (outsAt0 m c t.val t.isLt).1 = k0_pay1 (iblk m c 0 t) (iblk m c 5 t) (iblk m c 6 t) := by
  rw [outsAt0_A m c t h0 h1]
  frame_out

theorem first_norm (c : Dev nD) (t : Fin cfg0.N) (h0 : t.val % 4 = 0) (h1 : ¬t.val % 4 = 3) :
    (outsAt0 m c t.val t.isLt).2.1 = k0_pay2 (iblk m c 0 t) (iblk m c 5 t) (iblk m c 6 t) (iblk m c 1 t) := by
  rw [outsAt0_A m c t h0 h1]
  frame_out

theorem first_acc (c : Dev nD) (t : Fin cfg0.N) (h0 : t.val % 4 = 0) (h1 : ¬t.val % 4 = 3) :
    (outsAt0 m c t.val t.isLt).2.2 = k0_pay4 (k0_pay2 (iblk m c 0 t) (iblk m c 5 t) (iblk m c 6 t) (iblk m c 1 t)) (iblk m c 2 t) (iblk m c 3 t)
      (k0_pay3 (F := Ideal)) (iblk m c 4 t) := by
  rw [outsAt0_A m c t h0 h1]
  frame_out

theorem mid_out (c : Dev nD) (t : Fin cfg0.N) (h0 : ¬t.val % 4 = 0) (h1 : ¬t.val % 4 = 3) :
    (outsAt0 m c t.val t.isLt).1 = (outsAt0 m c (t.val - 1) (lt_pred t)).1 := by
  rw [outsAt0_B m c t h0 h1]
  rfl

theorem mid_norm (c : Dev nD) (t : Fin cfg0.N) (h0 : ¬t.val % 4 = 0) (h1 : ¬t.val % 4 = 3) :
    (outsAt0 m c t.val t.isLt).2.1 = (outsAt0 m c (t.val - 1) (lt_pred t)).2.1 := by
  rw [outsAt0_B m c t h0 h1]
  rfl

theorem mid_acc (c : Dev nD) (t : Fin cfg0.N) (h0 : ¬t.val % 4 = 0) (h1 : ¬t.val % 4 = 3) :
    (outsAt0 m c t.val t.isLt).2.2 = k0_pay4 (outsAt0 m c (t.val - 1) (lt_pred t)).2.1 (iblk m c 2 t) (iblk m c 3 t)
      (outsAt0 m c (t.val - 1) (lt_pred t)).2.2 (iblk m c 4 t) := by
  rw [outsAt0_B m c t h0 h1]
  frame_out
  simp only [read_unread_whole]

theorem last_out (c : Dev nD) (t : Fin cfg0.N) (h0 : ¬t.val % 4 = 0) (h1 : t.val % 4 = 3) :
    (outsAt0 m c t.val t.isLt).1 = k0_pay5 (outsAt0 m c (t.val - 1) (lt_pred t)).1
      (k0_pay4 (outsAt0 m c (t.val - 1) (lt_pred t)).2.1 (iblk m c 2 t) (iblk m c 3 t) (outsAt0 m c (t.val - 1) (lt_pred t)).2.2 (iblk m c 4 t)) := by
  rw [outsAt0_C m c t h0 h1]
  frame_out
  simp only [read_unread_whole]

end Cert.LastIdeal.Block

end
-- ==== Proof.Last.PieceValue.lean ====
/-
  The values the body computes, read at a row and a column. Each is a value of one of the other two feed-forward kernels.
-/
module

public import proofs.«01_k».proof.Proof.Last.Piece
public import proofs.«01_k».proof.Proof.First.PieceValue

@[expose] public section

set_option maxRecDepth 16384

noncomputable section

namespace Cert.LastIdeal.Block

open Cert.LastIdeal Cert.LastIdeal.Gen Idealize.ShloMosaic Idealize.ShloMosaic.TcCoe Cert.FfnMath

/-- The residual sum. -/
theorem pay1_at (x : Vec Ideal S1024x1024 .f32) (a w : Vec Ideal S1024x1024 .bf16) (r d : Fin 1024) :
    k0_pay1 x a w (ix2 r d) = x (ix2 r d) + ∑ k : Fin 1024, a (ix2 r k) * w (ix2 k d) := Cert.FfnIdeal.Block.pay1_at x a w r d

/-- The normalised rows. -/
theorem pay2_at (x : Vec Ideal S1024x1024 .f32) (a w : Vec Ideal S1024x1024 .bf16) (g : Vec Ideal S1x1024 .f32) (r d : Fin 1024) :
    k0_pay2 x a w g (ix2 r d) = rms (fun k => k0_pay1 x a w (ix2 r k)) (fun k => g (ix2 0 k)) d := Cert.FfnIdeal.Block.pay2_at x a w g r d

/-- The sum starts at zero. -/
theorem pay3_at (i : S1024x1024.Idx) : k0_pay3 (F := Ideal) i = 0 := Cert.FfnIdeal.Block.pay3_at i

/-- One part of the product. -/
theorem pay4_at (h wg wu : Vec Ideal S1024x1024 .bf16) (acc : Vec Ideal S1024x1024 .f32) (wd : Vec Ideal S1024x1024 .bf16) (r d : Fin 1024) :
    k0_pay4 h wg wu acc wd (ix2 r d) = acc (ix2 r d)
      + ∑ f : Fin 1024, gateK (∑ k : Fin 1024, h (ix2 r k) * wg (ix2 k f)) * (∑ k : Fin 1024, h (ix2 r k) * wu (ix2 k f)) * wd (ix2 f d) :=
  Cert.FfnIdeal.Block.pay4_at h wg wu acc wd r d

/-- The output rows. -/
theorem pay5_at (o acc : Vec Ideal S1024x1024 .f32) (r d : Fin 1024) :
    k0_pay5 o acc (ix2 r d) = o (ix2 r d) + half * acc (ix2 r d) := Cert.FirstIdeal.Block.pay4_at o acc r d

end Cert.LastIdeal.Block

end
-- ==== Proof.Last.Blocks.lean ====
/-
  The blocks a grid point loads, read at an element. Point `4 i + j` works on the `i`-th 1024 rows and on the `j`-th 1024
  hidden features.
-/
module

public import proofs.«01_k».proof.Proof.Last.PieceValue
public import proofs.«01_k».proof.Proof.Ffn.Rows
public import Idealize.ShloMosaic.Lib.Claim

@[expose] public section

set_option maxRecDepth 16384

noncomputable section

namespace Cert.LastIdeal.Block

open Cert.LastIdeal Cert.LastIdeal.Gen Idealize.ShloMosaic Idealize.ShloMosaic.TcCoe Cert.FfnRows

variable (m : (ℓ : Loc nD τ sig) → Buf (Elt Ideal) ℓ)

/-- Which block each window stages at a grid point. -/
theorem idx : ∀ t : Fin cfg0.N, win0_0.index t = ![t.val / 4, 0] ∧ win0_1.index t = ![0, 0] ∧ win0_2.index t = ![0, t.val % 4]
    ∧ win0_3.index t = ![0, t.val % 4] ∧ win0_4.index t = ![t.val % 4, 0] ∧ win0_5.index t = ![t.val / 4, 0] ∧ win0_6.index t = ![0, 0]
    ∧ win0_7.index t = ![t.val / 4, 0] ∧ t.val < 64 :=
  (by decide +kernel : ∀ t : Fin grid0.N, _)

theorem x_at (c : Dev nD) (t : Fin cfg0.N) (ht : t.val / 4 < 16) (r l : Fin 1024) :
    iblk m c 0 t (ix2 r l) = m ((c.tc : Thread nD τ).loc main_arg0) (ix2 (row t.val ht r) l) := by
  unfold row; blk_ext [iblk, V_main_arg0, idx t]
theorem wg_at (c : Dev nD) (t : Fin cfg0.N) (r l : Fin 1024) :
    iblk m c 2 t (ix2 r l) = m ((c.tc : Thread nD τ).loc main_arg2) (ix2 r (feat t.val l)) := by
  unfold feat; blk_ext [iblk, V_main_arg2, idx t]
theorem wu_at (c : Dev nD) (t : Fin cfg0.N) (r l : Fin 1024) :
    iblk m c 3 t (ix2 r l) = m ((c.tc : Thread nD τ).loc main_arg3) (ix2 r (feat t.val l)) := by
  unfold feat; blk_ext [iblk, V_main_arg3, idx t]
theorem wd_at (c : Dev nD) (t : Fin cfg0.N) (r l : Fin 1024) :
    iblk m c 4 t (ix2 r l) = m ((c.tc : Thread nD τ).loc main_arg4) (ix2 (feat t.val r) l) := by
  unfold feat; blk_ext [iblk, V_main_arg4, idx t]
theorem a_at (c : Dev nD) (t : Fin cfg0.N) (ht : t.val / 4 < 16) (r l : Fin 1024) :
    iblk m c 5 t (ix2 r l) = m ((c.tc : Thread nD τ).loc main_arg5) (ix2 (row t.val ht r) l) := by
  unfold row; blk_ext [iblk, V_main_arg5, idx t]
theorem wo_at (c : Dev nD) (t : Fin cfg0.N) (r l : Fin 1024) :
    iblk m c 6 t (ix2 r l) = m ((c.tc : Thread nD τ).loc main_arg6) (ix2 r l) := by
  blk_ext [iblk, V_main_arg6, idx t]

/-- The scale reaches the kernel as a row of one. -/
theorem entry_g (c : Dev nD) : V m c main_v0 = shapeCast S1x1024 (m ((c.tc : Thread nD τ).loc main_arg1)) shapeCasts_S1024_S1x1024 := by
  entry_read
  rfl

theorem g_at (c : Dev nD) (t : Fin cfg0.N) (l : Fin 1024) :
    iblk m c 1 t (ix2 0 l) = m ((c.tc : Thread nD τ).loc main_arg1) (ix1 l) := by
  have e : iblk m c 1 t (ix2 0 l) = V m c main_v0 (ix2 0 l) := by
    generalize hV : V m c main_v0 = B
    blk_ext [iblk, hV, idx t]
  rw [e, entry_g]
  pointwise

end Cert.LastIdeal.Block

end
-- ==== Proof.Last.KernelValue.lean ====
/-
  The feed-forward step with a residual product: its kernel's result array, element by element, as a function of its arguments.
-/
module

public import proofs.«01_k».proof.Proof.Last.Blocks
public import proofs.«01_k».proof.Proof.Ffn.Rows
public import Idealize.ShloMosaic.Lib.Pipeline.ValueKit

@[expose] public section

set_option maxRecDepth 16384

noncomputable section

namespace Cert.LastIdeal.Block

open Cert.LastIdeal Cert.LastIdeal.Gen Idealize.ShloMosaic Idealize.ShloMosaic.TcCoe Cert.FfnMath Cert.FfnRows

/-- Row `r` of the result. -/
def kRow (X : FVec Ideal S16384x1024 .f32) (g : FVec Ideal S1024 .f32) (Wg Wu : FVec Ideal S1024x4096 .bf16) (Wd : FVec Ideal S4096x1024 .bf16)
    (A : FVec Ideal S16384x1024 .bf16) (Wo : FVec Ideal S1024x1024 .bf16) (r : Fin 16384) (d : Fin 1024) : EReal :=
  halfStep (resid X A Wo r) g Wg Wu Wd d

/-- The whole result. -/
def kOut (X : FVec Ideal S16384x1024 .f32) (g : FVec Ideal S1024 .f32) (Wg Wu : FVec Ideal S1024x4096 .bf16) (Wd : FVec Ideal S4096x1024 .bf16)
    (A : FVec Ideal S16384x1024 .bf16) (Wo : FVec Ideal S1024x1024 .bf16) : FVec Ideal S16384x1024 .f32 :=
  fun i => kRow X g Wg Wu Wd A Wo (i 0) (i 1)

variable (m : (ℓ : Loc nD τ sig) → Buf (Elt Ideal) ℓ)

/-- The residual sum of the arguments in memory. -/
abbrev residM (c : Dev nD) (r : Fin 16384) : Fin 1024 → EReal :=
  resid (m ((c.tc : Thread nD τ).loc main_arg0)) (m ((c.tc : Thread nD τ).loc main_arg5)) (m ((c.tc : Thread nD τ).loc main_arg6)) r

/-- Its normalised row. -/
abbrev normM (c : Dev nD) (r : Fin 16384) : Fin 1024 → EReal :=
  rms (residM m c r) fun k => m ((c.tc : Thread nD τ).loc main_arg1) (ix1 k)

theorem resid_at (c : Dev nD) (t : Fin cfg0.N) (ht : t.val / 4 < 16) (r d : Fin 1024) :
    k0_pay1 (iblk m c 0 t) (iblk m c 5 t) (iblk m c 6 t) (ix2 r d) = residM m c (row t.val ht r) d := by
  rw [pay1_at, x_at m c t ht]
  unfold residM resid
  simp only [a_at m c t ht, wo_at]

theorem norm_at (c : Dev nD) (t : Fin cfg0.N) (ht : t.val / 4 < 16) (r d : Fin 1024) :
    k0_pay2 (iblk m c 0 t) (iblk m c 5 t) (iblk m c 6 t) (iblk m c 1 t) (ix2 r d) = normM m c (row t.val ht r) d := by
  rw [pay2_at]
  simp only [resid_at m c t ht, g_at]

/-- A block's part of the product, added to what is there. -/
theorem part_at (c : Dev nD) (t : Fin cfg0.N) (h : Vec Ideal S1024x1024 .bf16) (acc : Vec Ideal S1024x1024 .f32) (r d : Fin 1024)
    (H : Fin 1024 → EReal) (hH : ∀ k, h (ix2 r k) = H k) :
    k0_pay4 h (iblk m c 2 t) (iblk m c 3 t) acc (iblk m c 4 t) (ix2 r d) = acc (ix2 r d)
      + ∑ f : Fin 1024, share H (m ((c.tc : Thread nD τ).loc main_arg2)) (m ((c.tc : Thread nD τ).loc main_arg3)) (m ((c.tc : Thread nD τ).loc main_arg4)) d (feat t.val f) := by
  rw [pay4_at]
  simp only [hH, wg_at, wu_at, wd_at]
  rfl

/-- The grid points sweep over the hidden features. -/
theorem sweep (c : Dev nD) : Sweep (fun n hn r d => (outsAt0 m c n hn).1 (ix2 r d)) (fun n hn r d => (outsAt0 m c n hn).2.1 (ix2 r d))
    (fun n hn r d => (outsAt0 m c n hn).2.2 (ix2 r d)) (residM m c) (normM m c) (m ((c.tc : Thread nD τ).loc main_arg2)) (m ((c.tc : Thread nD τ).loc main_arg3)) (m ((c.tc : Thread nD τ).loc main_arg4)) where
  startO n hn hr r d h0 := (congrFun (first_out m c ⟨n, hn⟩ h0 (not_last h0)) _).trans (resid_at m c ⟨n, hn⟩ hr r d)
  startH n hn hr r d h0 := (congrFun (first_norm m c ⟨n, hn⟩ h0 (not_last h0)) _).trans (norm_at m c ⟨n, hn⟩ hr r d)
  startA n hn hr r d h0 := by
    refine (congrFun (first_acc m c ⟨n, hn⟩ h0 (not_last h0)) _).trans ?_
    refine (part_at m c ⟨n, hn⟩ _ _ r d _ (norm_at m c ⟨n, hn⟩ hr r)).trans ?_
    rw [pay3_at]
  keepO n hn r d h0 h3 := congrFun (mid_out m c ⟨n, hn⟩ h0 h3) _
  keepH n hn r d h0 h3 := congrFun (mid_norm m c ⟨n, hn⟩ h0 h3) _
  addA n hn r d K h0 h3 hK := (congrFun (mid_acc m c ⟨n, hn⟩ h0 h3) _).trans (part_at m c ⟨n, hn⟩ _ _ r d _ hK)

/-- What the output block holds after the last point of a row block. -/
theorem out_at (c : Dev nD) (t : Fin cfg0.N) (h3 : t.val % 4 = 3) (hr : t.val / 4 < 16) (r d : Fin 1024) :
    (outsAt0 m c t.val t.isLt).1 (ix2 r d) = kRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t.val hr r) d := by
  have e := fun k => (sweep m c).last t.val t.isLt h3 hr r k
  have hacc : ∀ k, k0_pay4 (outsAt0 m c (t.val - 1) (lt_pred t)).2.1 (iblk m c 2 t) (iblk m c 3 t) (outsAt0 m c (t.val - 1) (lt_pred t)).2.2 (iblk m c 4 t) (ix2 r k)
      = upTo (normM m c (row t.val hr r)) (m ((c.tc : Thread nD τ).loc main_arg2)) (m ((c.tc : Thread nD τ).loc main_arg3)) (m ((c.tc : Thread nD τ).loc main_arg4)) k 3 :=
    fun k => (part_at m c t _ _ r k _ fun k => (e k).2.1).trans (e k).2.2
  have hres : ∀ k, (outsAt0 m c (t.val - 1) (lt_pred t)).1 (ix2 r k) = residM m c (row t.val hr r) k := fun k => (e k).1
  rw [last_out m c t (by omega) h3, pay5_at]
  simp only [hacc, hres]
  rfl

/-- The result read at a row and a column. -/
theorem kOut_at (X : FVec Ideal S16384x1024 .f32) (g : FVec Ideal S1024 .f32) (Wg Wu : FVec Ideal S1024x4096 .bf16) (Wd : FVec Ideal S4096x1024 .bf16)
    (A : FVec Ideal S16384x1024 .bf16) (Wo : FVec Ideal S1024x1024 .bf16) (i : S16384x1024.Idx) (r : Fin 16384) (d : Fin 1024)
    (h0 : (i 0 : ℕ) = r.val) (h1 : (i 1 : ℕ) = d.val) : kOut X g Wg Wu Wd A Wo i = kRow X g Wg Wu Wd A Wo r d :=
  congrArg₂ (kRow X g Wg Wu Wd A Wo) (Fin.ext h0) (Fin.ext h1)

/-- The block written back after the last point of a row block holds those rows of the result. -/
theorem point (c : Dev nD) (t : Fin cfg0.N) (h3 : t.val % 4 = 3) (hr : t.val / 4 < 16) (y : S1024x1024.Idx) (h0 : (y 0 : ℕ) < 1024) (h1 : (y 1 : ℕ) < 1024) :
    (outsAt0 m c t.val t.isLt).1 y = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (((cfg0.win 7).blk t).view.emb y) := by
  refine (congrArg _ (ix2_eta y).symm).trans ?_
  refine (out_at m c t h3 hr _ _).trans ?_
  refine (kOut_at _ _ _ _ _ _ _ _ _ _ ?_ ?_).symm
  · blk_simp [idx t]
    rfl
  · blk_simp [idx t]
    try rfl

/-- The result array after the run. -/
theorem final (c : Dev nD) : (dats m 0 c).arrAt 7 (cfgs 0).N
    = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  have h3 : t.val % 4 = 3 := (flush0_7 t).mp hf
  have hr : t.val / 4 < 16 := by have := (idx t).2.2.2.2.2.2.2.2; omega
  blk_simp
  rw [after0_7]
  exact point m c t h3 hr y (y 0).isLt (y 1).isLt

end Cert.LastIdeal.Block

end
-- ==== Proof.Last.Claims.lean ====
/-
  The claims about the feed-forward step with a residual product: its programs run, keep their arguments and end with their counters at zero,
  and the kernel and the reference end with the same result.
-/
module

public import proofs.«01_k».proof.Defs
public import proofs.«01_k».proof.Proof.Gen.Last.Frame
public import proofs.«01_k».proof.Proof.Gen.LastRefIdeal
public import proofs.«01_k».proof.Proof.Gen.LastRefIdeal.Run
public import proofs.«01_k».proof.Proof.Gen.Pre_last_finite
public import proofs.«01_k».proof.Proof.Gen.Pre_ffn_finite
public import proofs.«01_k».proof.Proof.Last.KernelValue
public import proofs.«01_k».proof.Proof.Ffn.Equation
public import proofs.«01_k».proof.Proof.Ffn.Finite
public import Idealize.ShloMosaic.Lib.Claim

@[expose] public section

set_option maxRecDepth 16384

noncomputable section

namespace Cert.LastClaims

open Idealize.ShloMosaic Idealize.SL.Sem
open Cert.FfnIdeal (S16384x1024 S1024x1024 S1024 S1024x4096 S4096x1024)
open Cert.FfnRefIdeal.Steps (step)
open Cert.FfnEquation (step_eq step_resid_eq)

theorem frame_kernel : Cert.quiescent_Last := fun m ρ _ => Cert.Last.Gen.frame m ρ

theorem frame_ideal : Cert.quiescent_LastIdeal := fun m ρ _ => Cert.LastIdeal.Gen.frame m ρ

theorem frame_ideal_pre : Cert.quiescent_LastIdeal_pre_last_finite := fun m ρ _ => Cert.LastIdeal.Gen.frame m ρ

/-- The reference's program has no counters. -/
theorem frame_reference : Cert.quiescent_LastRefIdeal := by
  intro m ρ _
  refine (θ_run Cert.LastRefIdeal.defs _ _).mono (fun r h => ⟨fun c => (h c).2, ?_⟩) (Cert.LastRefIdeal.Value.run m ρ)
  exact sem_eq_zero_of_no_sems (by decide) r.2

theorem frame_reference_pre : Cert.quiescent_LastRefIdeal_pre_last_finite := fun m ρ _ => frame_reference m ρ trivial

/-- The precondition says the same of its scale and gate weight as that of the other feed-forward step. -/
theorem reals (X : FVec Ideal S16384x1024 .f32) (g : FVec Ideal S1024 .f32) (Wg Wu : FVec Ideal S1024x4096 .bf16) (Wd : FVec Ideal S4096x1024 .bf16)
    (A : FVec Ideal S16384x1024 .bf16) (Wo : FVec Ideal S1024x1024 .bf16)
    (h : Cert.Pre_last_finite.fn (F := Ideal) X g Wg Wu Wd A Wo = fun _ => 1#1) :
    (∃ r : S1024.Idx → ℝ, ∀ i, g i = (r i : EReal)) ∧ ∃ r : S1024x4096.Idx → ℝ, ∀ i, Wg i = (r i : EReal) :=
  Cert.FfnFinite.reals X g Wg Wu Wd g A Wo h

/-- Both results. -/
theorem out_eq (X : FVec Ideal S16384x1024 .f32) (g : FVec Ideal S1024 .f32) (Wg Wu : FVec Ideal S1024x4096 .bf16) (Wd : FVec Ideal S4096x1024 .bf16)
    (A : FVec Ideal S16384x1024 .bf16) (Wo : FVec Ideal S1024x1024 .bf16)
    (gr : S1024.Idx → ℝ) (wr : S1024x4096.Idx → ℝ) (hg : ∀ i, g i = (gr i : EReal)) (hw : ∀ i, Wg i = (wr i : EReal)) :
    step (Cert.FfnRefIdeal.Steps.resid X A Wo) g Wg Wu Wd = Cert.LastIdeal.Block.kOut X g Wg Wu Wd A Wo := by
  funext i
  exact (congrArg _ (ix2_eta i).symm).trans (step_resid_eq X g Wg Wu Wd A Wo gr wr hg hw (i 0) (i 1))

theorem value : Cert.algebraic_LastIdeal_LastRefIdeal_pre_last_finite := by
  pair_intro
  · run_from Cert.LastIdeal.Value.run_blocks m g
  · run_from Cert.LastRefIdeal.Value.run m' g'
    obtain ⟨⟨gr, hg⟩, ⟨wr, hw⟩⟩ := reals _ _ _ _ _ _ _ (hpre c)
    refine Eq.trans (b := step (Cert.FfnRefIdeal.Steps.resid (m' ((c.tc : Thread Cert.LastRefIdeal.nD Cert.LastRefIdeal.τ).loc Cert.LastRefIdeal.main_arg0)) (m' ((c.tc : Thread Cert.LastRefIdeal.nD Cert.LastRefIdeal.τ).loc Cert.LastRefIdeal.main_arg5)) (m' ((c.tc : Thread Cert.LastRefIdeal.nD Cert.LastRefIdeal.τ).loc Cert.LastRefIdeal.main_arg6)))
      (m' ((c.tc : Thread Cert.LastRefIdeal.nD Cert.LastRefIdeal.τ).loc Cert.LastRefIdeal.main_arg1)) (m' ((c.tc : Thread Cert.LastRefIdeal.nD Cert.LastRefIdeal.τ).loc Cert.LastRefIdeal.main_arg2)) (m' ((c.tc : Thread Cert.LastRefIdeal.nD Cert.LastRefIdeal.τ).loc Cert.LastRefIdeal.main_arg3)) (m' ((c.tc : Thread Cert.LastRefIdeal.nD Cert.LastRefIdeal.τ).loc Cert.LastRefIdeal.main_arg4))) rfl ?_
    obtain ⟨a0, a1, a2, a3, a4, a5, a6⟩ := hagree c
    rw [a0, a1, a2, a3, a4, a5, a6]
    exact (out_eq _ _ _ _ _ _ _ gr wr hg hw).trans (Cert.LastIdeal.Block.final m c).symm

end Cert.LastClaims

end
-- ==== Proof.Cross.Math.lean ====
/-
  The cross attention's equations on numbers: the scale on the queries or on the scores, the division of the combined values
  or of the weights, and a residual product in one piece or in two.
-/
module

public import proofs.«01_k».proof.Proof.Band.Softmax
public import proofs.«01_k».proof.Proof.Ffn.Math

@[expose] public section

noncomputable section

namespace Cert.CrossMath

open Idealize.ShloMosaic Cert.Softmax

/-- One sixteenth, as both programs write it. -/
def scale : EReal := Ideal.ofBits FTy.f32 0x3D800000#32

theorem scale_eq : scale = ((1 / 16 : ℝ) : EReal) := by
  show Ideal.ofBits FTy.f32 0x3D800000#32 = ((1 / 16 : ℝ) : EReal)
  simp [Ideal.ofBits, Ideal.ieee]
  rw [← EReal.coe_mul]
  norm_num

/-- A product of scaled queries with a key is the scaled product. -/
theorem score_eq {n : ℕ} (q k : Fin n → EReal) : ∑ d, q d * scale * k d = (∑ d, q d * k d) * scale := by
  rw [scale_eq, sum_mul_real _ _ _ (by norm_num)]
  exact Finset.sum_congr rfl fun d _ => mul_right_comm _ _ _

/-- A sum of products of reals is real. -/
theorem dot_real {n : ℕ} (a b : Fin n → EReal) (ha : ∀ k, ∃ r : ℝ, a k = (r : EReal)) (hb : ∀ k, ∃ r : ℝ, b k = (r : EReal)) :
    ∃ r : ℝ, ∑ k, a k * b k = (r : EReal) := by
  choose x hx using ha
  choose y hy using hb
  refine ⟨∑ k, x k * y k, ?_⟩
  rw [coe_sum]
  exact Finset.sum_congr rfl fun k _ => by rw [hx, hy, EReal.coe_mul]

/-- The values combined with the weights of the scores `s`, divided once by the weights' sum. -/
def attnK {n : ℕ} (s v : Fin n → EReal) : EReal := Ideal.div (∑ y, Ideal.exp (s y - top s) * v y) (∑ y, Ideal.exp (s y - top s))

/-- The values combined with the weights, each divided by their sum. -/
def attnR {n : ℕ} (s v : Fin n → EReal) : EReal := ∑ y, v y * Ideal.div (Ideal.exp (s y - top s)) (∑ y', Ideal.exp (s y' - top s))

/-- Both agree where the scores are numbers. -/
theorem attn_eq {n : ℕ} (hn : 0 < n) (s v : Fin n → EReal) (hs : ∀ y, ∃ r : ℝ, s y = (r : EReal)) : attnK s v = attnR s v := by
  choose u hu using hs
  obtain ⟨y0, -, hmax⟩ := Finset.exists_max_image Finset.univ u ⟨⟨0, hn⟩, Finset.mem_univ _⟩
  have hm : top s = (u y0 : EReal) := top_eq (fun y => by rw [hu]; exact EReal.coe_le_coe_iff.mpr (hmax y (Finset.mem_univ y))) y0 (hu y0)
  have hw : ∀ y, Ideal.exp (s y - top s) = (Real.exp (u y - u y0) : EReal) := fun y => by
    rw [hu, hm, ← EReal.coe_sub, Ideal.exp_coe]
  have hl : 0 < ∑ y, Real.exp (u y - u y0) := Finset.sum_pos (fun y _ => Real.exp_pos _) ⟨y0, Finset.mem_univ _⟩
  unfold attnK attnR
  simp only [hw, ← coe_sum]
  have hdiv : ∀ a : EReal, Ideal.div a ((∑ y, Real.exp (u y - u y0) : ℝ) : EReal) = a * (((∑ y, Real.exp (u y - u y0))⁻¹ : ℝ) : EReal) := fun a => by
    rw [Ideal.div, if_neg (by exact_mod_cast hl.ne'), EReal.coe_inv]
  rw [hdiv, sum_mul_real _ _ _ (inv_nonneg.mpr hl.le)]
  refine Finset.sum_congr rfl fun y _ => ?_
  rw [hdiv, mul_comm (Real.exp _ : EReal), mul_assoc]

/-- A sum over 1024 in two halves. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

end Cert.CrossMath

end
-- ==== Proof.Cross.Head.lean ====
/-
  The cross attention kernel's body read at an element: the residual sum, the scaled queries, and one head's softmax over the
  256 memory tokens, which is the same for each of the four.
-/
module

public import proofs.«01_k».proof.Proof.Gen.CrossIdeal.Value
public import proofs.«01_k».proof.Proof.Cross.Math
public import Idealize.ShloMosaic.Lib.Pointwise
public import Idealize.ShloMosaic.Lib.Pipeline.ValueKit

@[expose] public section

set_option maxRecDepth 16384

noncomputable section

namespace Cert.CrossIdeal.Head

open Cert.CrossIdeal Cert.CrossIdeal.Gen Idealize.ShloMosaic Cert.FfnMath Cert.CrossMath Cert.Softmax

section

variable {F : FTy → Type} [FloatOps F]

/-- One head's scores. -/
def score (q : FVec F S512x256 .bf16) (k : Vec F S256x256 .bf16) : FVec F S512x256 .f32 :=
  matmul dot_S512x256_S256x256_S512x256_1_1_0_0_n_n none q k (constant S512x256 .f32 0x00000000#32)

/-- The rows' maxima. -/
def rowMax (s : FVec F S512x256 .f32) : FVec F S512x1 .f32 :=
  shapeCast S512x1 (multiReduction .maximumf [1] S512 s 0xFF800000#32 reduces_S512x256_S512 (.inl rfl) rfl) shapeCasts_S512_S512x1

/-- The exponentials of the scores less the rows' maxima. -/
def weight (s : FVec F S512x256 .f32) : FVec F S512x256 .f32 :=
  exp (subf s (broadcastTo S512x256 (rowMax s) broadcasts_S512x1_S512x256))

/-- The weights' combination of the values over the rows' sums of weights. -/
def mix (p : FVec F S512x256 .f32) (v : Vec F S256x256 .bf16) : FVec F S512x256 .f32 :=
  divf (matmul dot_S512x256_S256x256_S512x256_1_0_0_1_n_n none (truncf .bf16 p bitsLt_bf16_f32) v (constant S512x256 .f32 0x00000000#32))
    (broadcastTo S512x256 (shapeCast S512x1 (multiReduction .add [1] S512 p 0x00000000#32 reduces_S512x256_S512 (.inl rfl) rfl) shapeCasts_S512_S512x1) broadcasts_S512x1_S512x256)

/-- The four heads side by side. -/
def beside (a b c d : FVec F S512x256 .f32) : FVec F S512x1024 .bf16 :=
  truncf .bf16 (concatenate S512x1024 1 [⟨S512x256, a⟩, ⟨S512x256, b⟩, ⟨S512x256, c⟩, ⟨S512x256, d⟩] concatenates_S512x256_S512x256_S512x256_S512x256_S512x1024_d1) bitsLt_bf16_f32

/-- The four heads' attention from the scaled queries `q`. -/
def heads (q : FVec F S512x1024 .bf16) (k v : Vec F S256x1024 .bf16) : FVec F S512x1024 .bf16 :=
  beside (mix (weight (score (extractStridedSlice S512x256 ![0, 0] q slices_S512x1024_o0_0_S512x256) (View.ld k r0_4))) (View.ld v r0_4))
    (mix (weight (score (extractStridedSlice S512x256 ![0, 256] q slices_S512x1024_o0_256_S512x256) (View.ld k r0_5))) (View.ld v r0_5))
    (mix (weight (score (extractStridedSlice S512x256 ![0, 512] q slices_S512x1024_o0_512_S512x256) (View.ld k r0_6))) (View.ld v r0_6))
    (mix (weight (score (extractStridedSlice S512x256 ![0, 768] q slices_S512x1024_o0_768_S512x256) (View.ld k r0_7))) (View.ld v r0_7))

/-- The body's second output block. -/
theorem out_eq (x0 : Vec F S512x1024 .f32) (x1 : Vec F S1x1024 .f32) (x2 : Vec F S1024x1024 .bf16) (x3 : Vec F S512x512 .bf16) (x4 : Vec F S512x1024 .bf16)
    (x5 : Vec F S512x512 .bf16) (x6 : Vec F S512x1024 .bf16) (x7 x8 : Vec F S256x1024 .bf16) :
    out0_10 x0 x1 x2 x3 x4 x5 x6 x7 x8 = View.canon [⟨r0_0, heads (k0_pay14 x0 x1 x2 x3 x4 x5 x6 x7 x8) x7 x8⟩] := rfl

end

/-- The column of feature `d` of head `h`. -/
def col (h : Fin 4) (d : Fin 256) : Fin 1024 := ⟨h.val * 256 + d.val, by omega⟩

theorem score_at (q : FVec Ideal S512x256 .bf16) (k : Vec Ideal S256x256 .bf16) (r : Fin 512) (y : Fin 256) :
    score q k (ix2 r y) = ∑ e : Fin 256, q (ix2 r e) * k (ix2 y e) := by
  pointwise [score]

theorem rowMax_at (s : FVec Ideal S512x256 .f32) (r : Fin 512) : rowMax s (ix2 r 0) = top fun y => s (ix2 r y) := by
  unfold top
  pointwise [rowMax]
  rw [show Ideal.ofBits FTy.f32 0xFF800000#32 = ⊥ by simp [Ideal.ofBits, Ideal.ieee]]

theorem weight_at (s : FVec Ideal S512x256 .f32) (r : Fin 512) (y : Fin 256) : weight s (ix2 r y) = Ideal.exp (s (ix2 r y) - top fun y => s (ix2 r y)) := by
  rw [← rowMax_at]
  unfold weight
  generalize rowMax s = mx
  pointwise

theorem mix_at (p : FVec Ideal S512x256 .f32) (v : Vec Ideal S256x256 .bf16) (r : Fin 512) (d : Fin 256) :
    mix p v (ix2 r d) = Ideal.div (∑ y : Fin 256, p (ix2 r y) * v (ix2 y d)) (∑ y : Fin 256, p (ix2 r y)) := by
  pointwise [mix]

/-- One head's attention. -/
theorem head_at (q : FVec Ideal S512x256 .bf16) (k v : Vec Ideal S256x256 .bf16) (r : Fin 512) (d : Fin 256) :
    mix (weight (score q k)) v (ix2 r d) = attnK (fun y => ∑ e : Fin 256, q (ix2 r e) * k (ix2 y e)) fun y => v (ix2 y d) := by
  rw [mix_at]
  simp only [weight_at, score_at]
  rfl

theorem beside_at (f : Fin 4 → FVec Ideal S512x256 .f32) (h : Fin 4) (r : Fin 512) (d : Fin 256) :
    beside (f 0) (f 1) (f 2) (f 3) (ix2 r (col h d)) = f h (ix2 r d) := by
  have key : ∀ (n : Fin 4) (a : ℕ) (ha : a < 256), n = h → a = d.val → f n (ix2 r ⟨a, ha⟩) = f h (ix2 r d) := by
    intro n a ha e1 e2; subst e1 e2; rfl
  unfold beside
  generalize e0 : f 0 = f0; generalize e1 : f 1 = f1; generalize e2 : f 2 = f2; generalize e3 : f 3 = f3
  pointwise [col]
  subst e0 e1 e2 e3
  have hd := d.isLt
  have hh : (h : ℕ) = 0 ∨ (h : ℕ) = 1 ∨ (h : ℕ) = 2 ∨ (h : ℕ) = 3 := by omega
  rcases hh with hh | hh | hh | hh <;> split_ifs <;> first | omega | exact key _ _ _ (Fin.ext (by simp [hh])) (by omega)

/-- A load of the 256 columns of one head. -/
theorem ld_head (X : Vec Ideal S256x1024 .bf16) (o : ℕ) (inb) (h : Fin 4) (ho : o = h.val * 256) (y e : Fin 256) :
    View.ld X (Rect.unit (s := S256x1024) ![0, o] S256x256.size inb) (ix2 y e) = X (ix2 y (col h e)) :=
  View.ld_unit_apply_of X _ _ inb _ _ fun a => by
    subst ho
    match a with
    | ⟨0, _⟩ => exact (Nat.zero_add _).symm
    | ⟨1, _⟩ => rfl

/-- A slice of the 256 columns of one head. -/
theorem slice_head (q : FVec Ideal S512x1024 .bf16) (o : ℕ) (hs) (h : Fin 4) (ho : o = h.val * 256) (r : Fin 512) (e : Fin 256) :
    extractStridedSlice S512x256 ![0, o] q hs (ix2 r e) = q (ix2 r (col h e)) := by
  subst ho
  refine congrArg q (funext fun a => Fin.ext ?_)
  match a with
  | ⟨0, _⟩ => exact Nat.zero_add _
  | ⟨1, _⟩ => rfl

/-- The attention of row `r`, feature `d` of head `h`. -/
theorem heads_at (q : FVec Ideal S512x1024 .bf16) (k v : Vec Ideal S256x1024 .bf16) (h : Fin 4) (r : Fin 512) (d : Fin 256) :
    heads q k v (ix2 r (col h d))
      = attnK (fun y => ∑ e : Fin 256, q (ix2 r (col h e)) * k (ix2 y (col h e))) fun y => v (ix2 y (col h d)) := by
  have one : ∀ (o : ℕ) (hs inb), o = h.val * 256 →
      mix (weight (score (extractStridedSlice S512x256 ![0, o] q hs) (View.ld k (Rect.unit (s := S256x1024) ![0, o] S256x256.size inb))))
        (View.ld v (Rect.unit (s := S256x1024) ![0, o] S256x256.size inb)) (ix2 r d)
      = attnK (fun y => ∑ e : Fin 256, q (ix2 r (col h e)) * k (ix2 y (col h e))) fun y => v (ix2 y (col h d)) := by
    intro o hs inb ho
    exact (head_at _ _ _ r d).trans (congrArg₂ attnK
      (funext fun y => Finset.sum_congr rfl fun e _ => congrArg₂ (· * ·) (slice_head q o hs h ho r e) (ld_head k o inb h ho y e))
      (funext fun y => ld_head v o inb h ho y d))
  refine (beside_at ![_, _, _, _] h r d).trans ?_
  fin_cases h
  · exact one 0 _ _ rfl
  · exact one 256 _ _ rfl
  · exact one 512 _ _ rfl
  · exact one 768 _ _ rfl

/-- The residual sum. -/
theorem pay2_at (x : Vec Ideal S512x1024 .f32) (a : Vec Ideal S512x512 .bf16) (wa : Vec Ideal S512x1024 .bf16) (b : Vec Ideal S512x512 .bf16) (wb : Vec Ideal S512x1024 .bf16)
    (r : Fin 512) (d : Fin 1024) :
    k0_pay2 x a wa b wb (ix2 r d) = x (ix2 r d) + (∑ k : Fin 512, a (ix2 r k) * wa (ix2 k d)) + ∑ k : Fin 512, b (ix2 r k) * wb (ix2 k d) := by
  pointwise [k0_pay2]

/-- The scaled queries. -/
theorem pay3_at (x : Vec Ideal S512x1024 .f32) (a : Vec Ideal S512x512 .bf16) (wa : Vec Ideal S512x1024 .bf16) (b : Vec Ideal S512x512 .bf16) (wb : Vec Ideal S512x1024 .bf16)
    (g : Vec Ideal S1x1024 .f32) (w : Vec Ideal S1024x1024 .bf16) (r : Fin 512) (d : Fin 1024) :
    k0_pay3 x a wa b wb g w (ix2 r d)
      = (∑ k : Fin 1024, rms (fun j => k0_pay2 x a wa b wb (ix2 r j)) (fun j => g (ix2 0 j)) k * w (ix2 k d)) * scale := by
  unfold k0_pay3 rms scale
  generalize k0_pay2 x a wa b wb = X
  pointwise

end Cert.CrossIdeal.Head

end
-- ==== Proof.Cross.KernelValue.lean ====
/-
  The cross attention kernel's two result arrays, element by element: the residual sum and the attention over the memory.
-/
module

public import proofs.«01_k».proof.Proof.Cross.Head
public import Idealize.ShloMosaic.Lib.Claim

@[expose] public section

set_option maxRecDepth 16384

noncomputable section

namespace Cert.CrossIdeal.Block

open Cert.CrossIdeal Cert.CrossIdeal.Gen Idealize.ShloMosaic Idealize.ShloMosaic.TcCoe Cert.FfnMath Cert.CrossMath Cert.CrossIdeal.Head

/-- Row `r` of the residual sum. -/
def kX (X : FVec Ideal S16384x1024 .f32) (A B : FVec Ideal S16384x512 .bf16) (Wo : FVec Ideal S1024x1024 .bf16) (r : Fin 16384) (d : Fin 1024) : EReal :=
  X (ix2 r d) + (∑ k : Fin 512, A (ix2 r k) * Wo (ix2 ⟨k.val, by omega⟩ d)) + ∑ k : Fin 512, B (ix2 r k) * Wo (ix2 ⟨512 + k.val, by omega⟩ d)

/-- A row's queries, not yet scaled. -/
def query (R : Fin 1024 → EReal) (g : FVec Ideal S1024 .f32) (Wq : FVec Ideal S1024x1024 .bf16) (d : Fin 1024) : EReal :=
  ∑ k : Fin 1024, rms R (fun j => g (ix1 j)) k * Wq (ix2 k d)

/-- A row's attention from its scaled queries `q`, feature `d` of head `h`. -/
def kHead (q : Fin 1024 → EReal) (K V : FVec Ideal S256x1024 .bf16) (h : Fin 4) (d : Fin 256) : EReal :=
  attnK (fun y : Fin 256 => ∑ e : Fin 256, q (col h e) * K (ix2 y (col h e))) fun y => V (ix2 y (col h d))

/-- Row `r` of the attention. -/
def kO (X : FVec Ideal S16384x1024 .f32) (g : FVec Ideal S1024 .f32) (Wq : FVec Ideal S1024x1024 .bf16) (A B : FVec Ideal S16384x512 .bf16)
    (Wo : FVec Ideal S1024x1024 .bf16) (K V : FVec Ideal S256x1024 .bf16) (r : Fin 16384) (d : Fin 1024) : EReal :=
  kHead (fun e => query (kX X A B Wo r) g Wq e * scale) K V ⟨d.val / 256, by omega⟩ ⟨d.val % 256, by omega⟩

/-- The residual sum, the whole array. -/
def kOutX (X : FVec Ideal S16384x1024 .f32) (A B : FVec Ideal S16384x512 .bf16) (Wo : FVec Ideal S1024x1024 .bf16) : FVec Ideal S16384x1024 .f32 :=
  fun i => kX X A B Wo (i 0) (i 1)

/-- The attention, the whole array. -/
def kOutO (X : FVec Ideal S16384x1024 .f32) (g : FVec Ideal S1024 .f32) (Wq : FVec Ideal S1024x1024 .bf16) (A B : FVec Ideal S16384x512 .bf16)
    (Wo : FVec Ideal S1024x1024 .bf16) (K V : FVec Ideal S256x1024 .bf16) : FVec Ideal S16384x1024 .bf16 :=
  fun i => kO X g Wq A B Wo K V (i 0) (i 1)

/-- A column is a head's feature. -/
theorem col_eta (d : Fin 1024) : col ⟨d.val / 256, by omega⟩ ⟨d.val % 256, by omega⟩ = d := Fin.ext (Nat.div_add_mod' _ _)

/-- The row of the whole array at which row `r` of block `n` lies. -/
def row (n : ℕ) (hn : n < 32) (r : Fin 512) : Fin 16384 := ⟨n * 512 + r.val, by omega⟩

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![0, 0]
    ∧ win0_7.index t = ![0, 0] ∧ win0_8.index t = ![0, 0] ∧ win0_9.index t = ![t.val, 0] ∧ win0_10.index t = ![t.val, 0] ∧ t.val < 32 :=
  (by decide +kernel : ∀ t : Fin grid0.N, _)

theorem lt (t : Fin cfg0.N) : t.val < 32 := (idx t).2.2.2.2.2.2.2.2.2.2.2

/-- What the host hands to the kernel. -/
theorem entry_g (c : Dev nD) : V m c main_v2 = shapeCast S1x1024 (m ((c.tc : Thread nD τ).loc main_arg1)) shapeCasts_S1024_S1x1024 := by
  entry_read
  rfl
theorem entry_lo (c : Dev nD) : V m c main_v0 = extractStridedSlice S512x1024 ![0, 0] (m ((c.tc : Thread nD τ).loc main_arg5)) slices_S1024x1024_S512x1024_0_0 := by
  entry_read
  rfl
theorem entry_hi (c : Dev nD) : V m c main_v1 = extractStridedSlice S512x1024 ![512, 0] (m ((c.tc : Thread nD τ).loc main_arg5)) slices_S1024x1024_S512x1024_512_0 := by
  entry_read
  rfl

theorem x_at (c : Dev nD) (t : Fin cfg0.N) (r : Fin 512) (l : Fin 1024) :
    iblk m c 0 t (ix2 r l) = m ((c.tc : Thread nD τ).loc main_arg0) (ix2 (row t.val (lt t) r) l) := by
  blk_ext [iblk, V_main_arg0, idx t]
  rfl
theorem g_at (c : Dev nD) (t : Fin cfg0.N) (l : Fin 1024) :
    iblk m c 1 t (ix2 0 l) = m ((c.tc : Thread nD τ).loc main_arg1) (ix1 l) := by
  have e : iblk m c 1 t (ix2 0 l) = V m c main_v2 (ix2 0 l) := by
    generalize hV : V m c main_v2 = B
    blk_ext [iblk, hV, idx t]
  rw [e, entry_g]
  pointwise
theorem wq_at (c : Dev nD) (t : Fin cfg0.N) (r l : Fin 1024) :
    iblk m c 2 t (ix2 r l) = m ((c.tc : Thread nD τ).loc main_arg2) (ix2 r l) := by
  blk_ext [iblk, V_main_arg2, idx t]
theorem a_at (c : Dev nD) (t : Fin cfg0.N) (r l : Fin 512) :
    iblk m c 3 t (ix2 r l) = m ((c.tc : Thread nD τ).loc main_arg3) (ix2 (row t.val (lt t) r) l) := by
  blk_ext [iblk, V_main_arg3, idx t]
  rfl
theorem lo_at (c : Dev nD) (t : Fin cfg0.N) (r : Fin 512) (l : Fin 1024) :
    iblk m c 4 t (ix2 r l) = m ((c.tc : Thread nD τ).loc main_arg5) (ix2 ⟨r.val, by omega⟩ l) := by
  have e : iblk m c 4 t (ix2 r l) = V m c main_v0 (ix2 r l) := by
    generalize hV : V m c main_v0 = B
    blk_ext [iblk, hV, idx t]
  rw [e, entry_lo]
  pointwise
theorem b_at (c : Dev nD) (t : Fin cfg0.N) (r l : Fin 512) :
    iblk m c 5 t (ix2 r l) = m ((c.tc : Thread nD τ).loc main_arg4) (ix2 (row t.val (lt t) r) l) := by
  blk_ext [iblk, V_main_arg4, idx t]
  rfl
theorem hi_at (c : Dev nD) (t : Fin cfg0.N) (r : Fin 512) (l : Fin 1024) :
    iblk m c 6 t (ix2 r l) = m ((c.tc : Thread nD τ).loc main_arg5) (ix2 ⟨512 + r.val, by omega⟩ l) := by
  have e : iblk m c 6 t (ix2 r l) = V m c main_v1 (ix2 r l) := by
    generalize hV : V m c main_v1 = B
    blk_ext [iblk, hV, idx t]
  rw [e, entry_hi]
  pointwise
theorem k_at (c : Dev nD) (t : Fin cfg0.N) (r : Fin 256) (l : Fin 1024) :
    iblk m c 7 t (ix2 r l) = m ((c.tc : Thread nD τ).loc main_arg6) (ix2 r l) := by
  blk_ext [iblk, V_main_arg6, idx t]
theorem v_at (c : Dev nD) (t : Fin cfg0.N) (r : Fin 256) (l : Fin 1024) :
    iblk m c 8 t (ix2 r l) = m ((c.tc : Thread nD τ).loc main_arg7) (ix2 r l) := by
  blk_ext [iblk, V_main_arg7, idx t]

theorem resid_at (c : Dev nD) (t : Fin cfg0.N) (r : Fin 512) (d : Fin 1024) :
    k0_pay2 (iblk m c 0 t) (iblk m c 3 t) (iblk m c 4 t) (iblk m c 5 t) (iblk m c 6 t) (ix2 r d)
      = kX (m ((c.tc : Thread nD τ).loc main_arg0)) (m ((c.tc : Thread nD τ).loc main_arg3)) (m ((c.tc : Thread nD τ).loc main_arg4)) (m ((c.tc : Thread nD τ).loc main_arg5))
        (row t.val (lt t) r) d := by
  rw [pay2_at, x_at]
  simp only [a_at, lo_at, b_at, hi_at]
  rfl

theorem query_at (c : Dev nD) (t : Fin cfg0.N) (r : Fin 512) (d : Fin 1024) :
    k0_pay3 (iblk m c 0 t) (iblk m c 3 t) (iblk m c 4 t) (iblk m c 5 t) (iblk m c 6 t) (iblk m c 1 t) (iblk m c 2 t) (ix2 r d)
      = query (kX (m ((c.tc : Thread nD τ).loc main_arg0)) (m ((c.tc : Thread nD τ).loc main_arg3)) (m ((c.tc : Thread nD τ).loc main_arg4)) (m ((c.tc : Thread nD τ).loc main_arg5))
        (row t.val (lt t) r)) (m ((c.tc : Thread nD τ).loc main_arg1)) (m ((c.tc : Thread nD τ).loc main_arg2)) d * scale := by
  rw [pay3_at]
  simp only [resid_at, g_at, wq_at]
  rfl

theorem attn_at (c : Dev nD) (t : Fin cfg0.N) (r : Fin 512) (d : Fin 1024) :
    heads (k0_pay3 (iblk m c 0 t) (iblk m c 3 t) (iblk m c 4 t) (iblk m c 5 t) (iblk m c 6 t) (iblk m c 1 t) (iblk m c 2 t)) (iblk m c 7 t) (iblk m c 8 t) (ix2 r d)
      = kO (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (row t.val (lt t) r) d := by
  refine (congrArg (fun x => heads _ _ _ (ix2 r x)) (col_eta d).symm).trans ?_
  refine (heads_at _ _ _ _ _ _).trans ?_
  simp only [query_at, k_at, v_at]
  rfl

/-- A block whose elements are those of a result's rows, read at an index of the block. -/
theorem point (t : Fin cfg0.N) (B : Vec Ideal S512x1024 .f32) (f : Fin 16384 → Fin 1024 → EReal) (h : ∀ r d, B (ix2 r d) = f (row t.val (lt t) r) d)
    (y : S512x1024.Idx) (i : S16384x1024.Idx) (h0 : (i 0 : ℕ) = t.val * 512 + (y 0 : ℕ)) (h1 : (i 1 : ℕ) = (y 1 : ℕ)) : B y = f (i 0) (i 1) :=
  ((congrArg B (ix2_eta y).symm).trans (h _ _)).trans (congrArg₂ f (Fin.ext h0.symm) (Fin.ext h1.symm))

theorem final9 (c : Dev nD) : (dats m 0 c).arrAt 9 (cfgs 0).N
    = kOutX (m ((c.tc : Thread nD τ).loc main_arg0)) (m ((c.tc : Thread nD τ).loc main_arg3)) (m ((c.tc : Thread nD τ).loc main_arg4)) (m ((c.tc : Thread nD τ).loc main_arg5)) := by
  refine (dats m 0 c).arrAt_eq_of_covers 9 _ (by decide +kernel) fun t hf y => ?_
  blk_simp
  rw [after0_9]
  have e : out0_9 (iblk m c 0 t) (iblk m c 1 t) (iblk m c 2 t) (iblk m c 3 t) (iblk m c 4 t) (iblk m c 5 t) (iblk m c 6 t) (iblk m c 7 t) (iblk m c 8 t)
      = k0_pay2 (iblk m c 0 t) (iblk m c 3 t) (iblk m c 4 t) (iblk m c 5 t) (iblk m c 6 t) := by
    unfold out0_9
    frame_out
  rw [e]
  refine point t _ _ (resid_at m c t) y _ ?_ ?_
  · blk_simp [idx t]
    try rfl
  · blk_simp [idx t]
    try rfl

theorem final10 (c : Dev nD) : (dats m 0 c).arrAt 10 (cfgs 0).N
    = kOutO (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 10 _ (by decide +kernel) fun t hf y => ?_
  blk_simp
  rw [after0_10]
  have e : out0_10 (iblk m c 0 t) (iblk m c 1 t) (iblk m c 2 t) (iblk m c 3 t) (iblk m c 4 t) (iblk m c 5 t) (iblk m c 6 t) (iblk m c 7 t) (iblk m c 8 t)
      = heads (k0_pay3 (iblk m c 0 t) (iblk m c 3 t) (iblk m c 4 t) (iblk m c 5 t) (iblk m c 6 t) (iblk m c 1 t) (iblk m c 2 t)) (iblk m c 7 t) (iblk m c 8 t) := by
    rw [out_eq]
    unfold k0_pay14
    frame_out
  rw [e]
  refine point t _ _ (attn_at m c t) y _ ?_ ?_
  · blk_simp [idx t]
    try rfl
  · blk_simp [idx t]
    try rfl

end Cert.CrossIdeal.Block

end
-- ==== Proof.Cross.RefTerms.lean ====
/-
  The reference's cross attention, cut into named steps and read at an element.
-/
module

public import proofs.«01_k».proof.Proof.Gen.CrossRefIdeal.Run
public import proofs.«01_k».proof.Proof.Cross.KernelValue
public import proofs.«01_k».proof.Proof.Ffn.RefTerms

@[expose] public section

set_option maxRecDepth 16384

noncomputable section

namespace Cert.CrossRefIdeal.Steps

open Cert.CrossRefIdeal Cert.CrossRefIdeal.Gen Idealize.ShloMosaic Idealize.ShloMosaic.TcCoe Cert.FfnMath Cert.CrossMath Cert.Softmax
open Cert.CrossIdeal.Head (col)
open Cert.FfnRefIdeal.Steps (norm)

section

variable {F : FTy → Type} [FloatOps F]

/-- The residual sum. -/
def resid (X : FVec F S16384x1024 .f32) (A B : FVec F S16384x512 .bf16) (Wo : FVec F S1024x1024 .bf16) : FVec F S16384x1024 .f32 :=
  addf X (Host.dotGeneral dot_S16384x1024_S1024x1024_S16384x1024_1_0_0_1_n_n none
    (concatenate S16384x1024 1 [⟨S16384x512, extf .f32 A bitsLt_bf16_f32⟩, ⟨S16384x512, extf .f32 B bitsLt_bf16_f32⟩] concatenates_S16384x512_S16384x512_S16384x1024_d1)
    (extf .f32 Wo bitsLt_bf16_f32))

/-- The queries, by head. -/
def queries (H : FVec F S16384x1024 .f32) (W : FVec F S1024x1024 .bf16) : FVec F S16384x4x256 .f32 :=
  shapeCast _ (Host.dotGeneral dot_S16384x1024_S1024x1024_S16384x1024_1_0_0_1_n_n none H (extf .f32 W bitsLt_bf16_f32)) shapeCasts_S16384x1024_S16384x4x256

/-- Keys or values, by head. -/
def byHead (K : FVec F S256x1024 .bf16) : FVec F S256x4x256 .f32 := shapeCast _ (extf .f32 K bitsLt_bf16_f32) shapeCasts_S256x1024_S256x4x256

/-- The scaled scores. -/
def scores (q : FVec F S16384x4x256 .f32) (k : FVec F S256x4x256 .f32) : FVec F S4x16384x256 .f32 :=
  mulf (Host.dotGeneral dot_S16384x4x256_S256x4x256_S4x16384x256_2_2_0_0_1_1 none q k) (broadcastInDim S4x16384x256 ![] bcast_S_S4x16384x256 (constant S_ .f32 0x3D800000#32))

/-- The scores' exponentials over any row maxima. -/
def expoOf (s : FVec F S4x16384x256 .f32) (r : FVec F S4x16384 .f32) : FVec F S4x16384x256 .f32 :=
  Host.exp (subf s (broadcastInDim S4x16384x256 ![0, 1, 2] bcast_S4x16384x1_S4x16384x256_0_1_2 (broadcastInDim S4x16384x1 ![0, 1] bcast_S4x16384_S4x16384x1_0_1
    (maximumf (broadcastInDim S4x16384 ![] bcast_S_S4x16384 (constant S_ .f32 0xFF800000#32)) r))))

/-- The rows' maxima. -/
def rowTop (s : FVec F S4x16384x256 .f32) : FVec F S4x16384 .f32 :=
  Host.reduce FloatOps.maximumf s (constant S_ .f32 0xFF800000#32) reducesTo_S4x16384x256_S4x16384_d2 h_S_

/-- Each weight over the sum of its row. -/
def normed (e : FVec F S4x16384x256 .f32) : FVec F S4x16384x256 .f32 :=
  Host.divf e (broadcastInDim S4x16384x256 ![0, 1, 2] bcast_S4x16384x1_S4x16384x256_0_1_2 (broadcastInDim S4x16384x1 ![0, 1] bcast_S4x16384_S4x16384x1_0_1
    (Host.reduceAdd e (constant S_ .f32 0x00000000#32) reducesTo_S4x16384x256_S4x16384_d2 h_S_)))

/-- The weights' combination of the values, the heads side by side. -/
def combine (v : FVec F S256x4x256 .f32) (w : FVec F S4x16384x256 .f32) : FVec F S16384x1024 .bf16 :=
  truncf .bf16 (shapeCast _ (transpose S16384x4x256 [2, 0, 1] (Host.dotGeneral dot_S256x4x256_S4x16384x256_S4x256x16384_0_2_2_1_1_0 none v w)
    transposes_S4x256x16384_S16384x4x256_2_0_1) shapeCasts_S16384x4x256_S16384x1024) bitsLt_bf16_f32

/-- The whole attention. -/
def attention (X : FVec F S16384x1024 .f32) (g : FVec F S1024 .f32) (Wq : FVec F S1024x1024 .bf16) (A B : FVec F S16384x512 .bf16)
    (Wo : FVec F S1024x1024 .bf16) (K V : FVec F S256x1024 .bf16) : FVec F S16384x1024 .bf16 :=
  combine (byHead V) (normed (expoOf (scores (queries (norm (resid X A B Wo) g) Wq) (byHead K)) (rowTop (scores (queries (norm (resid X A B Wo) g) Wq) (byHead K)))))

end

theorem bot_word : Ideal.ofBits FTy.f32 0xFF800000#32 = ⊥ := by simp [Ideal.ofBits, Ideal.ieee]

/-- The two attention outputs side by side. -/
def joined (A B : FVec Ideal S16384x512 .bf16) (r : Fin 16384) (k : Fin 1024) : EReal :=
  if h : k.val < 512 then A (ix2 r ⟨k.val, h⟩) else B (ix2 r ⟨k.val - 512, by omega⟩)

theorem resid_at (X : FVec Ideal S16384x1024 .f32) (A B : FVec Ideal S16384x512 .bf16) (Wo : FVec Ideal S1024x1024 .bf16) (r : Fin 16384) (d : Fin 1024) :
    resid X A B Wo (ix2 r d) = X (ix2 r d) + ∑ k : Fin 1024, joined A B r k * Wo (ix2 k d) := by
  unfold joined
  pointwise [resid]

theorem queries_at (H : FVec Ideal S16384x1024 .f32) (W : FVec Ideal S1024x1024 .bf16) (r : Fin 16384) (h : Fin 4) (e : Fin 256) :
    queries H W (ix3 r h e) = ∑ k : Fin 1024, H (ix2 r k) * W (ix2 k (col h e)) := by
  pointwise [queries, col]

theorem byHead_at (K : FVec Ideal S256x1024 .bf16) (y : Fin 256) (h : Fin 4) (e : Fin 256) : byHead K (ix3 y h e) = K (ix2 y (col h e)) := by
  pointwise [byHead, col]

theorem scores_at (q : FVec Ideal S16384x4x256 .f32) (k : FVec Ideal S256x4x256 .f32) (h : Fin 4) (r : Fin 16384) (y : Fin 256) :
    scores q k (ix3 h r y) = (∑ e : Fin 256, q (ix3 r h e) * k (ix3 y h e)) * scale := by
  unfold scale
  pointwise [scores]

theorem expoOf_at (s : FVec Ideal S4x16384x256 .f32) (x : FVec Ideal S4x16384 .f32) (h : Fin 4) (r : Fin 16384) (y : Fin 256) :
    expoOf s x (ix3 h r y) = Ideal.exp (s (ix3 h r y) - x (ix2 h r)) := by
  pointwise [expoOf]
  rw [bot_word, max_eq_right bot_le]

theorem rowTop_at (s : FVec Ideal S4x16384x256 .f32) (h : Fin 4) (r : Fin 16384) : rowTop s (ix2 h r) = top fun y => s (ix3 h r y) := by
  have hb : ∀ i, constant (F := Ideal) S_ .f32 0xFF800000#32 i = (⊥ : EReal) := fun _ => bot_word
  unfold rowTop
  generalize (constant (F := Ideal) S_ .f32 0xFF800000#32) = z at hb ⊢
  unfold top
  pointwise
  rw [hb]

theorem normed_at (e : FVec Ideal S4x16384x256 .f32) (h : Fin 4) (r : Fin 16384) (y : Fin 256) :
    normed e (ix3 h r y) = Ideal.div (e (ix3 h r y)) (∑ y, e (ix3 h r y)) := by
  pointwise [normed]

theorem combine_at (v : FVec Ideal S256x4x256 .f32) (w : FVec Ideal S4x16384x256 .f32) (r : Fin 16384) (h : Fin 4) (d : Fin 256) :
    combine v w (ix2 r (col h d)) = ∑ y, v (ix3 y h d) * w (ix3 h r y) := by
  pointwise [combine, col]

end Cert.CrossRefIdeal.Steps

end
-- ==== Proof.Cross.Equation.lean ====
/-
  The cross attention's two results: the reference's are the kernel's.
-/
module

public import proofs.«01_k».proof.Proof.Cross.RefTerms

@[expose] public section

set_option maxRecDepth 16384

noncomputable section

namespace Cert.CrossEquation

open Idealize.ShloMosaic Cert.FfnMath Cert.CrossMath
open Cert.CrossIdeal (S16384x1024 S16384x512 S1024 S1024x1024 S256x1024)
open Cert.CrossIdeal.Head (col)
open Cert.CrossIdeal.Block (kX query kHead kOutX kOutO col_eta)
open Cert.CrossRefIdeal.Steps (resid resid_at joined queries_at byHead_at scores_at expoOf_at rowTop_at normed_at combine_at attention)
open Cert.FfnRefIdeal.Steps (norm_at)

variable (X : FVec Ideal S16384x1024 .f32) (g : FVec Ideal S1024 .f32) (Wq : FVec Ideal S1024x1024 .bf16) (A B : FVec Ideal S16384x512 .bf16)
  (Wo : FVec Ideal S1024x1024 .bf16) (K V : FVec Ideal S256x1024 .bf16)

/-- The residual product in one piece or in two. -/
theorem resid_eq (r : Fin 16384) (d : Fin 1024) : resid X A B Wo (ix2 r d) = kX X A B Wo r d := by
  rw [resid_at, sum_halves, ← add_assoc]
  refine congrArg₂ (· + ·) (congrArg (X (ix2 r d) + ·) (Finset.sum_congr rfl fun k _ => ?_)) (Finset.sum_congr rfl fun k _ => ?_)
  · unfold joined
    rw [dif_pos k.isLt]
  · unfold joined
    rw [dif_neg (by simp)]
    exact congrArg (fun x => B (ix2 r x) * _) (Fin.ext (Nat.add_sub_cancel_left _ _))

/-- Both residual sums. -/
theorem outX_eq : resid X A B Wo = kOutX X A B Wo := by
  funext i
  exact (congrArg _ (ix2_eta i).symm).trans (resid_eq X A B Wo (i 0) (i 1))

/-- A row's attention as the reference computes it. -/
theorem attention_at (r : Fin 16384) (h : Fin 4) (d : Fin 256) :
    attention X g Wq A B Wo K V (ix2 r (col h d))
      = attnR (fun y : Fin 256 => (∑ e : Fin 256, query (kX X A B Wo r) g Wq (col h e) * K (ix2 y (col h e))) * scale) fun y => V (ix2 y (col h d)) := by
  unfold attention
  rw [combine_at]
  simp only [normed_at, expoOf_at, rowTop_at, scores_at, queries_at, byHead_at, norm_at, resid_eq]
  rfl

/-- Scaled queries of numbers are numbers. -/
theorem query_real (R : Fin 1024 → EReal) (gr : S1024.Idx → ℝ) (wr : S1024x1024.Idx → ℝ) (hg : ∀ i, g i = (gr i : EReal)) (hw : ∀ i, Wq i = (wr i : EReal))
    (d : Fin 1024) : ∃ x : ℝ, query R g Wq d = (x : EReal) := by
  unfold query
  simp only [hg]
  exact dot_real _ _ (fun k => rms_real R (fun j => gr (ix1 j)) k) fun k => ⟨_, hw _⟩

/-- Both attentions. -/
theorem outO_eq (gr : S1024.Idx → ℝ) (wr : S1024x1024.Idx → ℝ) (kr : S256x1024.Idx → ℝ) (hg : ∀ i, g i = (gr i : EReal)) (hw : ∀ i, Wq i = (wr i : EReal))
    (hk : ∀ i, K i = (kr i : EReal)) : attention X g Wq A B Wo K V = kOutO X g Wq A B Wo K V := by
  have e : ∀ (r : Fin 16384) (h : Fin 4) (d : Fin 256), attention X g Wq A B Wo K V (ix2 r (col h d))
      = kHead (fun e => query (kX X A B Wo r) g Wq e * scale) K V h d := by
    intro r h d
    refine (attention_at X g Wq A B Wo K V r h d).trans ?_
    unfold kHead
    simp only [score_eq]
    refine (attn_eq (by omega) _ _ fun y => ?_).symm
    obtain ⟨x, hx⟩ := dot_real (fun e => query (kX X A B Wo r) g Wq (col h e)) (fun e => K (ix2 y (col h e)))
      (fun e => query_real g Wq (kX X A B Wo r) gr wr hg hw _) fun e => ⟨_, hk _⟩
    exact ⟨x * (1 / 16), by rw [hx, scale_eq, EReal.coe_mul]⟩
  funext i
  refine (congrArg _ (ix2_eta i).symm).trans ?_
  refine (congrArg (fun x => attention X g Wq A B Wo K V (ix2 (i 0) x)) (col_eta (i 1)).symm).trans ?_
  exact e _ _ _

end Cert.CrossEquation

end
-- ==== Proof.Cross.Claims.lean ====
/-
  The claims about the cross attention: its programs run, keep their arguments and end with their counters at zero, and the
  kernel and the reference end with the same two results.
-/
module

public import proofs.«01_k».proof.Defs
public import proofs.«01_k».proof.Proof.Gen.Cross.Frame
public import proofs.«01_k».proof.Proof.Gen.Pre_cross_finite
public import proofs.«01_k».proof.Proof.Cross.Equation
public import proofs.«01_k».proof.Proof.Common.Finite
public import Idealize.ShloMosaic.Lib.Claim

@[expose] public section

set_option maxRecDepth 16384

noncomputable section

namespace Cert.CrossClaims

open Idealize.ShloMosaic Idealize.SL.Sem
open Cert.CrossIdeal (S16384x1024 S16384x512 S1024 S1024x1024 S256x1024)
open Cert.CrossEquation (outX_eq outO_eq)
open Cert.CrossRefIdeal.Steps (attention)

theorem frame_kernel : Cert.quiescent_Cross := fun m ρ _ => Cert.Cross.Gen.frame m ρ

theorem frame_ideal : Cert.quiescent_CrossIdeal := fun m ρ _ => Cert.CrossIdeal.Gen.frame m ρ

theorem frame_ideal_pre : Cert.quiescent_CrossIdeal_pre_cross_finite := fun m ρ _ => Cert.CrossIdeal.Gen.frame m ρ

/-- The reference's program has no counters. -/
theorem frame_reference : Cert.quiescent_CrossRefIdeal := by
  intro m ρ _
  refine (θ_run Cert.CrossRefIdeal.defs _ _).mono (fun r h => ⟨fun c => (h c).2.2, ?_⟩) (Cert.CrossRefIdeal.Value.run m ρ)
  exact sem_eq_zero_of_no_sems (by decide) r.2

theorem frame_reference_pre : Cert.quiescent_CrossRefIdeal_pre_cross_finite := fun m ρ _ => frame_reference m ρ trivial

/-- What the precondition says: the scales, the query weights and the keys are numbers. -/
theorem reals [hp : Cert.Pre_cross_finite.Facts] (X : FVec Ideal S16384x1024 .f32) (g : FVec Ideal S1024 .f32) (Wq : FVec Ideal S1024x1024 .bf16) (A B : FVec Ideal S16384x512 .bf16)
    (Wo : FVec Ideal S1024x1024 .bf16) (K V : FVec Ideal S256x1024 .bf16)
    (h : Cert.Pre_cross_finite.fn (F := Ideal) X g Wq A B Wo K V = fun _ => 1#1) :
    (∃ r : S1024.Idx → ℝ, ∀ i, g i = (r i : EReal)) ∧ (∃ r : S1024x1024.Idx → ℝ, ∀ i, Wq i = (r i : EReal))
      ∧ ∃ r : S256x1024.Idx → ℝ, ∀ i, K i = (r i : EReal) := by
  dsimp only [Cert.Pre_cross_finite.fn] at h
  have e := congrFun h default
  obtain ⟨e1, e3⟩ := Cert.Finite.and_ones _ _ e
  obtain ⟨e1, e2⟩ := Cert.Finite.and_ones _ _ e1
  exact ⟨Cert.Finite.real_of_all _ _ _ _ _ _ e1, Cert.Finite.real_of_all _ _ _ _ _ _ e2, Cert.Finite.real_of_all _ _ _ _ _ _ e3⟩

theorem value : Cert.algebraic_CrossIdeal_CrossRefIdeal_pre_cross_finite := by
  pair_intro
  · run_from Cert.CrossIdeal.Value.run_blocks m g
  · run_from Cert.CrossRefIdeal.Value.run m' g'
    · refine (outX_eq _ _ _ _).trans ?_
      obtain ⟨_, _, _, a3, a4, _, _, _⟩ := hagree c
      rw [a3, a4]
      exact (Cert.CrossIdeal.Block.final9 m c).symm
    · obtain ⟨⟨gr, hg⟩, ⟨wr, hw⟩, ⟨kr, hk⟩⟩ := reals _ _ _ _ _ _ _ _ (hpre c)
      refine Eq.trans (b := attention (m' ((c.tc : Thread Cert.CrossRefIdeal.nD Cert.CrossRefIdeal.τ).loc Cert.CrossRefIdeal.main_arg0)) (m' ((c.tc : Thread Cert.CrossRefIdeal.nD Cert.CrossRefIdeal.τ).loc Cert.CrossRefIdeal.main_arg1))
        (m' ((c.tc : Thread Cert.CrossRefIdeal.nD Cert.CrossRefIdeal.τ).loc Cert.CrossRefIdeal.main_arg2)) (m' ((c.tc : Thread Cert.CrossRefIdeal.nD Cert.CrossRefIdeal.τ).loc Cert.CrossRefIdeal.main_arg3))
        (m' ((c.tc : Thread Cert.CrossRefIdeal.nD Cert.CrossRefIdeal.τ).loc Cert.CrossRefIdeal.main_arg4)) (m' ((c.tc : Thread Cert.CrossRefIdeal.nD Cert.CrossRefIdeal.τ).loc Cert.CrossRefIdeal.main_arg5))
        (m' ((c.tc : Thread Cert.CrossRefIdeal.nD Cert.CrossRefIdeal.τ).loc Cert.CrossRefIdeal.main_arg6)) (m' ((c.tc : Thread Cert.CrossRefIdeal.nD Cert.CrossRefIdeal.τ).loc Cert.CrossRefIdeal.main_arg7))) rfl ?_
      obtain ⟨a0, a1, a2, a3, a4, a5, a6, a7⟩ := hagree c
      rw [a0, a1, a2, a3, a4, a5, a6, a7]
      exact (outO_eq _ _ _ _ _ _ _ _ gr wr kr hg hw hk).trans (Cert.CrossIdeal.Block.final10 m c).symm

end Cert.CrossClaims

end
-- ==== Proof.Memory.KernelValue.lean ====
/-
  The memory projection kernel's four result arrays, element by element: the normalised memory rows times each of the two
  weights, once in each of two formats.
-/
module

public import proofs.«01_k».proof.Proof.Gen.MemoryIdeal.Value
public import proofs.«01_k».proof.Proof.Ffn.Math
public import Idealize.ShloMosaic.Lib.Pointwise
public import Idealize.ShloMosaic.Lib.Pipeline.ValueKit
public import Idealize.ShloMosaic.Lib.Claim

@[expose] public section

set_option maxRecDepth 16384

noncomputable section

namespace Cert.MemoryIdeal.Block

open Cert.MemoryIdeal Cert.MemoryIdeal.Gen Idealize.ShloMosaic Idealize.ShloMosaic.TcCoe Cert.FfnMath

/-- A normalised memory row times a column of a weight. -/
def kRow (M : FVec Ideal S1x256x1024 .f32) (g : FVec Ideal S1024 .f32) (W : FVec Ideal S1024x1024 .f32) (r : Fin 256) (d : Fin 1024) : EReal :=
  ∑ k : Fin 1024, rms (fun j => M (ix3 0 r j)) (fun j => g (ix1 j)) k * W (ix2 k d)

/-- All of them. -/
def kOut (M : FVec Ideal S1x256x1024 .f32) (g : FVec Ideal S1024 .f32) (W : FVec Ideal S1024x1024 .f32) (i : S256x1024.Idx) : EReal :=
  kRow M g W (i 0) (i 1)

/-- The normalised rows. -/
theorem pay1_at (x : Vec Ideal S256x1024 .f32) (g : Vec Ideal S1x1024 .f32) (r : Fin 256) (d : Fin 1024) :
    k0_pay1 x g (ix2 r d) = rms (fun k => x (ix2 r k)) (fun k => g (ix2 0 k)) d := by
  unfold rms
  pointwise [k0_pay1]

/-- Their product with a weight. -/
theorem pay2_at (x : Vec Ideal S256x1024 .f32) (g : Vec Ideal S1x1024 .f32) (w : Vec Ideal S1024x1024 .bf16) (r : Fin 256) (d : Fin 1024) :
    k0_pay2 x g w (ix2 r d) = ∑ k : Fin 1024, rms (fun j => x (ix2 r j)) (fun j => g (ix2 0 j)) k * w (ix2 k d) := by
  simp only [← pay1_at]
  unfold k0_pay2
  generalize k0_pay1 x g = X
  pointwise

/-- The memory's rows, without the leading axis of one. -/
theorem flat_at (M : FVec Ideal S1x256x1024 .f32) (r : Fin 256) (l : Fin 1024) :
    shapeCast S256x1024 M shapeCasts_S1x256x1024_S256x1024 (ix2 r l) = M (ix3 0 r l) := by
  pointwise

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

/-- What the host hands to the kernel. -/
theorem entry_x (c : Dev nD) : V m c main_v2 = shapeCast S256x1024 (m ((c.tc : Thread nD τ).loc main_arg0)) shapeCasts_S1x256x1024_S256x1024 := by
  entry_read
  rfl
theorem entry_g (c : Dev nD) : V m c main_v3 = shapeCast S1x1024 (m ((c.tc : Thread nD τ).loc main_arg1)) shapeCasts_S1024_S1x1024 := by
  entry_read
  rfl
theorem entry_w (c : Dev nD) : V m c main_v1 = truncf (F := Ideal) .bf16 (concatenate S1024x2048 1 [⟨S1024x1024, m ((c.tc : Thread nD τ).loc main_arg2)⟩,
    ⟨S1024x1024, m ((c.tc : Thread nD τ).loc main_arg3)⟩] concatenates_S1024x1024_S1024x1024_S1024x2048_d1) bitsLt_bf16_f32 := by
  entry_read
  rfl

theorem x_at (c : Dev nD) (t : Fin cfg0.N) (r : Fin 256) (l : Fin 1024) :
    iblk m c 0 t (ix2 r l) = m ((c.tc : Thread nD τ).loc main_arg0) (ix3 0 r l) := by
  have e : iblk m c 0 t (ix2 r l) = V m c main_v2 (ix2 r l) := by
    generalize hV : V m c main_v2 = B
    blk_ext [iblk, hV, idx t]
  rw [e, entry_x]
  exact flat_at _ r l
theorem g_at (c : Dev nD) (t : Fin cfg0.N) (l : Fin 1024) :
    iblk m c 1 t (ix2 0 l) = m ((c.tc : Thread nD τ).loc main_arg1) (ix1 l) := by
  have e : iblk m c 1 t (ix2 0 l) = V m c main_v3 (ix2 0 l) := by
    generalize hV : V m c main_v3 = B
    blk_ext [iblk, hV, idx t]
  rw [e, entry_g]
  pointwise

/-- A load of 1024 columns of the joined weights from column `o` on. -/
theorem ld_w (X : Vec Ideal S1024x2048 .bf16) (o : ℕ) (inb) (r l : Fin 1024) (h : o + l.val < 2048) :
    View.ld X (Rect.unit (s := S1024x2048) ![0, o] S1024x1024.size inb) (ix2 r l) = X (ix2 r ⟨o + l.val, h⟩) :=
  View.ld_unit_apply_of X _ _ inb _ _ fun a => by
    match a with
    | ⟨0, _⟩ => exact (Nat.zero_add _).symm
    | ⟨1, _⟩ => rfl

theorem w_at (c : Dev nD) (t : Fin cfg0.N) (r : Fin 1024) (l : Fin 2048) :
    iblk m c 2 t (ix2 r l) = V m c main_v1 (ix2 r l) := by
  generalize hV : V m c main_v1 = B
  blk_ext [iblk, hV, idx t]

theorem wk_at (c : Dev nD) (t : Fin cfg0.N) (r l : Fin 1024) :
    View.ld (iblk m c 2 t) r0_2 (ix2 r l) = m ((c.tc : Thread nD τ).loc main_arg2) (ix2 r l) := by
  refine (ld_w _ _ _ r l (by omega)).trans ?_
  rw [w_at, entry_w]
  pointwise
theorem wv_at (c : Dev nD) (t : Fin cfg0.N) (r l : Fin 1024) :
    View.ld (iblk m c 2 t) r0_3 (ix2 r l) = m ((c.tc : Thread nD τ).loc main_arg3) (ix2 r l) := by
  refine (ld_w _ _ _ r l (by omega)).trans ?_
  rw [w_at, entry_w]
  pointwise

theorem k_at (c : Dev nD) (t : Fin cfg0.N) (r : Fin 256) (d : Fin 1024) :
    k0_pay2 (iblk m c 0 t) (iblk m c 1 t) (View.ld (iblk m c 2 t) r0_2) (ix2 r d)
      = kRow (m ((c.tc : Thread nD τ).loc main_arg0)) (m ((c.tc : Thread nD τ).loc main_arg1)) (m ((c.tc : Thread nD τ).loc main_arg2)) r d := by
  rw [pay2_at]
  simp only [x_at, g_at, wk_at]
  rfl
theorem v_at (c : Dev nD) (t : Fin cfg0.N) (r : Fin 256) (d : Fin 1024) :
    k0_pay2 (iblk m c 0 t) (iblk m c 1 t) (View.ld (iblk m c 2 t) r0_3) (ix2 r d)
      = kRow (m ((c.tc : Thread nD τ).loc main_arg0)) (m ((c.tc : Thread nD τ).loc main_arg1)) (m ((c.tc : Thread nD τ).loc main_arg3)) r d := by
  rw [pay2_at]
  simp only [x_at, g_at, wv_at]
  rfl

/-- A block whose elements are those of a result, as the result itself: there is one block, the whole array. -/
theorem whole (B : Vec Ideal S256x1024 .f32) (M : FVec Ideal S1x256x1024 .f32) (g : FVec Ideal S1024 .f32) (W : FVec Ideal S1024x1024 .f32)
    (h : ∀ r d, B (ix2 r d) = kRow M g W r d) (y i : S256x1024.Idx) (h0 : (i 0 : ℕ) = (y 0 : ℕ)) (h1 : (i 1 : ℕ) = (y 1 : ℕ)) : B y = kOut M g W i :=
  ((congrArg B (ix2_eta y).symm).trans (h _ _)).trans (congrArg₂ (kRow M g W) (Fin.ext h0.symm) (Fin.ext h1.symm))

theorem final3 (c : Dev nD) : (dats m 0 c).arrAt 3 (cfgs 0).N
    = kOut (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have e : out0_3 (iblk m c 0 t) (iblk m c 1 t) (iblk m c 2 t) = k0_pay2 (iblk m c 0 t) (iblk m c 1 t) (View.ld (iblk m c 2 t) r0_2) := by
    unfold out0_3
    frame_out
    rfl
  rw [e]
  refine whole _ _ _ _ (k_at m c t) y _ ?_ ?_
  · blk_simp [idx t]
    try rfl
  · blk_simp [idx t]
    try rfl

theorem final4 (c : Dev nD) : (dats m 0 c).arrAt 4 (cfgs 0).N
    = kOut (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  blk_simp
  rw [after0_4]
  have e : out0_4 (iblk m c 0 t) (iblk m c 1 t) (iblk m c 2 t) = k0_pay3 (iblk m c 0 t) (iblk m c 1 t) (View.ld (iblk m c 2 t) r0_2) := by
    unfold out0_4
    frame_out
    rfl
  rw [e]
  refine whole _ _ _ _ (k_at m c t) y _ ?_ ?_
  · blk_simp [idx t]
    try rfl
  · blk_simp [idx t]
    try rfl

theorem final5 (c : Dev nD) : (dats m 0 c).arrAt 5 (cfgs 0).N
    = kOut (m ((c.tc : Thread nD τ).loc main_arg0)) (m ((c.tc : Thread nD τ).loc main_arg1)) (m ((c.tc : Thread nD τ).loc main_arg3)) := by
  refine (dats m 0 c).arrAt_eq_of_covers 5 _ (by decide +kernel) fun t hf y => ?_
  blk_simp
  rw [after0_5]
  have e : out0_5 (iblk m c 0 t) (iblk m c 1 t) (iblk m c 2 t) = k0_pay4 (iblk m c 0 t) (iblk m c 1 t) (View.ld (iblk m c 2 t) r0_3) := by
    unfold out0_5
    frame_out
    rfl
  rw [e]
  refine whole _ _ _ _ (v_at m c t) y _ ?_ ?_
  · blk_simp [idx t]
    try rfl
  · blk_simp [idx t]
    try rfl

theorem final6 (c : Dev nD) : (dats m 0 c).arrAt 6 (cfgs 0).N
    = kOut (m ((c.tc : Thread nD τ).loc main_arg0)) (m ((c.tc : Thread nD τ).loc main_arg1)) (m ((c.tc : Thread nD τ).loc main_arg3)) := by
  refine (dats m 0 c).arrAt_eq_of_covers 6 _ (by decide +kernel) fun t hf y => ?_
  blk_simp
  rw [after0_6]
  have e : out0_6 (iblk m c 0 t) (iblk m c 1 t) (iblk m c 2 t) = k0_pay5 (iblk m c 0 t) (iblk m c 1 t) (View.ld (iblk m c 2 t) r0_3) := by
    unfold out0_6
    frame_out
    rfl
  rw [e]
  refine whole _ _ _ _ (v_at m c t) y _ ?_ ?_
  · blk_simp [idx t]
    try rfl
  · blk_simp [idx t]
    try rfl

end Cert.MemoryIdeal.Block

end
-- ==== Proof.Memory.Claims.lean ====
/-
  The claims about the memory projections: the programs run, keep their arguments and end with their counters at zero, and
  the kernel and the reference end with the same four results, for all arguments.
-/
module

public import proofs.«01_k».proof.Defs
public import proofs.«01_k».proof.Proof.Gen.Memory.Frame
public import proofs.«01_k».proof.Proof.Gen.MemoryRefIdeal
public import proofs.«01_k».proof.Proof.Gen.MemoryRefIdeal.Run
public import proofs.«01_k».proof.Proof.Memory.KernelValue
public import Idealize.ShloMosaic.Lib.Claim

@[expose] public section

set_option maxRecDepth 16384

noncomputable section

namespace Cert.MemoryRefIdeal.Steps

open Cert.MemoryRefIdeal Cert.MemoryRefIdeal.Gen Idealize.ShloMosaic Idealize.ShloMosaic.TcCoe Cert.FfnMath

/-- The normalised memory rows. -/
def norm (M : FVec Ideal S1x256x1024 .f32) (g : FVec Ideal S1024 .f32) : FVec Ideal S1x256x1024 .f32 :=
  mulf (mulf M (broadcastInDim S1x256x1024 ![0, 1, 2] bcast_S1x256x1_S1x256x1024_0_1_2 (Host.rsqrt (addf (Host.divf (broadcastInDim S1x256x1 ![0, 1] bcast_S1x256_S1x256x1_0_1
    (Host.reduceAdd (mulf M M) (constant S_ .f32 0x00000000#32) reducesTo_S1x256x1024_S1x256_d2 h_S_)) (broadcastInDim S1x256x1 ![] bcast_S_S1x256x1 (constant S_ .f32 0x44800000#32)))
    (broadcastInDim S1x256x1 ![] bcast_S_S1x256x1 (constant S_ .f32 0x358637BD#32))))))
    (broadcastInDim S1x256x1024 ![0, 1, 2] bcast_S1x1x1024_S1x256x1024_0_1_2 (broadcastInDim S1x1x1024 ![2] bcast_S1024_S1x1x1024_2 g))

/-- Their product with a weight. -/
def out (M : FVec Ideal S1x256x1024 .f32) (g : FVec Ideal S1024 .f32) (W : FVec Ideal S1024x1024 .f32) : FVec Ideal S256x1024 .f32 :=
  shapeCast S256x1024 (Host.dotGeneral dot_S1x256x1024_S1024x1024_S1x256x1024_2_0_01_1_n_n none (norm M g) W) shapeCasts_S1x256x1024_S256x1024

theorem norm_at (M : FVec Ideal S1x256x1024 .f32) (g : FVec Ideal S1024 .f32) (r : Fin 256) (d : Fin 1024) :
    norm M g (ix3 0 r d) = rms (fun k => M (ix3 0 r k)) (fun k => g (ix1 k)) d := by
  unfold rms
  pointwise [norm]

theorem dot_at (H : FVec Ideal S1x256x1024 .f32) (W : FVec Ideal S1024x1024 .f32) (r : Fin 256) (d : Fin 1024) :
    Host.dotGeneral dot_S1x256x1024_S1024x1024_S1x256x1024_2_0_01_1_n_n none H W (ix3 0 r d) = ∑ k : Fin 1024, H (ix3 0 r k) * W (ix2 k d) := by
  pointwise

/-- The reference's product is the kernel's. -/
theorem out_eq (M : FVec Ideal S1x256x1024 .f32) (g : FVec Ideal S1024 .f32) (W : FVec Ideal S1024x1024 .f32) : out M g W = Cert.MemoryIdeal.Block.kOut M g W := by
  have e : ∀ (r : Fin 256) (d : Fin 1024), out M g W (ix2 r d) = Cert.MemoryIdeal.Block.kRow M g W r d := by
    intro r d
    refine (Cert.MemoryIdeal.Block.flat_at _ r d).trans ?_
    rw [dot_at]
    simp only [norm_at]
    rfl
  funext i
  exact (congrArg _ (ix2_eta i).symm).trans (e _ _)

end Cert.MemoryRefIdeal.Steps

namespace Cert.MemoryClaims

open Idealize.ShloMosaic Idealize.SL.Sem
open Cert.MemoryRefIdeal.Steps (out_eq)

theorem frame_kernel : Cert.quiescent_Memory := fun m ρ _ => Cert.Memory.Gen.frame m ρ

theorem frame_ideal : Cert.quiescent_MemoryIdeal := fun m ρ _ => Cert.MemoryIdeal.Gen.frame m ρ

/-- The reference's program has no counters. -/
theorem frame_reference : Cert.quiescent_MemoryRefIdeal := by
  intro m ρ _
  refine (θ_run Cert.MemoryRefIdeal.defs _ _).mono (fun r h => ⟨fun c => (h c).2.2.2.2, ?_⟩) (Cert.MemoryRefIdeal.Value.run m ρ)
  exact sem_eq_zero_of_no_sems (by decide) r.2

theorem value : Cert.algebraic_MemoryIdeal_MemoryRefIdeal := by
  pair_intro
  · run_from Cert.MemoryIdeal.Value.run_blocks m g
  · run_from Cert.MemoryRefIdeal.Value.run m' g'
    · exact (out_eq _ _ _).trans (Cert.MemoryIdeal.Block.final3 m c).symm
    · exact (out_eq _ _ _).trans (Cert.MemoryIdeal.Block.final4 m c).symm
    · exact (out_eq _ _ _).trans (Cert.MemoryIdeal.Block.final5 m c).symm
    · exact (out_eq _ _ _).trans (Cert.MemoryIdeal.Block.final6 m c).symm

end Cert.MemoryClaims

end
-- ==== Proof.Proj.Math.lean ====
/-
  The scale of the queries of the attention layer: the kernel multiplies by 1/log 256, the reference by 1/8 and divides by
  log 2; and the normalised rows times columns of the joined weights.
-/
module

public import proofs.«01_k».proof.Proof.Ffn.Math
public import Idealize.ShloMosaic.Lib.Pointwise

@[expose] public section

noncomputable section

namespace Cert.ProjMath

open Idealize.ShloMosaic Cert.FfnMath

/-- A normalised row times column `c` of the weights. -/
def dotRow (x g : Fin 1024 → EReal) (W : Fin 1024 → Fin 3080 → EReal) (c : Fin 3080) : EReal := ∑ k : Fin 1024, rms x g k * W k c

/-- The kernel's scale of the queries. -/
def scale : EReal := (((Real.log 256)⁻¹ : ℝ) : EReal)

/-- The reference's scale of a query. -/
def scaleR (x : EReal) : EReal := Ideal.div (x * Ideal.ofBits FTy.f32 0x3E000000#32) ((Real.log 2 : ℝ) : EReal)

theorem eighth : Ideal.ofBits FTy.f32 0x3E000000#32 = ((1 / 8 : ℝ) : EReal) := by
  simp [Ideal.ofBits, Ideal.ieee]
  rw [← EReal.coe_mul]
  norm_num

theorem two_eq : Ideal.ofBits FTy.f32 0x40000000#32 = ((2 : ℝ) : EReal) := by
  simp [Ideal.ofBits, Ideal.ieee]
  rw [← EReal.coe_mul]
  norm_num

theorem log_two : Ideal.log (Ideal.ofBits FTy.f32 0x40000000#32) = ((Real.log 2 : ℝ) : EReal) := by
  rw [two_eq]
  show (if (2 : ℝ) ≤ 0 then ⊥ else ((Real.log 2 : ℝ) : EReal)) = _
  rw [if_neg (by norm_num)]

/-- The two scales agree: 8 log 2 is log 256. -/
theorem scale_eq (x : EReal) : scaleR x = x * scale := by
  have h2 : Real.log 2 ≠ 0 := (Real.log_pos (by norm_num)).ne'
  have h8 : Real.log 256 = 8 * Real.log 2 := by
    rw [show (256 : ℝ) = 2 ^ 8 by norm_num, Real.log_pow]
    norm_num
  unfold scaleR scale
  rw [Ideal.div_coe h2, eighth, mul_assoc, ← EReal.coe_mul, h8]
  congr 2
  field_simp

end Cert.ProjMath

end
-- ==== Proof.ProjA.KernelValue.lean ====
/-
  The first input projection's five result arrays, element by element: the normalised rows times 512 columns of the joined
  weights each, for the queries with their scale.
-/
module

public import proofs.«01_k».proof.Proof.Gen.ProjAIdeal.Value
public import proofs.«01_k».proof.Proof.Proj.Math
public import Idealize.ShloMosaic.Lib.Pointwise
public import Idealize.ShloMosaic.Lib.Pipeline.ValueKit
public import Idealize.ShloMosaic.Lib.Claim

@[expose] public section

set_option maxRecDepth 16384

noncomputable section

namespace Cert.ProjAIdeal.Block

open Cert.ProjAIdeal Cert.ProjAIdeal.Gen Idealize.ShloMosaic Idealize.ShloMosaic.TcCoe Cert.FfnMath Cert.ProjMath

/-- Row `r` of the normalised rows times column `o + d` of the joined weights. -/
def kRow (X : FVec Ideal S16384x1024 .f32) (g : FVec Ideal S1024 .f32) (W : FVec Ideal S1024x3080 .f32) (o : Fin 1025) (r : Fin 16384) (d : Fin 512) : EReal :=
  dotRow (fun j => X (ix2 r j)) (fun j => g (ix1 j)) (fun k c => W (ix2 k c)) ⟨o.val + d.val, by omega⟩

/-- All of them. -/
def kOut (X : FVec Ideal S16384x1024 .f32) (g : FVec Ideal S1024 .f32) (W : FVec Ideal S1024x3080 .f32) (o : Fin 1025) (i : S16384x512.Idx) : EReal :=
  kRow X g W o (i 0) (i 1)

/-- All of the queries, scaled. -/
def kQuery (X : FVec Ideal S16384x1024 .f32) (g : FVec Ideal S1024 .f32) (W : FVec Ideal S1024x3080 .f32) (i : S16384x512.Idx) : EReal :=
  kRow X g W 0 (i 0) (i 1) * scale

/-- The normalised rows. -/
theorem pay2_at (x : Vec Ideal S512x1024 .f32) (g : Vec Ideal S1x1024 .f32) (r : Fin 512) (d : Fin 1024) :
    k0_pay2 x g (ix2 r d) = rms (fun k => x (ix2 r k)) (fun k => g (ix2 0 k)) d := by
  unfold rms
  pointwise [k0_pay2]

/-- Their product with a weight. -/
theorem pay4_at (x : Vec Ideal S512x1024 .f32) (g : Vec Ideal S1x1024 .f32) (w : Vec Ideal S1024x512 .bf16) (r d : Fin 512) :
    k0_pay4 x g w (ix2 r d) = ∑ k : Fin 1024, rms (fun j => x (ix2 r j)) (fun j => g (ix2 0 j)) k * w (ix2 k d) := by
  simp only [← pay2_at]
  unfold k0_pay4
  generalize k0_pay2 x g = X
  pointwise

theorem scale_named : (Named.named κ "log2e_8" 0x3E38AA3B#32 : Ideal .f32) = scale := rfl

/-- The scaled product. -/
theorem pay3_at (x : Vec Ideal S512x1024 .f32) (g : Vec Ideal S1x1024 .f32) (w : Vec Ideal S1024x512 .bf16) (r d : Fin 512) :
    k0_pay3 x g w (ix2 r d) = k0_pay4 x g w (ix2 r d) * scale := by
  rw [← scale_named]
  rfl

/-- The row of the whole array at which row `r` of block `n` lies. -/
def row (n : ℕ) (hn : n < 32) (r : Fin 512) : Fin 16384 := ⟨n * 512 + r.val, by omega⟩

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ t.val < 32 :=
  (by decide +kernel : ∀ t : Fin grid0.N, _)

theorem lt (t : Fin cfg0.N) : t.val < 32 := (idx t).2.2.2.2.2.2.2.2

/-- What the host hands to the kernel. -/
theorem entry_g (c : Dev nD) : V m c main_v4 = shapeCast S1x1024 (m ((c.tc : Thread nD τ).loc main_arg1)) shapeCasts_S1024_S1x1024 := by
  entry_read
  rfl
theorem entry_w (c : Dev nD) : V m c main_v3 = extractStridedSlice S1024x1536 ![0, 0] (truncf (F := Ideal) .bf16
    (concatenate S1024x3200 1 [⟨S1024x3080, m ((c.tc : Thread nD τ).loc main_arg2)⟩, ⟨S1024x120, broadcastInDim S1024x120 ![] bcast_S_S1024x120 (constant (F := Ideal) S_ .f32 0x00000000#32)⟩]
      concatenates_S1024x3080_S1024x120_S1024x3200_d1) bitsLt_bf16_f32) slices_S1024x3200_S1024x1536_0_0 := by
  entry_read
  rfl

theorem x_at (c : Dev nD) (t : Fin cfg0.N) (r : Fin 512) (l : Fin 1024) :
    iblk m c 0 t (ix2 r l) = m ((c.tc : Thread nD τ).loc main_arg0) (ix2 (row t.val (lt t) r) l) := by
  blk_ext [iblk, V_main_arg0, idx t]
  rfl
theorem g_at (c : Dev nD) (t : Fin cfg0.N) (l : Fin 1024) :
    iblk m c 1 t (ix2 0 l) = m ((c.tc : Thread nD τ).loc main_arg1) (ix1 l) := by
  have e : iblk m c 1 t (ix2 0 l) = V m c main_v4 (ix2 0 l) := by
    generalize hV : V m c main_v4 = B
    blk_ext [iblk, hV, idx t]
  rw [e, entry_g]
  pointwise

/-- A load of 512 columns of the weights from column `o` on. -/
theorem ld_w (X : Vec Ideal S1024x1536 .bf16) (o : ℕ) (inb) (r : Fin 1024) (l : Fin 512) (h : o + l.val < 1536) :
    View.ld X (Rect.unit (s := S1024x1536) ![0, o] S1024x512.size inb) (ix2 r l) = X (ix2 r ⟨o + l.val, h⟩) :=
  View.ld_unit_apply_of X _ _ inb _ _ fun a => by
    match a with
    | ⟨0, _⟩ => exact (Nat.zero_add _).symm
    | ⟨1, _⟩ => rfl

/-- The weights are the joined weights' first columns. -/
theorem w_at (c : Dev nD) (t : Fin cfg0.N) (r : Fin 1024) (l : Fin 1536) :
    iblk m c 2 t (ix2 r l) = m ((c.tc : Thread nD τ).loc main_arg2) (ix2 r ⟨l.val, by omega⟩) := by
  have e : iblk m c 2 t (ix2 r l) = V m c main_v3 (ix2 r l) := by
    generalize hV : V m c main_v3 = B
    blk_ext [iblk, hV, idx t]
  rw [e, entry_w]
  pointwise
  exact dif_pos (by omega)

/-- The product with the columns from `o` on. -/
theorem prod_at (c : Dev nD) (t : Fin cfg0.N) (o : Fin 1025) (inb) (r d : Fin 512) :
    k0_pay4 (iblk m c 0 t) (iblk m c 1 t) (View.ld (iblk m c 2 t) (Rect.unit (s := S1024x1536) ![0, o.val] S1024x512.size inb)) (ix2 r d)
      = kRow (m ((c.tc : Thread nD τ).loc main_arg0)) (m ((c.tc : Thread nD τ).loc main_arg1)) (m ((c.tc : Thread nD τ).loc main_arg2)) o (row t.val (lt t) r) d := by
  rw [pay4_at]
  have hw : ∀ k : Fin 1024, View.ld (iblk m c 2 t) (Rect.unit (s := S1024x1536) ![0, o.val] S1024x512.size inb) (ix2 k d)
      = m ((c.tc : Thread nD τ).loc main_arg2) (ix2 k ⟨o.val + d.val, by omega⟩) := fun k =>
    (ld_w _ _ _ k d (by omega)).trans (w_at m c t k _)
  simp only [x_at, g_at, hw]
  rfl

theorem query_at (c : Dev nD) (t : Fin cfg0.N) (r d : Fin 512) :
    k0_pay3 (iblk m c 0 t) (iblk m c 1 t) (View.ld (iblk m c 2 t) r0_2) (ix2 r d)
      = kRow (m ((c.tc : Thread nD τ).loc main_arg0)) (m ((c.tc : Thread nD τ).loc main_arg1)) (m ((c.tc : Thread nD τ).loc main_arg2)) 0 (row t.val (lt t) r) d * scale :=
  (pay3_at _ _ _ r d).trans (congrArg (· * scale) (prod_at m c t 0 _ r d))

/-- A block whose elements are those of a result's rows, read at an index of the block. -/
theorem point (t : Fin cfg0.N) (B : Vec Ideal S512x512 .f32) (f : Fin 16384 → Fin 512 → EReal) (h : ∀ r d, B (ix2 r d) = f (row t.val (lt t) r) d)
    (y : S512x512.Idx) (i : S16384x512.Idx) (h0 : (i 0 : ℕ) = t.val * 512 + (y 0 : ℕ)) (h1 : (i 1 : ℕ) = (y 1 : ℕ)) : B y = f (i 0) (i 1) :=
  ((congrArg B (ix2_eta y).symm).trans (h _ _)).trans (congrArg₂ f (Fin.ext h0.symm) (Fin.ext h1.symm))

theorem final3 (c : Dev nD) : (dats m 0 c).arrAt 3 (cfgs 0).N
    = kQuery (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  have e : out0_3 (iblk m c 0 t) (iblk m c 1 t) (iblk m c 2 t) = k0_pay3 (iblk m c 0 t) (iblk m c 1 t) (View.ld (iblk m c 2 t) r0_2) := by
    unfold out0_3
    frame_out
    try rfl
  rw [e]
  refine point t _ (fun r d => kRow (m ((c.tc : Thread nD τ).loc main_arg0)) (m ((c.tc : Thread nD τ).loc main_arg1)) (m ((c.tc : Thread nD τ).loc main_arg2)) 0 r d * scale) (query_at m c t) y _ ?_ ?_
  · blk_simp [idx t]
    try rfl
  · blk_simp [idx t]
    try rfl

theorem final4 (c : Dev nD) : (dats m 0 c).arrAt 4 (cfgs 0).N
    = kOut (m ((c.tc : Thread nD τ).loc main_arg0)) (m ((c.tc : Thread nD τ).loc main_arg1)) (m ((c.tc : Thread nD τ).loc main_arg2)) 512 := by
  refine (dats m 0 c).arrAt_eq_of_covers 4 _ (by decide +kernel) fun t hf y => ?_
  blk_simp
  rw [after0_4]
  have e : out0_4 (iblk m c 0 t) (iblk m c 1 t) (iblk m c 2 t) = k0_pay4 (iblk m c 0 t) (iblk m c 1 t) (View.ld (iblk m c 2 t) r0_4) := by
    unfold out0_4
    frame_out
    try rfl
  rw [e]
  refine point t _ _ (prod_at m c t 512 _) y _ ?_ ?_
  · blk_simp [idx t]
    try rfl
  · blk_simp [idx t]
    try rfl

theorem final5 (c : Dev nD) : (dats m 0 c).arrAt 5 (cfgs 0).N
    = kOut (m ((c.tc : Thread nD τ).loc main_arg0)) (m ((c.tc : Thread nD τ).loc main_arg1)) (m ((c.tc : Thread nD τ).loc main_arg2)) 512 := by
  refine (dats m 0 c).arrAt_eq_of_covers 5 _ (by decide +kernel) fun t hf y => ?_
  blk_simp
  rw [after0_5]
  have e : out0_5 (iblk m c 0 t) (iblk m c 1 t) (iblk m c 2 t) = k0_pay5 (iblk m c 0 t) (iblk m c 1 t) (View.ld (iblk m c 2 t) r0_4) := by
    unfold out0_5
    frame_out
    try rfl
  rw [e]
  refine point t _ _ (prod_at m c t 512 _) y _ ?_ ?_
  · blk_simp [idx t]
    try rfl
  · blk_simp [idx t]
    try rfl

theorem final6 (c : Dev nD) : (dats m 0 c).arrAt 6 (cfgs 0).N
    = kOut (m ((c.tc : Thread nD τ).loc main_arg0)) (m ((c.tc : Thread nD τ).loc main_arg1)) (m ((c.tc : Thread nD τ).loc main_arg2)) 1024 := by
  refine (dats m 0 c).arrAt_eq_of_covers 6 _ (by decide +kernel) fun t hf y => ?_
  blk_simp
  rw [after0_6]
  have e : out0_6 (iblk m c 0 t) (iblk m c 1 t) (iblk m c 2 t) = k0_pay6 (iblk m c 0 t) (iblk m c 1 t) (View.ld (iblk m c 2 t) r0_5) := by
    unfold out0_6 k0_pay7
    frame_out
    try rfl
  rw [e]
  refine point t _ _ (prod_at m c t 1024 _) y _ ?_ ?_
  · blk_simp [idx t]
    try rfl
  · blk_simp [idx t]
    try rfl

theorem final7 (c : Dev nD) : (dats m 0 c).arrAt 7 (cfgs 0).N
    = kOut (m ((c.tc : Thread nD τ).loc main_arg0)) (m ((c.tc : Thread nD τ).loc main_arg1)) (m ((c.tc : Thread nD τ).loc main_arg2)) 1024 := by
  refine (dats m 0 c).arrAt_eq_of_covers 7 _ (by decide +kernel) fun t hf y => ?_
  blk_simp
  rw [after0_7]
  have e : out0_7 (iblk m c 0 t) (iblk m c 1 t) (iblk m c 2 t) = k0_pay1 (k0_pay6 (iblk m c 0 t) (iblk m c 1 t) (View.ld (iblk m c 2 t) r0_5)) := by
    unfold out0_7 k0_pay7
    frame_out
    try rfl
  rw [e]
  refine point t _ _ (prod_at m c t 1024 _) y _ ?_ ?_
  · blk_simp [idx t]
    try rfl
  · blk_simp [idx t]
    try rfl

end Cert.ProjAIdeal.Block

end
-- ==== Proof.ProjA.RefTerms.lean ====
/-
  The first input projection's reference: its five results are the kernel's.
-/
module

public import proofs.«01_k».proof.Proof.Gen.ProjARefIdeal
public import proofs.«01_k».proof.Proof.ProjA.KernelValue

@[expose] public section

set_option maxRecDepth 16384

noncomputable section

namespace Cert.ProjARefIdeal.Steps

open Cert.ProjARefIdeal Cert.ProjARefIdeal.Gen Idealize.ShloMosaic Idealize.ShloMosaic.TcCoe Cert.FfnMath Cert.ProjMath

/-- The normalised rows. -/
def norm (X : FVec Ideal S16384x1024 .f32) (g : FVec Ideal S1024 .f32) : FVec Ideal S16384x1024 .f32 :=
  mulf (mulf X (broadcastInDim S16384x1024 ![0, 1] bcast_S16384x1_S16384x1024_0_1 (Host.rsqrt (addf (Host.divf (broadcastInDim S16384x1 ![0] bcast_S16384_S16384x1_0
    (Host.reduceAdd (mulf X X) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- Their product with the joined weights. -/
def proj (X : FVec Ideal S16384x1024 .f32) (g : FVec Ideal S1024 .f32) (W : FVec Ideal S1024x3080 .f32) : FVec Ideal S16384x3080 .f32 :=
  Host.dotGeneral dot_S16384x1024_S1024x3080_S16384x3080_1_0_0_1_n_n none (norm X g) W

/-- The scaled queries. -/
def query (P : FVec Ideal S16384x3080 .f32) : FVec Ideal S16384x512 .f32 :=
  Host.divf (mulf (extractStridedSlice S16384x512 ![0, 0] P slices_S16384x3080_S16384x512_0_0) (broadcastInDim S16384x512 ![] bcast_S_S16384x512 (constant S_ .f32 0x3E000000#32)))
    (broadcastInDim S16384x512 ![] bcast_S_S16384x512 (id (Host.log (constant S_ .f32 0x40000000#32))))

theorem norm_at (X : FVec Ideal S16384x1024 .f32) (g : FVec Ideal S1024 .f32) (r : Fin 16384) (d : Fin 1024) :
    norm X g (ix2 r d) = rms (fun k => X (ix2 r k)) (fun k => g (ix1 k)) d := by
  unfold rms
  pointwise [norm]

theorem dot_at (H : FVec Ideal S16384x1024 .f32) (W : FVec Ideal S1024x3080 .f32) (r : Fin 16384) (d : Fin 3080) :
    Host.dotGeneral dot_S16384x1024_S1024x3080_S16384x3080_1_0_0_1_n_n none H W (ix2 r d) = ∑ k : Fin 1024, H (ix2 r k) * W (ix2 k d) := by
  pointwise

theorem proj_at (X : FVec Ideal S16384x1024 .f32) (g : FVec Ideal S1024 .f32) (W : FVec Ideal S1024x3080 .f32) (r : Fin 16384) (c : Fin 3080) :
    proj X g W (ix2 r c) = dotRow (fun j => X (ix2 r j)) (fun j => g (ix1 j)) (fun k c => W (ix2 k c)) c := by
  unfold proj
  rw [dot_at]
  simp only [norm_at]
  rfl

theorem query_at (P : FVec Ideal S16384x3080 .f32) (r : Fin 16384) (d : Fin 512) : query P (ix2 r d) = scaleR (P (ix2 r ⟨d.val, by omega⟩)) := by
  have hl : id (Host.log (constant (F := Ideal) S_ FTy.f32 1073741824#32)) ix0 = ((Real.log 2 : ℝ) : EReal) := log_two
  unfold scaleR
  pointwise [query]
  rw [hl]

theorem mid_at (P : FVec Ideal S16384x3080 .f32) (r : Fin 16384) (d : Fin 512) :
    extractStridedSlice S16384x512 ![0, 512] P slices_S16384x3080_S16384x512_0_512 (ix2 r d) = P (ix2 r ⟨512 + d.val, by omega⟩) := by
  pointwise

theorem last_at (P : FVec Ideal S16384x3080 .f32) (r : Fin 16384) (d : Fin 512) :
    extractStridedSlice S16384x512 ![0, 1024] P slices_S16384x3080_S16384x512_0_1024 (ix2 r d) = P (ix2 r ⟨1024 + d.val, by omega⟩) := by
  pointwise

/-- The keys. -/
theorem mid_eq (X : FVec Ideal S16384x1024 .f32) (g : FVec Ideal S1024 .f32) (W : FVec Ideal S1024x3080 .f32) :
    extractStridedSlice S16384x512 ![0, 512] (proj X g W) slices_S16384x3080_S16384x512_0_512 = Cert.ProjAIdeal.Block.kOut X g W 512 := by
  funext i
  rw [← ix2_eta i]
  exact (mid_at _ _ _).trans (proj_at X g W _ _)

/-- The values. -/
theorem last_eq (X : FVec Ideal S16384x1024 .f32) (g : FVec Ideal S1024 .f32) (W : FVec Ideal S1024x3080 .f32) :
    extractStridedSlice S16384x512 ![0, 1024] (proj X g W) slices_S16384x3080_S16384x512_0_1024 = Cert.ProjAIdeal.Block.kOut X g W 1024 := by
  funext i
  rw [← ix2_eta i]
  exact (last_at _ _ _).trans (proj_at X g W _ _)

/-- The queries. -/
theorem query_eq (X : FVec Ideal S16384x1024 .f32) (g : FVec Ideal S1024 .f32) (W : FVec Ideal S1024x3080 .f32) :
    query (proj X g W) = Cert.ProjAIdeal.Block.kQuery X g W := by
  have e : ∀ (r : Fin 16384) (d : Fin 512), query (proj X g W) (ix2 r d) = Cert.ProjAIdeal.Block.kRow X g W 0 r d * scale := by
    intro r d
    rw [query_at, scale_eq, proj_at]
    unfold Cert.ProjAIdeal.Block.kRow
    have h : (⟨d.val, by omega⟩ : Fin 3080) = ⟨(0 : Fin 1025).val + d.val, by have := d.isLt; simp; omega⟩ := Fin.ext (by simp)
    rw [h]
  funext i
  exact (congrArg _ (ix2_eta i).symm).trans (e _ _)

end Cert.ProjARefIdeal.Steps

end
-- ==== Proof.ProjA.Claims.lean ====
/-
  The claims about the first input projection: the programs run, keep their arguments and end with their counters at zero, the
  named constant is the literal's, and the kernel and the reference end with the same five results, for all arguments.
-/
module

public import proofs.«01_k».proof.Defs
public import proofs.«01_k».proof.Proof.Gen.ProjA.Frame
public import proofs.«01_k».proof.Proof.Gen.ProjARefIdeal.Run
public import proofs.«01_k».proof.Proof.ProjA.RefTerms
public import Idealize.ShloMosaic.Lib.Claim

@[expose] public section

set_option maxRecDepth 16384

noncomputable section

namespace Cert.ProjAClaims

open Idealize.ShloMosaic Idealize.SL.Sem
open Cert.ProjARefIdeal.Steps (query_eq mid_eq last_eq)

theorem frame_kernel : Cert.quiescent_ProjA := fun m ρ _ => Cert.ProjA.Gen.frame m ρ

theorem frame_ideal : Cert.quiescent_ProjAIdeal := fun m ρ _ => Cert.ProjAIdeal.Gen.frame m ρ

/-- The reference's program has no counters. -/
theorem frame_reference : Cert.quiescent_ProjARefIdeal := by
  intro m ρ _
  refine (θ_run Cert.ProjARefIdeal.defs _ _).mono (fun r h => ⟨fun c => (h c).2.2.2.2.2, ?_⟩) (Cert.ProjARefIdeal.Value.run m ρ)
  exact sem_eq_zero_of_no_sems (by decide) r.2

theorem constant : Cert.preserves_ProjA_ProjAIdeal := IdealRules.named_const.statement Cert.ProjAIdeal.κ "log2e_8" .f32 0x3E38AA3B#32 _ rfl

theorem value : Cert.algebraic_ProjAIdeal_ProjARefIdeal := by
  pair_intro
  · run_from Cert.ProjAIdeal.Value.run_blocks m g
  · run_from Cert.ProjARefIdeal.Value.run m' g'
    · exact (query_eq _ _ _).trans (Cert.ProjAIdeal.Block.final3 m c).symm
    · exact (mid_eq _ _ _).trans (Cert.ProjAIdeal.Block.final4 m c).symm
    · exact (mid_eq _ _ _).trans (Cert.ProjAIdeal.Block.final5 m c).symm
    · exact (last_eq _ _ _).trans (Cert.ProjAIdeal.Block.final6 m c).symm
    · exact (last_eq _ _ _).trans (Cert.ProjAIdeal.Block.final7 m c).symm

end Cert.ProjAClaims

end
-- ==== Proof.ProjB.Weights.lean ====
/-
  What the host hands to the second input projection: the joined weights with each head's 64 columns of the queries and keys
  followed by 64 columns of zeros, and the bias followed by zeros, element by element.
-/
module

public import proofs.«01_k».proof.Proof.Gen.ProjBIdeal.Value
public import Idealize.ShloMosaic.Lib.Pointwise
public import Idealize.ShloMosaic.Lib.Routing.OpsOne
public import Idealize.ShloMosaic.Lib.KernelVsHost

@[expose] public section

set_option maxRecDepth 16384

noncomputable section

namespace Cert.ProjBIdeal.Weights

open Cert.ProjBIdeal Cert.ProjBIdeal.Gen Idealize.ShloMosaic Idealize.ShloMosaic.TcCoe

/-- Eight heads' columns, each head's followed by as many zeros. -/
def spread (W : FVec Ideal S1024x512 .f32) : FVec Ideal S1024x1024 .f32 :=
  shapeCast S1024x1024 (pad S1024x8x128 ![0, 0, 0] ![0, 0, 64] ![0, 0, 0] (shapeCast S1024x8x64 W shapeCasts_S1024x512_S1024x8x64) (sitofp .f32 (constantI S_ 32 0#32))
    pads_S1024x8x64_S1024x8x128_000_000_0640 h_S_) shapeCasts_S1024x8x128_S1024x1024

/-- The forget gate's columns, followed by zeros. -/
def gate (W : FVec Ideal S1024x3080 .f32) : FVec Ideal S1024x128 .f32 :=
  extf .f32 (extractStridedSlice S1024x128 ![0, 3072] (truncf (F := Ideal) .bf16 (concatenate S1024x3200 1 [⟨S1024x3080, W⟩,
    ⟨S1024x120, broadcastInDim S1024x120 ![] bcast_S_S1024x120 (constant (F := Ideal) S_ .f32 0x00000000#32)⟩] concatenates_S1024x3080_S1024x120_S1024x3200_d1) bitsLt_bf16_f32)
    slices_S1024x3200_S1024x128_0_3072) bitsLt_bf16_f32

/-- All the weights side by side. -/
def joined (A : FVec Ideal S1024x1024 .f32) (B : FVec Ideal S1024x512 .f32) (C : FVec Ideal S1024x1024 .f32) (D : FVec Ideal S1024x512 .f32) (E : FVec Ideal S1024x128 .f32) :
    FVec Ideal S1024x3200 .bf16 :=
  truncf (F := Ideal) .bf16 (concatenate S1024x3200 1 [⟨S1024x1024, A⟩, ⟨S1024x512, B⟩, ⟨S1024x1024, C⟩, ⟨S1024x512, D⟩, ⟨S1024x128, E⟩]
    concatenates_S1024x1024_S1024x512_S1024x1024_S1024x512_S1024x128_S1024x3200_d1) bitsLt_bf16_f32

/-- The bias followed by zeros. -/
def bias (b : FVec Ideal S8 .f32) : FVec Ideal S1x128 .f32 :=
  Host.scatter scatter_S1x128_S2_S8_0_0_01_0 (fun _ b => b) (broadcastInDim S1x128 ![] bcast_S_S1x128 (constant (F := Ideal) S_ .f32 0x00000000#32))
    (concatenate S2 0 [⟨S1, broadcastInDim S1 ![] bcast_S_S1 (constantI S_ 32 0#32)⟩, ⟨S1, broadcastInDim S1 ![] bcast_S_S1 (constantI S_ 32 0#32)⟩] concatenates_S1_S1_S2_d0) b

theorem spread_at (W : FVec Ideal S1024x512 .f32) (r d : Fin 1024) :
    spread W (ix2 r d) = if h : d.val % 128 < 64 then W (ix2 r ⟨d.val / 128 * 64 + d.val % 128, by omega⟩) else 0 := by
  pointwise [spread]
  have h : ((d.val / 128 < 8 ∧ d.val % 128 < 64)) = (d.val % 128 < 64) := propext ⟨And.right, fun q => ⟨by omega, q⟩⟩
  have z : (FloatOps.sitofp FTy.f32 0#32 : Ideal .f32) = 0 := sitofp_zero
  simp only [h, z]

theorem gate_at (W : FVec Ideal S1024x3080 .f32) (r : Fin 1024) (d : Fin 128) :
    gate W (ix2 r d) = if h : d.val < 8 then W (ix2 r ⟨3072 + d.val, by omega⟩) else 0 := by
  pointwise [gate]
  have h : (3072 + d.val < 3080) = (d.val < 8) := propext ⟨fun q => by omega, fun q => by omega⟩
  simp only [h]

section
variable (A : FVec Ideal S1024x1024 .f32) (B : FVec Ideal S1024x512 .f32) (C : FVec Ideal S1024x1024 .f32) (D : FVec Ideal S1024x512 .f32) (E : FVec Ideal S1024x128 .f32)

theorem joined0 (r d : Fin 1024) : joined A B C D E (ix2 r ⟨0 + d.val, by omega⟩) = A (ix2 r d) := by
  pointwise [joined]
theorem joined1 (r : Fin 1024) (d : Fin 512) : joined A B C D E (ix2 r ⟨1024 + d.val, by omega⟩) = B (ix2 r d) := by
  pointwise [joined]
theorem joined2 (r d : Fin 1024) : joined A B C D E (ix2 r ⟨1536 + d.val, by omega⟩) = C (ix2 r d) := by
  pointwise [joined]
  rw [dif_neg (by omega), dif_neg (by omega), dif_pos (by omega)]
  exact congrArg (fun e => C (ix2 r e)) (Fin.ext (by show _ = d.val; simp only []; omega))
theorem joined3 (r : Fin 1024) (d : Fin 512) : joined A B C D E (ix2 r ⟨2560 + d.val, by omega⟩) = D (ix2 r d) := by
  pointwise [joined]
  rw [dif_neg (by omega), dif_neg (by omega), dif_neg (by omega), dif_pos (by omega)]
  exact congrArg (fun e => D (ix2 r e)) (Fin.ext (by show _ = d.val; simp only []; omega))
theorem joined4 (r : Fin 1024) (d : Fin 128) : joined A B C D E (ix2 r ⟨3072 + d.val, by omega⟩) = E (ix2 r d) := by
  pointwise [joined]
  rw [dif_neg (by omega), dif_neg (by omega), dif_neg (by omega), dif_neg (by omega)]
  exact congrArg (fun e => E (ix2 r e)) (Fin.ext (by show _ = d.val; simp only []; omega))
end

/-- Update `k` of the bias lands at column `k` of the one row. -/
theorem lands (I : IVec S2 32) (h : ∀ q : Fin 2, I (ix1 q) = 0#32) (k : Fin 8) (c : Fin 128) :
    scatter_S1x128_S2_S8_0_0_01_0.resultIdx? (ix1 k) I = some (ix2 (0 : Fin 1) c) ↔ k.val = c.val := by
  have hwin0 : scatter_S1x128_S2_S8_0_0_01_0.window (ix1 k) 0 = 0 := rfl
  have hwin1 : scatter_S1x128_S2_S8_0_0_01_0.window (ix1 k) 1 = k.val := rfl
  have h0 : scatter_S1x128_S2_S8_0_0_01_0.start (ix1 k) I 0 = 0 :=
    (Routing.start_pair (R := 1) (C := 128) scatter_S1x128_S2_S8_0_0_01_0 rfl rfl I (ix1 k) 0).trans ((congrArg BitVec.toInt (h _)).trans rfl)
  have h1 : scatter_S1x128_S2_S8_0_0_01_0.start (ix1 k) I 1 = 0 :=
    (Routing.start_pair (R := 1) (C := 128) scatter_S1x128_S2_S8_0_0_01_0 rfl rfl I (ix1 k) 1).trans ((congrArg BitVec.toInt (h _)).trans rfl)
  refine (Routing.resultIdx?_ix2 (R := 1) (C := 128) scatter_S1x128_S2_S8_0_0_01_0 (ix1 k) I 0 c).trans ?_
  rw [h0, h1, hwin0, hwin1]
  simp

theorem bias_at (b : FVec Ideal S8 .f32) (d : Fin 128) : bias b (ix2 0 d) = if h : d.val < 8 then b (ix1 ⟨d.val, h⟩) else 0 := by
  unfold bias
  generalize hI : concatenate S2 0 [⟨S1, broadcastInDim S1 ![] bcast_S_S1 (constantI S_ 32 0#32)⟩, ⟨S1, broadcastInDim S1 ![] bcast_S_S1 (constantI S_ 32 0#32)⟩] concatenates_S1_S1_S2_d0 = I
  have h : ∀ q : Fin 2, I (ix1 q) = 0#32 := by
    rw [← hI]
    decide
  by_cases hd : d.val < 8
  · rw [dif_pos hd]
    refine Routing.scatter_set_hit _ _ I b _ _ (fun k hk => ?_) (ix1 ⟨d.val, hd⟩) ((lands I h _ d).2 rfl)
    rw [← ix1_eta k] at hk ⊢
    exact congrArg (fun e => b (ix1 e)) (Fin.ext ((lands I h _ d).1 hk))
  · rw [dif_neg hd, Routing.scatter_set_miss _ _ I b _ fun k hk => ?_]
    · pointwise
    · rw [← ix1_eta k] at hk
      have := (lands I h _ d).1 hk
      have := (k 0).isLt
      omega

end Cert.ProjBIdeal.Weights

end
-- ==== Proof.Proj.LogSigmoid.lean ====
/-
  The logarithm of the logistic function, as the kernel and as the reference write it.
-/
module

public import proofs.«01_k».proof.Proof.Ffn.Math

@[expose] public section

noncomputable section

namespace Cert.LogSigmoid

open Idealize.ShloMosaic Cert.FfnMath

/-- As the kernel writes it. -/
def logsigK (u : EReal) : EReal := min u 0 - Ideal.log (one + Ideal.exp (0 - max u (-u)))

/-- As the reference writes it, where no comparison of a number with itself fails. -/
def logsigR (u : EReal) : EReal := -(max (-u) 0 + Ideal.log1p (Ideal.exp (-(max (-u) (-(-u))))))

/-- A number is not different from itself. -/
theorem une_self (x : EReal) : Ideal.cmp .une x x = 0#1 := by
  simp [Ideal.cmp]

theorem log_one : Ideal.log 1 = 0 := by
  rw [← EReal.coe_one, Ideal.log_coe, if_neg (by norm_num), Real.log_one]
  rfl

theorem coe_max (a b : ℝ) : ((max a b : ℝ) : EReal) = max (a : EReal) (b : EReal) := EReal.coe_strictMono.monotone.map_max

theorem coe_min (a b : ℝ) : ((min a b : ℝ) : EReal) = min (a : EReal) (b : EReal) := EReal.coe_strictMono.monotone.map_min

/-- The two agree everywhere. -/
theorem logsig_eq (u : EReal) : logsigR u = logsigK u := by
  unfold logsigR logsigK Ideal.log1p
  rw [one_eq]
  have e1 : (1 : EReal) = ((1 : ℝ) : EReal) := rfl
  rw [e1]
  induction u with
  | bot => simp [log_one]
  | top => simp [log_one]
  | coe r =>
    have hm : max ((-r : ℝ) : EReal) ((- -r : ℝ) : EReal) = ((|r| : ℝ) : EReal) := by
      rw [neg_neg, ← coe_max]
      congr 1
      rw [abs_eq_max_neg, max_comm]
    have hm' : max ((r : ℝ) : EReal) ((-r : ℝ) : EReal) = ((|r| : ℝ) : EReal) := by
      rw [← coe_max]
      rfl
    have hz : (0 : EReal) = ((0 : ℝ) : EReal) := rfl
    have hp : ¬ (1 + Real.exp (-|r|) ≤ 0) := not_le.2 (by positivity)
    have hmin : min ((r : ℝ) : EReal) ((0 : ℝ) : EReal) = ((min r 0 : ℝ) : EReal) := (coe_min _ _).symm
    have hmax : max ((-r : ℝ) : EReal) ((0 : ℝ) : EReal) = ((max (-r) 0 : ℝ) : EReal) := (coe_max _ _).symm
    rw [← EReal.coe_neg, ← EReal.coe_neg, hm, hm', hz, hmin, hmax, ← EReal.coe_neg, ← EReal.coe_sub, zero_sub, Ideal.exp_coe, ← EReal.coe_add, Ideal.log_coe, if_neg hp,
      ← EReal.coe_add, ← EReal.coe_neg, ← EReal.coe_sub]
    congr 1
    have : max (-r) 0 = -min r 0 := by
      rw [← neg_zero, max_neg_neg, neg_zero]
    rw [this]
    ring

end Cert.LogSigmoid

end
-- ==== Proof.ProjB.KernelValue.lean ====
/-
  The second input projection's six result arrays, element by element: the normalised rows times their columns of the joined
  weights, for the queries with their scale, and the log-sigmoid of the forget gate's columns with the bias added.
-/
module

public import proofs.«01_k».proof.Proof.ProjB.Weights
public import proofs.«01_k».proof.Proof.Proj.Math
public import proofs.«01_k».proof.Proof.Proj.LogSigmoid
public import Idealize.ShloMosaic.Lib.Pipeline.ValueKit
public import Idealize.ShloMosaic.Lib.Claim

@[expose] public section

set_option maxRecDepth 16384

noncomputable section

namespace Cert.ProjBIdeal.Block

open Cert.ProjBIdeal Cert.ProjBIdeal.Gen Cert.ProjBIdeal.Weights Idealize.ShloMosaic Idealize.ShloMosaic.TcCoe Cert.FfnMath Cert.ProjMath Cert.LogSigmoid

section Results
variable (X : FVec Ideal S16384x1024 .f32) (g : FVec Ideal S1024 .f32) (W : FVec Ideal S1024x3080 .f32) (b : FVec Ideal S8 .f32)

/-- Row `r` of the normalised rows times column `c` of the joined weights. -/
def kRow (r : Fin 16384) (c : Fin 3080) : EReal := dotRow (fun j => X (ix2 r j)) (fun j => g (ix1 j)) (fun k c => W (ix2 k c)) c

/-- 512 columns from `o` on. -/
def kCols (o : Fin 2561) (r : Fin 16384) (d : Fin 512) : EReal := kRow X g W r ⟨o.val + d.val, by omega⟩

/-- The same columns in eight heads of 64, each followed by 64 zeros. -/
def kHeads (o : Fin 2561) (r : Fin 16384) (d : Fin 1024) : EReal :=
  if h : d.val % 128 < 64 then kRow X g W r ⟨o.val + (d.val / 128 * 64 + d.val % 128), by omega⟩ else 0

/-- The scaled queries. -/
def kQuery (r : Fin 16384) (d : Fin 1024) : EReal := kHeads X g W 1536 r d * scale

/-- The forget gate's logits, followed by zeros. -/
def kLogit (r : Fin 16384) (d : Fin 128) : EReal :=
  (if h : d.val < 8 then kRow X g W r ⟨3072 + d.val, by omega⟩ else 0) + if h : d.val < 8 then b (ix1 ⟨d.val, h⟩) else 0

/-- Their log-sigmoid. -/
def kGate (r : Fin 16384) (d : Fin 128) : EReal := logsigK (kLogit X g W b r d)

/-- Weights of eight heads of 64 columns, each followed by 64 zeros. -/
def wHeads (o : Fin 2561) (k d : Fin 1024) : EReal := if h : d.val % 128 < 64 then W (ix2 k ⟨o.val + (d.val / 128 * 64 + d.val % 128), by omega⟩) else 0

/-- The forget gate's weights, followed by zeros. -/
def wGate (k : Fin 1024) (d : Fin 128) : EReal := if h : d.val < 8 then W (ix2 k ⟨3072 + d.val, by omega⟩) else 0

/-- The bias, followed by zeros. -/
def bRow (d : Fin 128) : EReal := if h : d.val < 8 then b (ix1 ⟨d.val, h⟩) else 0

end Results

/-- A product with weights that are a column of the joined weights or all zero. -/
theorem dot_dite (x g : Fin 1024 → EReal) (W : Fin 1024 → Fin 3080 → EReal) (p : Prop) [Decidable p] (f : p → Fin 3080) :
    ∑ k : Fin 1024, rms x g k * (if h : p then W k (f h) else 0) = if h : p then dotRow x g W (f h) else 0 := by
  by_cases h : p
  · simp only [dif_pos h]
    rfl
  · simp only [dif_neg h, mul_zero, Finset.sum_const_zero]

/-- The normalised rows. -/
theorem pay4_at (x : Vec Ideal S512x1024 .f32) (g : Vec Ideal S1x1024 .f32) (r : Fin 512) (d : Fin 1024) :
    k0_pay4 x g (ix2 r d) = rms (fun k => x (ix2 r k)) (fun k => g (ix2 0 k)) d := by
  unfold rms
  pointwise [k0_pay4]

/-- Their product with 512 columns. -/
theorem pay1_at (x : Vec Ideal S512x1024 .f32) (g : Vec Ideal S1x1024 .f32) (w : Vec Ideal S1024x512 .bf16) (r d : Fin 512) :
    k0_pay1 (k0_pay4 x g) w (ix2 r d) = ∑ k : Fin 1024, rms (fun j => x (ix2 r j)) (fun j => g (ix2 0 j)) k * w (ix2 k d) := by
  simp only [← pay4_at]
  unfold k0_pay1
  generalize k0_pay4 x g = X
  pointwise

/-- Their product with 1024 columns. -/
theorem pay7_at (x : Vec Ideal S512x1024 .f32) (g : Vec Ideal S1x1024 .f32) (w : Vec Ideal S1024x1024 .bf16) (r : Fin 512) (d : Fin 1024) :
    k0_pay7 x g w (ix2 r d) = ∑ k : Fin 1024, rms (fun j => x (ix2 r j)) (fun j => g (ix2 0 j)) k * w (ix2 k d) := by
  simp only [← pay4_at]
  unfold k0_pay7
  generalize k0_pay4 x g = X
  pointwise

theorem scale_named : (Named.named κ "log2e_8" 0x3E38AA3B#32 : Ideal .f32) = scale := rfl

/-- The scaled product. -/
theorem pay5_at (x : Vec Ideal S512x1024 .f32) (g : Vec Ideal S1x1024 .f32) (w : Vec Ideal S1024x1024 .bf16) (r : Fin 512) (d : Fin 1024) :
    k0_pay5 x g w (ix2 r d) = k0_pay7 x g w (ix2 r d) * scale := by
  rw [← scale_named]
  rfl

/-- The log-sigmoid of the product with 128 columns and a bias. -/
theorem pay3_at (x : Vec Ideal S512x1024 .f32) (g : Vec Ideal S1x1024 .f32) (w : Vec Ideal S1024x128 .bf16) (b : Vec Ideal S1x128 .f32) (r : Fin 512) (d : Fin 128) :
    k0_pay3 (k0_pay4 x g) w b (ix2 r d)
      = logsigK ((∑ k : Fin 1024, rms (fun j => x (ix2 r j)) (fun j => g (ix2 0 j)) k * w (ix2 k d)) + b (ix2 0 d)) := by
  simp only [← pay4_at]
  unfold k0_pay3 logsigK
  generalize k0_pay4 x g = X
  pointwise
  rw [show one = 1 from one_eq]
  rfl

/-- The row of the whole array at which row `r` of block `n` lies. -/
def row (n : ℕ) (hn : n < 32) (r : Fin 512) : Fin 16384 := ⟨n * 512 + r.val, by omega⟩

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ t.val < 32 :=
  (by decide +kernel : ∀ t : Fin grid0.N, _)

theorem lt (t : Fin cfg0.N) : t.val < 32 := (idx t).2.2.2.2.2.2.2.2.2.2

/-- What the host hands to the kernel. -/
theorem entry_g (c : Dev nD) : V m c main_v21 = shapeCast S1x1024 (m ((c.tc : Thread nD τ).loc main_arg1)) shapeCasts_S1024_S1x1024 := by
  entry_read
  rfl
theorem entry_w (c : Dev nD) : V m c main_v20 = joined (spread (extractStridedSlice S1024x512 ![0, 1536] (m ((c.tc : Thread nD τ).loc main_arg2)) slices_S1024x3080_S1024x512_0_1536))
    (extractStridedSlice S1024x512 ![0, 2048] (m ((c.tc : Thread nD τ).loc main_arg2)) slices_S1024x3080_S1024x512_0_2048)
    (spread (extractStridedSlice S1024x512 ![0, 2048] (m ((c.tc : Thread nD τ).loc main_arg2)) slices_S1024x3080_S1024x512_0_2048))
    (extractStridedSlice S1024x512 ![0, 2560] (m ((c.tc : Thread nD τ).loc main_arg2)) slices_S1024x3080_S1024x512_0_2560)
    (gate (m ((c.tc : Thread nD τ).loc main_arg2))) := by
  entry_read
  rfl
theorem entry_b (c : Dev nD) : V m c main_v7 = bias (m ((c.tc : Thread nD τ).loc main_arg3)) := by
  entry_read
  rfl

theorem x_at (c : Dev nD) (t : Fin cfg0.N) (r : Fin 512) (l : Fin 1024) :
    iblk m c 0 t (ix2 r l) = m ((c.tc : Thread nD τ).loc main_arg0) (ix2 (row t.val (lt t) r) l) := by
  blk_ext [iblk, V_main_arg0, idx t]
  rfl
theorem g_at (c : Dev nD) (t : Fin cfg0.N) (l : Fin 1024) :
    iblk m c 1 t (ix2 0 l) = m ((c.tc : Thread nD τ).loc main_arg1) (ix1 l) := by
  have e : iblk m c 1 t (ix2 0 l) = V m c main_v21 (ix2 0 l) := by
    generalize hV : V m c main_v21 = B
    blk_ext [iblk, hV, idx t]
  rw [e, entry_g]
  pointwise
theorem b_at (c : Dev nD) (t : Fin cfg0.N) (l : Fin 128) :
    iblk m c 3 t (ix2 0 l) = bRow (m ((c.tc : Thread nD τ).loc main_arg3)) l := by
  have e : iblk m c 3 t (ix2 0 l) = V m c main_v7 (ix2 0 l) := by
    generalize hV : V m c main_v7 = B
    blk_ext [iblk, hV, idx t]
  rw [e, entry_b]
  exact bias_at _ l

/-- The weights' block is the joined weights. -/
theorem w_at (c : Dev nD) (t : Fin cfg0.N) (r : Fin 1024) (l : Fin 3200) : iblk m c 2 t (ix2 r l) = V m c main_v20 (ix2 r l) := by
  generalize hV : V m c main_v20 = B
  blk_ext [iblk, hV, idx t]

/-- A load of some columns of the weights from column `o` on. -/
theorem ld_w (X : Vec Ideal S1024x3200 .bf16) (n o : ℕ) (inb) (r : Fin 1024) (l : Fin n) (h : o + l.val < 3200) :
    View.ld X (Rect.unit (s := S1024x3200) ![0, o] ![1024, n] inb) (ix2 r l) = X (ix2 r ⟨o + l.val, h⟩) :=
  View.ld_unit_apply_of X _ _ inb _ _ fun a => by
    match a with
    | ⟨0, _⟩ => exact (Nat.zero_add _).symm
    | ⟨1, _⟩ => rfl

theorem slice_at (W : FVec Ideal S1024x3080 .f32) (o : Fin 2561) (hs) (r : Fin 1024) (d : Fin 512) :
    extractStridedSlice S1024x512 ![0, o.val] W hs (ix2 r d) = W (ix2 r ⟨o.val + d.val, by omega⟩) := by
  pointwise

/-- The queries' columns of the weights. -/
theorem w0 (c : Dev nD) (t : Fin cfg0.N) (k d : Fin 1024) : View.ld (iblk m c 2 t) r0_2 (ix2 k d)
    = wHeads (m ((c.tc : Thread nD τ).loc main_arg2)) 1536 k d := by
  rw [(ld_w _ 1024 0 _ k d (by omega)).trans (w_at m c t k _), entry_w, joined0, spread_at]
  exact dite_congr rfl (fun h => slice_at _ 1536 _ _ _) fun _ => rfl
/-- The keys'. -/
theorem w1 (c : Dev nD) (t : Fin cfg0.N) (k : Fin 1024) (d : Fin 512) : View.ld (iblk m c 2 t) r0_3 (ix2 k d)
    = m ((c.tc : Thread nD τ).loc main_arg2) (ix2 k ⟨2048 + d.val, by omega⟩) := by
  rw [(ld_w _ 512 1024 _ k d (by omega)).trans (w_at m c t k _), entry_w, joined1]
  exact slice_at _ 2048 _ _ _
/-- The keys' in heads. -/
theorem w2 (c : Dev nD) (t : Fin cfg0.N) (k d : Fin 1024) : View.ld (iblk m c 2 t) r0_5 (ix2 k d)
    = wHeads (m ((c.tc : Thread nD τ).loc main_arg2)) 2048 k d := by
  rw [(ld_w _ 1024 1536 _ k d (by omega)).trans (w_at m c t k _), entry_w, joined2, spread_at]
  exact dite_congr rfl (fun h => slice_at _ 2048 _ _ _) fun _ => rfl
/-- The values'. -/
theorem w3 (c : Dev nD) (t : Fin cfg0.N) (k : Fin 1024) (d : Fin 512) : View.ld (iblk m c 2 t) r0_6 (ix2 k d)
    = m ((c.tc : Thread nD τ).loc main_arg2) (ix2 k ⟨2560 + d.val, by omega⟩) := by
  rw [(ld_w _ 512 2560 _ k d (by omega)).trans (w_at m c t k _), entry_w, joined3]
  exact slice_at _ 2560 _ _ _
/-- The forget gate's. -/
theorem w4 (c : Dev nD) (t : Fin cfg0.N) (k : Fin 1024) (d : Fin 128) : View.ld (iblk m c 2 t) r0_7 (ix2 k d)
    = wGate (m ((c.tc : Thread nD τ).loc main_arg2)) k d := by
  rw [(ld_w _ 128 3072 _ k d (by omega)).trans (w_at m c t k _), entry_w, joined4]
  exact gate_at _ _ _

/-- The rows of a block, with weights that are known. -/
theorem sum_of (c : Dev nD) (t : Fin cfg0.N) (r : Fin 512) (w w' : Fin 1024 → EReal) (h : ∀ k, w k = w' k) :
    ∑ k : Fin 1024, rms (fun j => iblk m c 0 t (ix2 r j)) (fun j => iblk m c 1 t (ix2 0 j)) k * w k
      = ∑ k : Fin 1024, rms (fun j => m ((c.tc : Thread nD τ).loc main_arg0) (ix2 (row t.val (lt t) r) j)) (fun j => m ((c.tc : Thread nD τ).loc main_arg1) (ix1 j)) k * w' k := by
  obtain rfl : w = w' := funext h
  have hx : (fun j => iblk m c 0 t (ix2 r j)) = fun j => m ((c.tc : Thread nD τ).loc main_arg0) (ix2 (row t.val (lt t) r) j) := funext (x_at m c t r)
  have hg : (fun j => iblk m c 1 t (ix2 0 j)) = fun j => m ((c.tc : Thread nD τ).loc main_arg1) (ix1 j) := funext (g_at m c t)
  rw [hx, hg]

theorem heads_at (c : Dev nD) (t : Fin cfg0.N) (r : Fin 512) (d : Fin 1024) :
    k0_pay7 (iblk m c 0 t) (iblk m c 1 t) (View.ld (iblk m c 2 t) r0_5) (ix2 r d) = kHeads (m ((c.tc : Thread nD τ).loc main_arg0)) (m ((c.tc : Thread nD τ).loc main_arg1)) (m ((c.tc : Thread nD τ).loc main_arg2)) 2048 (row t.val (lt t) r) d :=
  ((pay7_at _ _ _ r d).trans (sum_of m c t r _ _ fun k => w2 m c t k d)).trans
    (dot_dite _ _ (fun k c' => (m ((c.tc : Thread nD τ).loc main_arg2) : FVec Ideal S1024x3080 .f32) (ix2 k c')) (d.val % 128 < 64) fun _ => ⟨2048 + (d.val / 128 * 64 + d.val % 128), by omega⟩)

theorem query_at (c : Dev nD) (t : Fin cfg0.N) (r : Fin 512) (d : Fin 1024) :
    k0_pay5 (iblk m c 0 t) (iblk m c 1 t) (View.ld (iblk m c 2 t) r0_2) (ix2 r d) = kQuery (m ((c.tc : Thread nD τ).loc main_arg0)) (m ((c.tc : Thread nD τ).loc main_arg1)) (m ((c.tc : Thread nD τ).loc main_arg2)) (row t.val (lt t) r) d :=
  (pay5_at _ _ _ r d).trans (congrArg (· * scale) (((pay7_at _ _ _ r d).trans (sum_of m c t r _ _ fun k => w0 m c t k d)).trans
    (dot_dite _ _ (fun k c' => (m ((c.tc : Thread nD τ).loc main_arg2) : FVec Ideal S1024x3080 .f32) (ix2 k c')) (d.val % 128 < 64) fun _ => ⟨1536 + (d.val / 128 * 64 + d.val % 128), by omega⟩)))

theorem keys_at (c : Dev nD) (t : Fin cfg0.N) (r d : Fin 512) :
    k0_pay1 (k0_pay4 (iblk m c 0 t) (iblk m c 1 t)) (View.ld (iblk m c 2 t) r0_3) (ix2 r d) = kCols (m ((c.tc : Thread nD τ).loc main_arg0)) (m ((c.tc : Thread nD τ).loc main_arg1)) (m ((c.tc : Thread nD τ).loc main_arg2)) 2048 (row t.val (lt t) r) d :=
  (pay1_at _ _ _ r d).trans (sum_of m c t r _ _ fun k => w1 m c t k d)

theorem vals_at (c : Dev nD) (t : Fin cfg0.N) (r d : Fin 512) :
    k0_pay1 (k0_pay4 (iblk m c 0 t) (iblk m c 1 t)) (View.ld (iblk m c 2 t) r0_6) (ix2 r d) = kCols (m ((c.tc : Thread nD τ).loc main_arg0)) (m ((c.tc : Thread nD τ).loc main_arg1)) (m ((c.tc : Thread nD τ).loc main_arg2)) 2560 (row t.val (lt t) r) d :=
  (pay1_at _ _ _ r d).trans (sum_of m c t r _ _ fun k => w3 m c t k d)

theorem gate_out_at (c : Dev nD) (t : Fin cfg0.N) (r : Fin 512) (d : Fin 128) :
    k0_pay3 (k0_pay4 (iblk m c 0 t) (iblk m c 1 t)) (View.ld (iblk m c 2 t) r0_7) (iblk m c 3 t) (ix2 r d) = kGate (m ((c.tc : Thread nD τ).loc main_arg0)) (m ((c.tc : Thread nD τ).loc main_arg1)) (m ((c.tc : Thread nD τ).loc main_arg2)) (m ((c.tc : Thread nD τ).loc main_arg3)) (row t.val (lt t) r) d :=
  (pay3_at _ _ _ _ r d).trans (congrArg logsigK (congrArg₂ (· + ·) ((sum_of m c t r _ _ fun k => w4 m c t k d).trans
    (dot_dite _ _ (fun k c' => (m ((c.tc : Thread nD τ).loc main_arg2) : FVec Ideal S1024x3080 .f32) (ix2 k c')) (d.val < 8) fun h => ⟨3072 + d.val, by omega⟩)) (b_at m c t d)))

/-- An array given by rows and columns, read at an index. -/
def tab {a b : ℕ} (f : Fin a → Fin b → EReal) (i : (Routing.shape2 a b).Idx) : EReal := f (i 0) (i 1)

/-- A block whose elements are those of a result's rows, read at an index of the block. -/
theorem point {n : ℕ} (t : Fin cfg0.N) (B : (Routing.shape2 512 n).Idx → EReal) (f : Fin 16384 → Fin n → EReal) (h : ∀ r d, B (ix2 r d) = f (row t.val (lt t) r) d)
    (y : (Routing.shape2 512 n).Idx) (i : (Routing.shape2 16384 n).Idx) (h0 : (i 0 : ℕ) = t.val * 512 + (y 0 : ℕ)) (h1 : (i 1 : ℕ) = (y 1 : ℕ)) : B y = f (i 0) (i 1) :=
  ((congrArg B (ix2_eta y).symm).trans (h _ _)).trans (congrArg₂ f (Fin.ext h0.symm) (Fin.ext h1.symm))

theorem final4 (c : Dev nD) : (dats m 0 c).arrAt 4 (cfgs 0).N = tab (kQuery (m ((c.tc : Thread nD τ).loc main_arg0)) (m ((c.tc : Thread nD τ).loc main_arg1)) (m ((c.tc : Thread nD τ).loc main_arg2))) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay5 (iblk m c 0 t) (iblk m c 1 t) (View.ld (iblk m c 2 t) r0_2) := by
    unfold out0_4
    frame_out
    try rfl
  rw [e]
  refine point t _ (kQuery (m ((c.tc : Thread nD τ).loc main_arg0)) (m ((c.tc : Thread nD τ).loc main_arg1)) (m ((c.tc : Thread nD τ).loc main_arg2))) (query_at m c t) y _ ?_ ?_
  · blk_simp [idx t]
    try rfl
  · blk_simp [idx t]
    try rfl

theorem final5 (c : Dev nD) : (dats m 0 c).arrAt 5 (cfgs 0).N = tab (kCols (m ((c.tc : Thread nD τ).loc main_arg0)) (m ((c.tc : Thread nD τ).loc main_arg1)) (m ((c.tc : Thread nD τ).loc main_arg2)) 2048) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay6 (iblk m c 0 t) (iblk m c 1 t) (View.ld (iblk m c 2 t) r0_3) := by
    unfold out0_5
    frame_out
    try rfl
  rw [e]
  refine point t _ (kCols (m ((c.tc : Thread nD τ).loc main_arg0)) (m ((c.tc : Thread nD τ).loc main_arg1)) (m ((c.tc : Thread nD τ).loc main_arg2)) 2048) (keys_at m c t) y _ ?_ ?_
  · blk_simp [idx t]
    try rfl
  · blk_simp [idx t]
    try rfl

theorem final6 (c : Dev nD) : (dats m 0 c).arrAt 6 (cfgs 0).N = tab (kHeads (m ((c.tc : Thread nD τ).loc main_arg0)) (m ((c.tc : Thread nD τ).loc main_arg1)) (m ((c.tc : Thread nD τ).loc main_arg2)) 2048) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay7 (iblk m c 0 t) (iblk m c 1 t) (View.ld (iblk m c 2 t) r0_5) := by
    unfold out0_6
    frame_out
    try rfl
  rw [e]
  refine point t _ (kHeads (m ((c.tc : Thread nD τ).loc main_arg0)) (m ((c.tc : Thread nD τ).loc main_arg1)) (m ((c.tc : Thread nD τ).loc main_arg2)) 2048) (heads_at m c t) y _ ?_ ?_
  · blk_simp [idx t]
    try rfl
  · blk_simp [idx t]
    try rfl

theorem final7 (c : Dev nD) : (dats m 0 c).arrAt 7 (cfgs 0).N = tab (kCols (m ((c.tc : Thread nD τ).loc main_arg0)) (m ((c.tc : Thread nD τ).loc main_arg1)) (m ((c.tc : Thread nD τ).loc main_arg2)) 2560) := by
  refine (dats m 0 c).arrAt_eq_of_covers 7 _ (by decide +kernel) fun t hf y => ?_
  blk_simp
  rw [after0_7]
  have e : out0_7 (iblk m c 0 t) (iblk m c 1 t) (iblk m c 2 t) (iblk m c 3 t) = k0_pay1 (k0_pay4 (iblk m c 0 t) (iblk m c 1 t)) (View.ld (iblk m c 2 t) r0_6) := by
    unfold out0_7 k0_pay8
    frame_out
    try rfl
  rw [e]
  refine point t _ (kCols (m ((c.tc : Thread nD τ).loc main_arg0)) (m ((c.tc : Thread nD τ).loc main_arg1)) (m ((c.tc : Thread nD τ).loc main_arg2)) 2560) (vals_at m c t) y _ ?_ ?_
  · blk_simp [idx t]
    try rfl
  · blk_simp [idx t]
    try rfl

theorem final8 (c : Dev nD) : (dats m 0 c).arrAt 8 (cfgs 0).N = tab (kCols (m ((c.tc : Thread nD τ).loc main_arg0)) (m ((c.tc : Thread nD τ).loc main_arg1)) (m ((c.tc : Thread nD τ).loc main_arg2)) 2560) := by
  refine (dats m 0 c).arrAt_eq_of_covers 8 _ (by decide +kernel) fun t hf y => ?_
  blk_simp
  rw [after0_8]
  have e : out0_8 (iblk m c 0 t) (iblk m c 1 t) (iblk m c 2 t) (iblk m c 3 t) = k0_pay2 (k0_pay4 (iblk m c 0 t) (iblk m c 1 t)) (View.ld (iblk m c 2 t) r0_6) := by
    unfold out0_8 k0_pay8
    frame_out
    try rfl
  rw [e]
  refine point t _ (kCols (m ((c.tc : Thread nD τ).loc main_arg0)) (m ((c.tc : Thread nD τ).loc main_arg1)) (m ((c.tc : Thread nD τ).loc main_arg2)) 2560) (vals_at m c t) y _ ?_ ?_
  · blk_simp [idx t]
    try rfl
  · blk_simp [idx t]
    try rfl

theorem final9 (c : Dev nD) : (dats m 0 c).arrAt 9 (cfgs 0).N = tab (kGate (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 9 _ (by decide +kernel) fun t hf y => ?_
  blk_simp
  rw [after0_9]
  have e : out0_9 (iblk m c 0 t) (iblk m c 1 t) (iblk m c 2 t) (iblk m c 3 t) = k0_pay3 (k0_pay4 (iblk m c 0 t) (iblk m c 1 t)) (View.ld (iblk m c 2 t) r0_7) (iblk m c 3 t) := by
    unfold out0_9 k0_pay8
    frame_out
    try rfl
  rw [e]
  refine point t _ (kGate (m ((c.tc : Thread nD τ).loc main_arg0)) (m ((c.tc : Thread nD τ).loc main_arg1)) (m ((c.tc : Thread nD τ).loc main_arg2)) (m ((c.tc : Thread nD τ).loc main_arg3))) (gate_out_at m c t) y _ ?_ ?_
  · blk_simp [idx t]
    try rfl
  · blk_simp [idx t]
    try rfl

end Cert.ProjBIdeal.Block

end
-- ==== Proof.ProjB.RefTerms.lean ====
/-
  The second input projection's reference: its six results are the kernel's.
-/
module

public import proofs.«01_k».proof.Proof.Gen.ProjBRefIdeal
public import proofs.«01_k».proof.Proof.ProjA.RefTerms
public import proofs.«01_k».proof.Proof.ProjB.KernelValue

@[expose] public section

set_option maxRecDepth 16384

noncomputable section

namespace Cert.ProjBRefIdeal.Steps

open Cert.ProjBRefIdeal Cert.ProjBRefIdeal.Gen Idealize.ShloMosaic Idealize.ShloMosaic.TcCoe Cert.FfnMath Cert.ProjMath Cert.LogSigmoid
open Cert.ProjARefIdeal.Steps (proj proj_at)
open Cert.ProjBIdeal.Block (kRow kCols kHeads kQuery kLogit kGate tab)

/-- Eight heads' columns, each head's followed by as many zeros. -/
def spread (Q : FVec Ideal S16384x512 .f32) : FVec Ideal S16384x1024 .bf16 :=
  truncf (F := Ideal) .bf16 (shapeCast S16384x1024 (pad S16384x8x128 ![0, 0, 0] ![0, 0, 64] ![0, 0, 0] (shapeCast S16384x8x64 Q shapeCasts_S16384x512_S16384x8x64)
    (sitofp .f32 (constantI S_ 32 0#32)) pads_S16384x8x64_S16384x8x128_000_000_0640 h_S_) shapeCasts_S16384x8x128_S16384x1024) bitsLt_bf16_f32

/-- The scaled queries. -/
def query (P : FVec Ideal S16384x3080 .f32) : FVec Ideal S16384x512 .f32 :=
  Host.divf (mulf (extractStridedSlice S16384x512 ![0, 1536] P slices_S16384x3080_S16384x512_0_1536) (broadcastInDim S16384x512 ![] bcast_S_S16384x512 (constant S_ .f32 0x3E000000#32)))
    (broadcastInDim S16384x512 ![] bcast_S_S16384x512 (id (Host.log (constant S_ .f32 0x40000000#32))))

/-- The forget gate's logits with the bias added, then zeros. -/
def logit (P : FVec Ideal S16384x3080 .f32) (b : FVec Ideal S8 .f32) : FVec Ideal S16384x128 .f32 :=
  pad S16384x128 ![0, 0] ![0, 120] ![0, 0] (addf (extractStridedSlice S16384x8 ![0, 3072] P slices_S16384x3080_S16384x8_0_3072)
    (broadcastInDim S16384x8 ![0, 1] bcast_S1x8_S16384x8_0_1 (broadcastInDim S1x8 ![1] bcast_S8_S1x8_1 b))) (sitofp .f32 (constantI S_ 32 0#32)) pads_S16384x8_S16384x128_000_01200 h_S_

/-- The zeros with which the log-sigmoid compares. -/
def zeros : FVec Ideal S16384x128 .f32 := broadcastInDim S16384x128 ![] bcast_S_S16384x128 (constant S_ .f32 0x00000000#32)

/-- The log-sigmoid of minus `n`. -/
def logsig (n : FVec Ideal S16384x128 .f32) : FVec Ideal S16384x128 .f32 :=
  Host.negf (select (cmpf .une (subf n zeros) (subf n zeros)) (addf n zeros) (addf (maximumf n zeros) (Host.log1p (Host.exp (Host.negf (Host.absf (subf n zeros)))))))

theorem spread_at (Q : FVec Ideal S16384x512 .f32) (r : Fin 16384) (d : Fin 1024) :
    spread Q (ix2 r d) = if h : d.val % 128 < 64 then Q (ix2 r ⟨d.val / 128 * 64 + d.val % 128, by omega⟩) else 0 := by
  pointwise [spread]
  have h : ((d.val / 128 < 8 ∧ d.val % 128 < 64)) = (d.val % 128 < 64) := propext ⟨And.right, fun q => ⟨by omega, q⟩⟩
  have z : (FloatOps.sitofp FTy.f32 0#32 : Ideal .f32) = 0 := sitofp_zero
  simp only [h, z]

theorem query_at (P : FVec Ideal S16384x3080 .f32) (r : Fin 16384) (d : Fin 512) : query P (ix2 r d) = P (ix2 r ⟨1536 + d.val, by omega⟩) * scale := by
  have hl : id (Host.log (constant (F := Ideal) S_ FTy.f32 1073741824#32)) ix0 = ((Real.log 2 : ℝ) : EReal) := log_two
  rw [← scale_eq]
  unfold scaleR
  pointwise [query]
  rw [hl]

theorem logit_at (P : FVec Ideal S16384x3080 .f32) (b : FVec Ideal S8 .f32) (r : Fin 16384) (d : Fin 128) :
    logit P b (ix2 r d) = if h : d.val < 8 then P (ix2 r ⟨3072 + d.val, by omega⟩) + b (ix1 ⟨d.val, h⟩) else 0 := by
  pointwise [logit]
  have z : (FloatOps.sitofp FTy.f32 0#32 : Ideal .f32) = 0 := sitofp_zero
  simp only [z]

theorem zeros_at (r : Fin 16384) (d : Fin 128) : zeros (ix2 r d) = 0 := by
  pointwise [zeros]

/-- Its element: no number differs from itself, so the branch for such numbers is not taken. -/
theorem logsig_at (n : FVec Ideal S16384x128 .f32) (r : Fin 16384) (d : Fin 128) (u : EReal) (h : n (ix2 r d) = -u) : logsig n (ix2 r d) = logsigK u := by
  rw [← logsig_eq]
  have hs : subf n zeros (ix2 r d) = -u := by
    show n (ix2 r d) - zeros (ix2 r d) = -u
    rw [h, zeros_at, sub_zero]
  show -(Scalar.select (Ideal.cmp .une (subf n zeros (ix2 r d)) (subf n zeros (ix2 r d))) (n (ix2 r d) + zeros (ix2 r d))
    (max (n (ix2 r d)) (zeros (ix2 r d)) + Ideal.log1p (Ideal.exp (-(max (subf n zeros (ix2 r d)) (-(subf n zeros (ix2 r d)))))))) = _
  rw [hs, h, zeros_at, une_self]
  rfl

theorem slice_at (P : FVec Ideal S16384x3080 .f32) (o : Fin 2561) (hs) (r : Fin 16384) (d : Fin 512) :
    extractStridedSlice S16384x512 ![0, o.val] P hs (ix2 r d) = P (ix2 r ⟨o.val + d.val, by omega⟩) := by
  pointwise

variable (X : FVec Ideal S16384x1024 .f32) (g : FVec Ideal S1024 .f32) (W : FVec Ideal S1024x3080 .f32) (b : FVec Ideal S8 .f32)

/-- Arrays with the same elements. -/
theorem eq_tab {a n : ℕ} (A : (Routing.shape2 a n).Idx → EReal) (f : Fin a → Fin n → EReal) (h : ∀ r d, A (ix2 r d) = f r d) : A = tab f := by
  funext i
  exact (congrArg A (ix2_eta i).symm).trans (h _ _)

/-- The keys and the values. -/
theorem cols_eq (o : Fin 2561) (hs) : extractStridedSlice S16384x512 ![0, o.val] (proj X g W) hs = tab (kCols X g W o) :=
  eq_tab _ _ fun r d => (slice_at _ o hs r d).trans (proj_at X g W _ _)

/-- The keys in heads. -/
theorem heads_eq : spread (extractStridedSlice S16384x512 ![0, 2048] (proj X g W) slices_S16384x3080_S16384x512_0_2048) = tab (kHeads X g W 2048) :=
  eq_tab _ _ fun r d => (spread_at _ r d).trans (dite_congr rfl (fun h => (slice_at _ 2048 _ r _).trans (proj_at X g W _ _)) fun _ => rfl)

/-- The queries in heads. -/
theorem query_eq : spread (query (proj X g W)) = tab (kQuery X g W) :=
  eq_tab _ _ fun r d => by
    rw [spread_at]
    unfold kQuery kHeads
    by_cases h : d.val % 128 < 64
    · rw [dif_pos h, dif_pos h]
      exact (query_at _ r _).trans (congrArg (· * scale) (proj_at X g W _ _))
    · rw [dif_neg h, dif_neg h, zero_mul]

/-- The forget gate. -/
theorem gate_eq : logsig (Host.negf (logit (proj X g W) b)) = tab (kGate X g W b) :=
  eq_tab _ _ fun r d => logsig_at _ r d _ (congrArg (fun u : EReal => -u) (by
    rw [logit_at]
    unfold kLogit
    by_cases h : d.val < 8
    · rw [dif_pos h, dif_pos h, dif_pos h]
      exact congrArg (· + b (ix1 ⟨d.val, h⟩)) (proj_at X g W _ _)
    · rw [dif_neg h, dif_neg h, dif_neg h, add_zero]))

end Cert.ProjBRefIdeal.Steps

end
-- ==== Proof.ProjB.Claims.lean ====
/-
  The claims about the second input projection: the programs run, keep their arguments and end with their counters at zero, the
  named constant is the literal's, and the kernel and the reference end with the same six results, for all arguments.
-/
module

public import proofs.«01_k».proof.Defs
public import proofs.«01_k».proof.Proof.Gen.ProjB.Frame
public import proofs.«01_k».proof.Proof.Gen.ProjBRefIdeal.Run
public import proofs.«01_k».proof.Proof.ProjB.RefTerms
public import Idealize.ShloMosaic.Lib.Claim

@[expose] public section

set_option maxRecDepth 16384

noncomputable section

namespace Cert.ProjBClaims

open Idealize.ShloMosaic Idealize.SL.Sem
open Cert.ProjBRefIdeal.Steps (query_eq heads_eq cols_eq gate_eq)

theorem frame_kernel : Cert.quiescent_ProjB := fun m ρ _ => Cert.ProjB.Gen.frame m ρ

theorem frame_ideal : Cert.quiescent_ProjBIdeal := fun m ρ _ => Cert.ProjBIdeal.Gen.frame m ρ

/-- The reference's program has no counters. -/
theorem frame_reference : Cert.quiescent_ProjBRefIdeal := by
  intro m ρ _
  refine (θ_run Cert.ProjBRefIdeal.defs _ _).mono (fun r h => ⟨fun c => (h c).2.2.2.2.2.2, ?_⟩) (Cert.ProjBRefIdeal.Value.run m ρ)
  exact sem_eq_zero_of_no_sems (by decide) r.2

theorem constant : Cert.preserves_ProjB_ProjBIdeal := IdealRules.named_const.statement Cert.ProjBIdeal.κ "log2e_8" .f32 0x3E38AA3B#32 _ rfl

theorem value : Cert.algebraic_ProjBIdeal_ProjBRefIdeal := by
  pair_intro
  · run_from Cert.ProjBIdeal.Value.run_blocks m g
  · run_from Cert.ProjBRefIdeal.Value.run m' g'
    · exact (query_eq _ _ _).trans (Cert.ProjBIdeal.Block.final4 m c).symm
    · exact (cols_eq _ _ _ 2048 _).trans (Cert.ProjBIdeal.Block.final5 m c).symm
    · exact (heads_eq _ _ _).trans (Cert.ProjBIdeal.Block.final6 m c).symm
    · exact (cols_eq _ _ _ 2560 _).trans (Cert.ProjBIdeal.Block.final7 m c).symm
    · exact (cols_eq _ _ _ 2560 Cert.ProjBRefIdeal.Gen.slices_S16384x3080_S16384x512_0_2560).trans (Cert.ProjBIdeal.Block.final8 m c).symm
    · obtain ⟨h0, h1, h2, h3⟩ := hagree c
      refine (gate_eq (m' (c.tc.loc Cert.ProjBRefIdeal.main_arg0)) (m' (c.tc.loc Cert.ProjBRefIdeal.main_arg1)) (m' (c.tc.loc Cert.ProjBRefIdeal.main_arg2))
        (m' (c.tc.loc Cert.ProjBRefIdeal.main_arg3))).trans ?_
      rw [h0, h1, h2, h3]
      exact (Cert.ProjBIdeal.Block.final9 m c).symm

end Cert.ProjBClaims

end
-- ==== Proof.ProjS.KernelValue.lean ====
/-
  The sample batch's input projection, its eleven result arrays element by element: the normalised rows times their columns of the
  joined weights, for the queries with their scale, and the log-sigmoid of the forget gate's columns with the bias added.
-/
module

public import proofs.«01_k».proof.Proof.Gen.ProjSIdeal.Value
public import proofs.«01_k».proof.Proof.ProjB.KernelValue

@[expose] public section

set_option maxRecDepth 16384

noncomputable section

namespace Cert.ProjSIdeal.Block

open Cert.ProjSIdeal Cert.ProjSIdeal.Gen Idealize.ShloMosaic Idealize.ShloMosaic.TcCoe Cert.FfnMath Cert.ProjMath Cert.LogSigmoid
open Cert.ProjBIdeal.Weights (bias bias_at)
open Cert.ProjBIdeal.Block (dot_dite tab bRow wGate)

section Results
variable (X : FVec Ideal S512x1024 .f32) (g : FVec Ideal S1024 .f32) (W : FVec Ideal S1024x3080 .f32) (b : FVec Ideal S8 .f32)

/-- Row `r` of the normalised rows times column `c` of the joined weights. -/
def kRow (r : Fin 512) (c : Fin 3080) : EReal := dotRow (fun j => X (ix2 r j)) (fun j => g (ix1 j)) (fun k c => W (ix2 k c)) c

/-- 512 columns from `o` on. -/
def kCols (o : Fin 2561) (r d : Fin 512) : EReal := kRow X g W r ⟨o.val + d.val, by omega⟩

/-- The scaled queries. -/
def kQuery (o : Fin 2561) (r d : Fin 512) : EReal := kCols X g W o r d * Ideal.ofBits FTy.f32 0x3E000000#32

/-- The forget gate's logits, followed by zeros. -/
def kLogit (r : Fin 512) (d : Fin 128) : EReal :=
  (if h : d.val < 8 then kRow X g W r ⟨3072 + d.val, by omega⟩ else 0) + if h : d.val < 8 then b (ix1 ⟨d.val, h⟩) else 0

/-- Their log-sigmoid. -/
def kGate (r : Fin 512) (d : Fin 128) : EReal := logsigK (kLogit X g W b r d)

/-- The weights followed by zeros. -/
def wPad (k : Fin 1024) (l : Fin 3200) : EReal := if h : l.val < 3080 then W (ix2 k ⟨l.val, h⟩) else 0

/-- Those columns from 3072 on. -/
theorem wPad_gate (k : Fin 1024) (d : Fin 128) : wPad W k ⟨3072 + d.val, by omega⟩ = wGate W k d := by
  have h : (3072 + d.val < 3080) = (d.val < 8) := propext ⟨fun q => by omega, fun q => by omega⟩
  unfold wPad wGate
  simp only [h]

/-- Columns before them. -/
theorem wPad_cols (k : Fin 1024) (o : Fin 2561) (d : Fin 512) : wPad W k ⟨o.val + d.val, by omega⟩ = W (ix2 k ⟨o.val + d.val, by omega⟩) :=
  dif_pos (show o.val + d.val < 3080 by omega)

end Results

/-- The normalised rows. -/
theorem pay2_at (x : Vec Ideal S512x1024 .f32) (g : Vec Ideal S1x1024 .f32) (r : Fin 512) (d : Fin 1024) :
    k0_pay2 x g (ix2 r d) = rms (fun k => x (ix2 r k)) (fun k => g (ix2 0 k)) d := by
  unfold rms
  pointwise [k0_pay2]

/-- Their product with 512 columns. -/
theorem pay4_at (x : Vec Ideal S512x1024 .f32) (g : Vec Ideal S1x1024 .f32) (w : Vec Ideal S1024x512 .bf16) (r d : Fin 512) :
    k0_pay4 x g w (ix2 r d) = ∑ k : Fin 1024, rms (fun j => x (ix2 r j)) (fun j => g (ix2 0 j)) k * w (ix2 k d) := by
  simp only [← pay2_at]
  unfold k0_pay4
  generalize k0_pay2 x g = X
  pointwise

/-- The scaled product. -/
theorem pay3_at (x : Vec Ideal S512x1024 .f32) (g : Vec Ideal S1x1024 .f32) (w : Vec Ideal S1024x512 .bf16) (r d : Fin 512) :
    k0_pay3 x g w (ix2 r d) = k0_pay4 x g w (ix2 r d) * Ideal.ofBits FTy.f32 0x3E000000#32 := rfl

/-- The log-sigmoid of the product with 128 columns and a bias. -/
theorem pay1_at (x : Vec Ideal S512x1024 .f32) (g : Vec Ideal S1x1024 .f32) (w : Vec Ideal S1024x128 .bf16) (b : Vec Ideal S1x128 .f32) (r : Fin 512) (d : Fin 128) :
    k0_pay1 (k0_pay13 (k0_pay2 x g) w) b (ix2 r d)
      = logsigK ((∑ k : Fin 1024, rms (fun j => x (ix2 r j)) (fun j => g (ix2 0 j)) k * w (ix2 k d)) + b (ix2 0 d)) := by
  simp only [← pay2_at]
  unfold k0_pay1 k0_pay13 logsigK
  generalize k0_pay2 x g = X
  pointwise
  rw [show one = 1 from one_eq]
  rfl

variable (m : (ℓ : Loc nD τ sig) → Buf (Elt Ideal) ℓ)

/-- There is one block of rows. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] :=
  (by decide +kernel : ∀ t : Fin grid0.N, _)

/-- What the host hands to the kernel. -/
theorem entry_g (c : Dev nD) : V m c main_v8 = shapeCast S1x1024 (m ((c.tc : Thread nD τ).loc main_arg1)) shapeCasts_S1024_S1x1024 := by
  entry_read
  rfl
theorem entry_w (c : Dev nD) : V m c main_v2 = truncf (F := Ideal) .bf16
    (concatenate S1024x3200 1 [⟨S1024x3080, m ((c.tc : Thread nD τ).loc main_arg2)⟩, ⟨S1024x120, broadcastInDim S1024x120 ![] bcast_S_S1024x120 (constant (F := Ideal) S_ .f32 0x00000000#32)⟩]
      concatenates_S1024x3080_S1024x120_S1024x3200_d1) bitsLt_bf16_f32 := by
  entry_read
  rfl
theorem entry_b (c : Dev nD) : V m c main_v7 = bias (m ((c.tc : Thread nD τ).loc main_arg3)) := by
  entry_read
  rfl

theorem x_at (c : Dev nD) (t : Fin cfg0.N) (r : Fin 512) (l : Fin 1024) :
    iblk m c 0 t (ix2 r l) = m ((c.tc : Thread nD τ).loc main_arg0) (ix2 r l) := by
  blk_ext [iblk, V_main_arg0, idx t]
theorem g_at (c : Dev nD) (t : Fin cfg0.N) (l : Fin 1024) :
    iblk m c 1 t (ix2 0 l) = m ((c.tc : Thread nD τ).loc main_arg1) (ix1 l) := by
  have e : iblk m c 1 t (ix2 0 l) = V m c main_v8 (ix2 0 l) := by
    generalize hV : V m c main_v8 = B
    blk_ext [iblk, hV, idx t]
  rw [e, entry_g]
  pointwise
theorem b_at (c : Dev nD) (t : Fin cfg0.N) (l : Fin 128) : iblk m c 3 t (ix2 0 l) = bRow (m ((c.tc : Thread nD τ).loc main_arg3)) l := by
  have e : iblk m c 3 t (ix2 0 l) = V m c main_v7 (ix2 0 l) := by
    generalize hV : V m c main_v7 = B
    blk_ext [iblk, hV, idx t]
  rw [e, entry_b]
  exact bias_at _ l

/-- The weights' block is the joined weights followed by zeros. -/
theorem w_at (c : Dev nD) (t : Fin cfg0.N) (r : Fin 1024) (l : Fin 3200) : iblk m c 2 t (ix2 r l)
    = wPad (m ((c.tc : Thread nD τ).loc main_arg2)) r l := by
  have e : iblk m c 2 t (ix2 r l) = V m c main_v2 (ix2 r l) := by
    generalize hV : V m c main_v2 = B
    blk_ext [iblk, hV, idx t]
  rw [e, entry_w]
  unfold wPad
  pointwise

/-- A load of some columns of the weights from column `o` on. -/
theorem ld_w (X : Vec Ideal S1024x3200 .bf16) (n o : ℕ) (inb) (r : Fin 1024) (l : Fin n) (h : o + l.val < 3200) :
    View.ld X (Rect.unit (s := S1024x3200) ![0, o] ![1024, n] inb) (ix2 r l) = X (ix2 r ⟨o + l.val, h⟩) :=
  View.ld_unit_apply_of X _ _ inb _ _ fun a => by
    match a with
    | ⟨0, _⟩ => exact (Nat.zero_add _).symm
    | ⟨1, _⟩ => rfl

/-- 512 columns of the weights. -/
theorem w_cols (c : Dev nD) (t : Fin cfg0.N) (o : Fin 2561) (inb) (k : Fin 1024) (d : Fin 512) :
    View.ld (iblk m c 2 t) (Rect.unit (s := S1024x3200) ![0, o.val] S1024x512.size inb) (ix2 k d)
      = (m ((c.tc : Thread nD τ).loc main_arg2) : FVec Ideal S1024x3080 .f32) (ix2 k ⟨o.val + d.val, by omega⟩) :=
  (ld_w _ 512 o.val _ k d (by omega)).trans ((w_at m c t k _).trans (wPad_cols _ k o d))
/-- The forget gate's. -/
theorem w_gate (c : Dev nD) (t : Fin cfg0.N) (k : Fin 1024) (d : Fin 128) : View.ld (iblk m c 2 t) r0_9 (ix2 k d)
    = wGate (m ((c.tc : Thread nD τ).loc main_arg2)) k d :=
  (ld_w _ 128 3072 _ k d (by omega)).trans ((w_at m c t k _).trans (wPad_gate _ k d))

/-- The rows of the block, with weights that are known. -/
theorem sum_of (c : Dev nD) (t : Fin cfg0.N) (r : Fin 512) (w w' : Fin 1024 → EReal) (h : ∀ k, w k = w' k) :
    ∑ k : Fin 1024, rms (fun j => iblk m c 0 t (ix2 r j)) (fun j => iblk m c 1 t (ix2 0 j)) k * w k
      = ∑ k : Fin 1024, rms (fun j => m ((c.tc : Thread nD τ).loc main_arg0) (ix2 r j)) (fun j => m ((c.tc : Thread nD τ).loc main_arg1) (ix1 j)) k * w' k := by
  obtain rfl : w = w' := funext h
  have hx : (fun j => iblk m c 0 t (ix2 r j)) = fun j => m ((c.tc : Thread nD τ).loc main_arg0) (ix2 r j) := funext (x_at m c t r)
  have hg : (fun j => iblk m c 1 t (ix2 0 j)) = fun j => m ((c.tc : Thread nD τ).loc main_arg1) (ix1 j) := funext (g_at m c t)
  rw [hx, hg]

theorem cols_at (c : Dev nD) (t : Fin cfg0.N) (o : Fin 2561) (inb) (r d : Fin 512) :
    k0_pay4 (iblk m c 0 t) (iblk m c 1 t) (View.ld (iblk m c 2 t) (Rect.unit (s := S1024x3200) ![0, o.val] S1024x512.size inb)) (ix2 r d) = kCols (m ((c.tc : Thread nD τ).loc main_arg0)) (m ((c.tc : Thread nD τ).loc main_arg1)) (m ((c.tc : Thread nD τ).loc main_arg2)) o r d :=
  (pay4_at _ _ _ r d).trans (sum_of m c t r _ _ fun k => w_cols m c t o inb k d)

theorem query_at (c : Dev nD) (t : Fin cfg0.N) (o : Fin 2561) (inb) (r d : Fin 512) :
    k0_pay3 (iblk m c 0 t) (iblk m c 1 t) (View.ld (iblk m c 2 t) (Rect.unit (s := S1024x3200) ![0, o.val] S1024x512.size inb)) (ix2 r d) = kQuery (m ((c.tc : Thread nD τ).loc main_arg0)) (m ((c.tc : Thread nD τ).loc main_arg1)) (m ((c.tc : Thread nD τ).loc main_arg2)) o r d :=
  (pay3_at _ _ _ r d).trans (congrArg (· * Ideal.ofBits FTy.f32 0x3E000000#32) (cols_at m c t o inb r d))

theorem gate_out_at (c : Dev nD) (t : Fin cfg0.N) (r : Fin 512) (d : Fin 128) :
    k0_pay1 (k0_pay13 (k0_pay2 (iblk m c 0 t) (iblk m c 1 t)) (View.ld (iblk m c 2 t) r0_9)) (iblk m c 3 t) (ix2 r d) = kGate (m ((c.tc : Thread nD τ).loc main_arg0)) (m ((c.tc : Thread nD τ).loc main_arg1)) (m ((c.tc : Thread nD τ).loc main_arg2)) (m ((c.tc : Thread nD τ).loc main_arg3)) r d :=
  (pay1_at _ _ _ _ r d).trans (congrArg logsigK (congrArg₂ (· + ·) ((sum_of m c t r _ _ fun k => w_gate m c t k d).trans
    (dot_dite _ _ (fun k c' => (m ((c.tc : Thread nD τ).loc main_arg2) : FVec Ideal S1024x3080 .f32) (ix2 k c')) (d.val < 8) fun h => ⟨3072 + d.val, by omega⟩)) (b_at m c t d)))

/-- A block that is the whole array, read at an index. -/
theorem point {n : ℕ} (B : (Routing.shape2 512 n).Idx → EReal) (f : Fin 512 → Fin n → EReal) (h : ∀ r d, B (ix2 r d) = f r d)
    (y i : (Routing.shape2 512 n).Idx) (h0 : (i 0 : ℕ) = (y 0 : ℕ)) (h1 : (i 1 : ℕ) = (y 1 : ℕ)) : B y = f (i 0) (i 1) :=
  ((congrArg B (ix2_eta y).symm).trans (h _ _)).trans (congrArg₂ f (Fin.ext h0.symm) (Fin.ext h1.symm))

theorem final4 (c : Dev nD) : (dats m 0 c).arrAt 4 (cfgs 0).N = tab (kQuery (m ((c.tc : Thread nD τ).loc main_arg0)) (m ((c.tc : Thread nD τ).loc main_arg1)) (m ((c.tc : Thread nD τ).loc main_arg2)) 0) := by
  refine (dats m 0 c).arrAt_eq_of_covers 4 _ (by decide +kernel) fun t hf y => ?_
  blk_simp
  rw [after0_4]
  have e : out0_4 (iblk m c 0 t) (iblk m c 1 t) (iblk m c 2 t) (iblk m c 3 t) = k0_pay3 (iblk m c 0 t) (iblk m c 1 t) (View.ld (iblk m c 2 t) r0_2) := by
    unfold out0_4
    frame_out
    try rfl
  rw [e]
  refine point _ (kQuery (m ((c.tc : Thread nD τ).loc main_arg0)) (m ((c.tc : Thread nD τ).loc main_arg1)) (m ((c.tc : Thread nD τ).loc main_arg2)) 0) (query_at m c t 0 _) y _ ?_ ?_
  · blk_simp [idx t]
    try rfl
  · blk_simp [idx t]
    try rfl

theorem final5 (c : Dev nD) : (dats m 0 c).arrAt 5 (cfgs 0).N = tab (kCols (m ((c.tc : Thread nD τ).loc main_arg0)) (m ((c.tc : Thread nD τ).loc main_arg1)) (m ((c.tc : Thread nD τ).loc main_arg2)) 512) := by
  refine (dats m 0 c).arrAt_eq_of_covers 5 _ (by decide +kernel) fun t hf y => ?_
  blk_simp
  rw [after0_5]
  have e : out0_5 (iblk m c 0 t) (iblk m c 1 t) (iblk m c 2 t) (iblk m c 3 t) = k0_pay4 (iblk m c 0 t) (iblk m c 1 t) (View.ld (iblk m c 2 t) r0_4) := by
    unfold out0_5
    frame_out
    try rfl
  rw [e]
  refine point _ (kCols (m ((c.tc : Thread nD τ).loc main_arg0)) (m ((c.tc : Thread nD τ).loc main_arg1)) (m ((c.tc : Thread nD τ).loc main_arg2)) 512) (cols_at m c t 512 _) y _ ?_ ?_
  · blk_simp [idx t]
    try rfl
  · blk_simp [idx t]
    try rfl

theorem final6 (c : Dev nD) : (dats m 0 c).arrAt 6 (cfgs 0).N = tab (kCols (m ((c.tc : Thread nD τ).loc main_arg0)) (m ((c.tc : Thread nD τ).loc main_arg1)) (m ((c.tc : Thread nD τ).loc main_arg2)) 512) := by
  refine (dats m 0 c).arrAt_eq_of_covers 6 _ (by decide +kernel) fun t hf y => ?_
  blk_simp
  rw [after0_6]
  have e : out0_6 (iblk m c 0 t) (iblk m c 1 t) (iblk m c 2 t) (iblk m c 3 t) = k0_pay5 (iblk m c 0 t) (iblk m c 1 t) (View.ld (iblk m c 2 t) r0_4) := by
    unfold out0_6
    frame_out
    try rfl
  rw [e]
  refine point _ (kCols (m ((c.tc : Thread nD τ).loc main_arg0)) (m ((c.tc : Thread nD τ).loc main_arg1)) (m ((c.tc : Thread nD τ).loc main_arg2)) 512) (cols_at m c t 512 _) y _ ?_ ?_
  · blk_simp [idx t]
    try rfl
  · blk_simp [idx t]
    try rfl

theorem final7 (c : Dev nD) : (dats m 0 c).arrAt 7 (cfgs 0).N = tab (kCols (m ((c.tc : Thread nD τ).loc main_arg0)) (m ((c.tc : Thread nD τ).loc main_arg1)) (m ((c.tc : Thread nD τ).loc main_arg2)) 1024) := by
  refine (dats m 0 c).arrAt_eq_of_covers 7 _ (by decide +kernel) fun t hf y => ?_
  blk_simp
  rw [after0_7]
  have e : out0_7 (iblk m c 0 t) (iblk m c 1 t) (iblk m c 2 t) (iblk m c 3 t) = k0_pay6 (iblk m c 0 t) (iblk m c 1 t) (View.ld (iblk m c 2 t) r0_5) := by
    unfold out0_7 k0_pay15
    frame_out
    try rfl
  rw [e]
  refine point _ (kCols (m ((c.tc : Thread nD τ).loc main_arg0)) (m ((c.tc : Thread nD τ).loc main_arg1)) (m ((c.tc : Thread nD τ).loc main_arg2)) 1024) (cols_at m c t 1024 _) y _ ?_ ?_
  · blk_simp [idx t]
    try rfl
  · blk_simp [idx t]
    try rfl

theorem final8 (c : Dev nD) : (dats m 0 c).arrAt 8 (cfgs 0).N = tab (kCols (m ((c.tc : Thread nD τ).loc main_arg0)) (m ((c.tc : Thread nD τ).loc main_arg1)) (m ((c.tc : Thread nD τ).loc main_arg2)) 1024) := by
  refine (dats m 0 c).arrAt_eq_of_covers 8 _ (by decide +kernel) fun t hf y => ?_
  blk_simp
  rw [after0_8]
  have e : out0_8 (iblk m c 0 t) (iblk m c 1 t) (iblk m c 2 t) (iblk m c 3 t) = k0_pay7 (k0_pay6 (iblk m c 0 t) (iblk m c 1 t) (View.ld (iblk m c 2 t) r0_5)) := by
    unfold out0_8 k0_pay15
    frame_out
    try rfl
  rw [e]
  refine point _ (kCols (m ((c.tc : Thread nD τ).loc main_arg0)) (m ((c.tc : Thread nD τ).loc main_arg1)) (m ((c.tc : Thread nD τ).loc main_arg2)) 1024) (cols_at m c t 1024 _) y _ ?_ ?_
  · blk_simp [idx t]
    try rfl
  · blk_simp [idx t]
    try rfl

theorem final9 (c : Dev nD) : (dats m 0 c).arrAt 9 (cfgs 0).N = tab (kQuery (m ((c.tc : Thread nD τ).loc main_arg0)) (m ((c.tc : Thread nD τ).loc main_arg1)) (m ((c.tc : Thread nD τ).loc main_arg2)) 1536) := by
  refine (dats m 0 c).arrAt_eq_of_covers 9 _ (by decide +kernel) fun t hf y => ?_
  blk_simp
  rw [after0_9]
  have e : out0_9 (iblk m c 0 t) (iblk m c 1 t) (iblk m c 2 t) (iblk m c 3 t) = k0_pay8 (k0_pay2 (iblk m c 0 t) (iblk m c 1 t)) (View.ld (iblk m c 2 t) r0_6) := by
    unfold out0_9 k0_pay14
    frame_out
    try rfl
  rw [e]
  refine point _ (kQuery (m ((c.tc : Thread nD τ).loc main_arg0)) (m ((c.tc : Thread nD τ).loc main_arg1)) (m ((c.tc : Thread nD τ).loc main_arg2)) 1536) (query_at m c t 1536 _) y _ ?_ ?_
  · blk_simp [idx t]
    try rfl
  · blk_simp [idx t]
    try rfl

theorem final10 (c : Dev nD) : (dats m 0 c).arrAt 10 (cfgs 0).N = tab (kCols (m ((c.tc : Thread nD τ).loc main_arg0)) (m ((c.tc : Thread nD τ).loc main_arg1)) (m ((c.tc : Thread nD τ).loc main_arg2)) 2048) := by
  refine (dats m 0 c).arrAt_eq_of_covers 10 _ (by decide +kernel) fun t hf y => ?_
  blk_simp
  rw [after0_10]
  have e : out0_10 (iblk m c 0 t) (iblk m c 1 t) (iblk m c 2 t) (iblk m c 3 t) = k0_pay9 (k0_pay2 (iblk m c 0 t) (iblk m c 1 t)) (View.ld (iblk m c 2 t) r0_7) := by
    unfold out0_10 k0_pay14
    frame_out
    try rfl
  rw [e]
  refine point _ (kCols (m ((c.tc : Thread nD τ).loc main_arg0)) (m ((c.tc : Thread nD τ).loc main_arg1)) (m ((c.tc : Thread nD τ).loc main_arg2)) 2048) (cols_at m c t 2048 _) y _ ?_ ?_
  · blk_simp [idx t]
    try rfl
  · blk_simp [idx t]
    try rfl

theorem final11 (c : Dev nD) : (dats m 0 c).arrAt 11 (cfgs 0).N = tab (kCols (m ((c.tc : Thread nD τ).loc main_arg0)) (m ((c.tc : Thread nD τ).loc main_arg1)) (m ((c.tc : Thread nD τ).loc main_arg2)) 2048) := by
  refine (dats m 0 c).arrAt_eq_of_covers 11 _ (by decide +kernel) fun t hf y => ?_
  blk_simp
  rw [after0_11]
  have e : out0_11 (iblk m c 0 t) (iblk m c 1 t) (iblk m c 2 t) (iblk m c 3 t) = k0_pay10 (k0_pay2 (iblk m c 0 t) (iblk m c 1 t)) (View.ld (iblk m c 2 t) r0_7) := by
    unfold out0_11 k0_pay14
    frame_out
    try rfl
  rw [e]
  refine point _ (kCols (m ((c.tc : Thread nD τ).loc main_arg0)) (m ((c.tc : Thread nD τ).loc main_arg1)) (m ((c.tc : Thread nD τ).loc main_arg2)) 2048) (cols_at m c t 2048 _) y _ ?_ ?_
  · blk_simp [idx t]
    try rfl
  · blk_simp [idx t]
    try rfl

theorem final12 (c : Dev nD) : (dats m 0 c).arrAt 12 (cfgs 0).N = tab (kCols (m ((c.tc : Thread nD τ).loc main_arg0)) (m ((c.tc : Thread nD τ).loc main_arg1)) (m ((c.tc : Thread nD τ).loc main_arg2)) 2560) := by
  refine (dats m 0 c).arrAt_eq_of_covers 12 _ (by decide +kernel) fun t hf y => ?_
  blk_simp
  rw [after0_12]
  have e : out0_12 (iblk m c 0 t) (iblk m c 1 t) (iblk m c 2 t) (iblk m c 3 t) = k0_pay11 (k0_pay2 (iblk m c 0 t) (iblk m c 1 t)) (View.ld (iblk m c 2 t) r0_8) := by
    unfold out0_12 k0_pay14
    frame_out
    try rfl
  rw [e]
  refine point _ (kCols (m ((c.tc : Thread nD τ).loc main_arg0)) (m ((c.tc : Thread nD τ).loc main_arg1)) (m ((c.tc : Thread nD τ).loc main_arg2)) 2560) (cols_at m c t 2560 _) y _ ?_ ?_
  · blk_simp [idx t]
    try rfl
  · blk_simp [idx t]
    try rfl

theorem final13 (c : Dev nD) : (dats m 0 c).arrAt 13 (cfgs 0).N = tab (kCols (m ((c.tc : Thread nD τ).loc main_arg0)) (m ((c.tc : Thread nD τ).loc main_arg1)) (m ((c.tc : Thread nD τ).loc main_arg2)) 2560) := by
  refine (dats m 0 c).arrAt_eq_of_covers 13 _ (by decide +kernel) fun t hf y => ?_
  blk_simp
  rw [after0_13]
  have e : out0_13 (iblk m c 0 t) (iblk m c 1 t) (iblk m c 2 t) (iblk m c 3 t) = k0_pay12 (k0_pay2 (iblk m c 0 t) (iblk m c 1 t)) (View.ld (iblk m c 2 t) r0_8) := by
    unfold out0_13 k0_pay14
    frame_out
    try rfl
  rw [e]
  refine point _ (kCols (m ((c.tc : Thread nD τ).loc main_arg0)) (m ((c.tc : Thread nD τ).loc main_arg1)) (m ((c.tc : Thread nD τ).loc main_arg2)) 2560) (cols_at m c t 2560 _) y _ ?_ ?_
  · blk_simp [idx t]
    try rfl
  · blk_simp [idx t]
    try rfl

theorem final14 (c : Dev nD) : (dats m 0 c).arrAt 14 (cfgs 0).N = tab (kGate (m ((c.tc : Thread nD τ).loc main_arg0)) (m ((c.tc : Thread nD τ).loc main_arg1)) (m ((c.tc : Thread nD τ).loc main_arg2)) (m ((c.tc : Thread nD τ).loc main_arg3))) := by
  refine (dats m 0 c).arrAt_eq_of_covers 14 _ (by decide +kernel) fun t hf y => ?_
  blk_simp
  rw [after0_14]
  have e : out0_14 (iblk m c 0 t) (iblk m c 1 t) (iblk m c 2 t) (iblk m c 3 t) = k0_pay1 (k0_pay13 (k0_pay2 (iblk m c 0 t) (iblk m c 1 t)) (View.ld (iblk m c 2 t) r0_9)) (iblk m c 3 t) := by
    unfold out0_14 k0_pay14
    frame_out
    try rfl
  rw [e]
  refine point _ (kGate (m ((c.tc : Thread nD τ).loc main_arg0)) (m ((c.tc : Thread nD τ).loc main_arg1)) (m ((c.tc : Thread nD τ).loc main_arg2)) (m ((c.tc : Thread nD τ).loc main_arg3))) (gate_out_at m c t) y _ ?_ ?_
  · blk_simp [idx t]
    try rfl
  · blk_simp [idx t]
    try rfl

end Cert.ProjSIdeal.Block

end
-- ==== Proof.ProjS.RefTerms.lean ====
/-
  The sample batch's input projection's reference: its eleven results are the kernel's.
-/
module

public import proofs.«01_k».proof.Proof.Gen.ProjSRefIdeal
public import proofs.«01_k».proof.Proof.ProjS.KernelValue
public import proofs.«01_k».proof.Proof.ProjB.RefTerms

@[expose] public section

set_option maxRecDepth 16384

noncomputable section

namespace Cert.ProjSRefIdeal.Steps

open Cert.ProjSRefIdeal Cert.ProjSRefIdeal.Gen Idealize.ShloMosaic Idealize.ShloMosaic.TcCoe Cert.FfnMath Cert.ProjMath Cert.LogSigmoid
open Cert.ProjSIdeal.Block (kRow kCols kQuery kLogit kGate)
open Cert.ProjBIdeal.Block (tab)
open Cert.ProjBRefIdeal.Steps (eq_tab)

/-- The normalised rows. -/
def norm (X : FVec Ideal S512x1024 .f32) (g : FVec Ideal S1024 .f32) : FVec Ideal S512x1024 .f32 :=
  mulf (mulf X (broadcastInDim S512x1024 ![0, 1] bcast_S512x1_S512x1024_0_1 (Host.rsqrt (addf (Host.divf (broadcastInDim S512x1 ![0] bcast_S512_S512x1_0
    (Host.reduceAdd (mulf X X) (constant S_ .f32 0x00000000#32) reducesTo_S512x1024_S512_d1 h_S_)) (broadcastInDim S512x1 ![] bcast_S_S512x1 (constant S_ .f32 0x44800000#32)))
    (broadcastInDim S512x1 ![] bcast_S_S512x1 (constant S_ .f32 0x358637BD#32))))))
    (broadcastInDim S512x1024 ![0, 1] bcast_S1x1024_S512x1024_0_1 (broadcastInDim S1x1024 ![1] bcast_S1024_S1x1024_1 g))

/-- Their product with the joined weights. -/
def proj (X : FVec Ideal S512x1024 .f32) (g : FVec Ideal S1024 .f32) (W : FVec Ideal S1024x3080 .f32) : FVec Ideal S512x3080 .f32 :=
  Host.dotGeneral dot_S512x1024_S1024x3080_S512x3080_1_0_0_1_n_n none (norm X g) W

/-- The scaled queries of some columns. -/
def query (Q : FVec Ideal S512x512 .f32) : FVec Ideal S512x512 .bf16 :=
  truncf (F := Ideal) .bf16 (mulf Q (broadcastInDim S512x512 ![] bcast_S_S512x512 (constant S_ .f32 0x3E000000#32))) bitsLt_bf16_f32

theorem query_at (Q : FVec Ideal S512x512 .f32) (r d : Fin 512) : query Q (ix2 r d) = Q (ix2 r d) * Ideal.ofBits FTy.f32 0x3E000000#32 := by
  pointwise [query]

/-- The forget gate's logits with the bias added, then zeros. -/
def logit (P : FVec Ideal S512x3080 .f32) (b : FVec Ideal S8 .f32) : FVec Ideal S512x128 .f32 :=
  pad S512x128 ![0, 0] ![0, 120] ![0, 0] (addf (extractStridedSlice S512x8 ![0, 3072] P slices_S512x3080_S512x8_0_3072)
    (broadcastInDim S512x8 ![0, 1] bcast_S1x8_S512x8_0_1 (broadcastInDim S1x8 ![1] bcast_S8_S1x8_1 b))) (sitofp .f32 (constantI S_ 32 0#32)) pads_S512x8_S512x128_000_01200 h_S_

/-- The zeros with which the log-sigmoid compares. -/
def zeros : FVec Ideal S512x128 .f32 := broadcastInDim S512x128 ![] bcast_S_S512x128 (constant S_ .f32 0x00000000#32)

/-- The log-sigmoid of minus `n`. -/
def logsig (n : FVec Ideal S512x128 .f32) : FVec Ideal S512x128 .f32 :=
  Host.negf (select (cmpf .une (subf n zeros) (subf n zeros)) (addf n zeros) (addf (maximumf n zeros) (Host.log1p (Host.exp (Host.negf (Host.absf (subf n zeros)))))))

theorem norm_at (X : FVec Ideal S512x1024 .f32) (g : FVec Ideal S1024 .f32) (r : Fin 512) (d : Fin 1024) :
    norm X g (ix2 r d) = rms (fun k => X (ix2 r k)) (fun k => g (ix1 k)) d := by
  unfold rms
  pointwise [norm]

theorem dot_at (H : FVec Ideal S512x1024 .f32) (W : FVec Ideal S1024x3080 .f32) (r : Fin 512) (d : Fin 3080) :
    Host.dotGeneral dot_S512x1024_S1024x3080_S512x3080_1_0_0_1_n_n none H W (ix2 r d) = ∑ k : Fin 1024, H (ix2 r k) * W (ix2 k d) := by
  pointwise

theorem proj_at (X : FVec Ideal S512x1024 .f32) (g : FVec Ideal S1024 .f32) (W : FVec Ideal S1024x3080 .f32) (r : Fin 512) (c : Fin 3080) :
    proj X g W (ix2 r c) = dotRow (fun j => X (ix2 r j)) (fun j => g (ix1 j)) (fun k c => W (ix2 k c)) c := by
  unfold proj
  rw [dot_at]
  simp only [norm_at]
  rfl

theorem logit_at (P : FVec Ideal S512x3080 .f32) (b : FVec Ideal S8 .f32) (r : Fin 512) (d : Fin 128) :
    logit P b (ix2 r d) = if h : d.val < 8 then P (ix2 r ⟨3072 + d.val, by omega⟩) + b (ix1 ⟨d.val, h⟩) else 0 := by
  pointwise [logit]
  have z : (FloatOps.sitofp FTy.f32 0#32 : Ideal .f32) = 0 := sitofp_zero
  simp only [z]

theorem zeros_at (r : Fin 512) (d : Fin 128) : zeros (ix2 r d) = 0 := by
  pointwise [zeros]

/-- Its element: no number differs from itself, so the branch for such numbers is not taken. -/
theorem logsig_at (n : FVec Ideal S512x128 .f32) (r : Fin 512) (d : Fin 128) (u : EReal) (h : n (ix2 r d) = -u) : logsig n (ix2 r d) = logsigK u := by
  rw [← logsig_eq]
  have hs : subf n zeros (ix2 r d) = -u := by
    show n (ix2 r d) - zeros (ix2 r d) = -u
    rw [h, zeros_at, sub_zero]
  show -(Scalar.select (Ideal.cmp .une (subf n zeros (ix2 r d)) (subf n zeros (ix2 r d))) (n (ix2 r d) + zeros (ix2 r d))
    (max (n (ix2 r d)) (zeros (ix2 r d)) + Ideal.log1p (Ideal.exp (-(max (subf n zeros (ix2 r d)) (-(subf n zeros (ix2 r d)))))))) = _
  rw [hs, h, zeros_at, une_self]
  rfl

theorem slice_at (P : FVec Ideal S512x3080 .f32) (o : Fin 2561) (hs) (r : Fin 512) (d : Fin 512) :
    extractStridedSlice S512x512 ![0, o.val] P hs (ix2 r d) = P (ix2 r ⟨o.val + d.val, by omega⟩) := by
  pointwise

variable (X : FVec Ideal S512x1024 .f32) (g : FVec Ideal S1024 .f32) (W : FVec Ideal S1024x3080 .f32) (b : FVec Ideal S8 .f32)

/-- The keys and the values. -/
theorem cols_eq (o : Fin 2561) (hs) : extractStridedSlice S512x512 ![0, o.val] (proj X g W) hs = tab (kCols X g W o) :=
  eq_tab _ _ fun r d => (slice_at _ o hs r d).trans (proj_at X g W _ _)

/-- The queries. -/
theorem query_eq (o : Fin 2561) (hs) : query (extractStridedSlice S512x512 ![0, o.val] (proj X g W) hs) = tab (kQuery X g W o) :=
  eq_tab _ _ fun r d => (query_at _ r d).trans (congrArg (· * Ideal.ofBits FTy.f32 0x3E000000#32) ((slice_at _ o hs r d).trans (proj_at X g W _ _)))

/-- The forget gate. -/
theorem gate_eq : logsig (Host.negf (logit (proj X g W) b)) = tab (kGate X g W b) :=
  eq_tab _ _ fun r d => logsig_at _ r d _ (congrArg (fun u : EReal => -u) (by
    rw [logit_at]
    unfold kLogit
    by_cases h : d.val < 8
    · rw [dif_pos h, dif_pos h, dif_pos h]
      exact congrArg (· + b (ix1 ⟨d.val, h⟩)) (proj_at X g W _ _)
    · rw [dif_neg h, dif_neg h, dif_neg h, add_zero]))

end Cert.ProjSRefIdeal.Steps

end
-- ==== Proof.ProjS.Claims.lean ====
/-
  The claims about the sample batch's input projection: the programs run, keep their arguments and end with their counters at zero,
  and the kernel and the reference end with the same eleven results, for all arguments.
-/
module

public import proofs.«01_k».proof.Defs
public import proofs.«01_k».proof.Proof.Gen.ProjS.Frame
public import proofs.«01_k».proof.Proof.Gen.ProjSRefIdeal.Run
public import proofs.«01_k».proof.Proof.ProjS.RefTerms
public import Idealize.ShloMosaic.Lib.Claim

@[expose] public section

set_option maxRecDepth 16384

noncomputable section

namespace Cert.ProjSClaims

open Idealize.ShloMosaic Idealize.SL.Sem
open Cert.ProjSRefIdeal.Steps (query_eq cols_eq gate_eq)

theorem frame_kernel : Cert.quiescent_ProjS := fun m ρ _ => Cert.ProjS.Gen.frame m ρ

theorem frame_ideal : Cert.quiescent_ProjSIdeal := fun m ρ _ => Cert.ProjSIdeal.Gen.frame m ρ

/-- The reference's program has no counters. -/
theorem frame_reference : Cert.quiescent_ProjSRefIdeal := by
  intro m ρ _
  refine (θ_run Cert.ProjSRefIdeal.defs _ _).mono (fun r h => ⟨fun c => (h c).2.2.2.2.2.2.2.2.2.2.2, ?_⟩) (Cert.ProjSRefIdeal.Value.run m ρ)
  exact sem_eq_zero_of_no_sems (by decide) r.2

theorem value : Cert.algebraic_ProjSIdeal_ProjSRefIdeal := by
  pair_intro
  · run_from Cert.ProjSIdeal.Value.run_blocks m g
  · run_from Cert.ProjSRefIdeal.Value.run m' g'
    · exact (query_eq _ _ _ 0 Cert.ProjSRefIdeal.Gen.slices_S512x3080_S512x512_0_0).trans (Cert.ProjSIdeal.Block.final4 m c).symm
    · exact (cols_eq _ _ _ 512 Cert.ProjSRefIdeal.Gen.slices_S512x3080_S512x512_0_512).trans (Cert.ProjSIdeal.Block.final5 m c).symm
    · exact (cols_eq _ _ _ 512 Cert.ProjSRefIdeal.Gen.slices_S512x3080_S512x512_0_512).trans (Cert.ProjSIdeal.Block.final6 m c).symm
    · exact (cols_eq _ _ _ 1024 Cert.ProjSRefIdeal.Gen.slices_S512x3080_S512x512_0_1024).trans (Cert.ProjSIdeal.Block.final7 m c).symm
    · exact (cols_eq _ _ _ 1024 Cert.ProjSRefIdeal.Gen.slices_S512x3080_S512x512_0_1024).trans (Cert.ProjSIdeal.Block.final8 m c).symm
    · exact (query_eq _ _ _ 1536 Cert.ProjSRefIdeal.Gen.slices_S512x3080_S512x512_0_1536).trans (Cert.ProjSIdeal.Block.final9 m c).symm
    · exact (cols_eq _ _ _ 2048 Cert.ProjSRefIdeal.Gen.slices_S512x3080_S512x512_0_2048).trans (Cert.ProjSIdeal.Block.final10 m c).symm
    · exact (cols_eq _ _ _ 2048 Cert.ProjSRefIdeal.Gen.slices_S512x3080_S512x512_0_2048).trans (Cert.ProjSIdeal.Block.final11 m c).symm
    · exact (cols_eq _ _ _ 2560 Cert.ProjSRefIdeal.Gen.slices_S512x3080_S512x512_0_2560).trans (Cert.ProjSIdeal.Block.final12 m c).symm
    · exact (cols_eq _ _ _ 2560 Cert.ProjSRefIdeal.Gen.slices_S512x3080_S512x512_0_2560).trans (Cert.ProjSIdeal.Block.final13 m c).symm
    · obtain ⟨h0, h1, h2, h3⟩ := hagree c
      refine (gate_eq (m' (c.tc.loc Cert.ProjSRefIdeal.main_arg0)) (m' (c.tc.loc Cert.ProjSRefIdeal.main_arg1)) (m' (c.tc.loc Cert.ProjSRefIdeal.main_arg2))
        (m' (c.tc.loc Cert.ProjSRefIdeal.main_arg3))).trans ?_
      rw [h0, h1, h2, h3]
      exact (Cert.ProjSIdeal.Block.final14 m c).symm

end Cert.ProjSClaims

end
-- ==== Proof.lean ====
module

public import proofs.«01_k».proof.Defs
public import proofs.«01_k».proof.Proof.Gen.Band
public import proofs.«01_k».proof.Proof.Gen.Band.Skeleton
public import proofs.«01_k».proof.Proof.Gen.Band.Launch
public import proofs.«01_k».proof.Proof.Gen.Band.Points
public import proofs.«01_k».proof.Proof.Gen.Band.Frame
public import proofs.«01_k».proof.Proof.Gen.BandIdeal
public import proofs.«01_k».proof.Proof.Gen.BandIdeal.Skeleton
public import proofs.«01_k».proof.Proof.Gen.BandIdeal.Launch
public import proofs.«01_k».proof.Proof.Gen.BandIdeal.Points
public import proofs.«01_k».proof.Proof.Gen.BandIdeal.Frame
public import proofs.«01_k».proof.Proof.Gen.BandRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_band_finite
public import proofs.«01_k».proof.Proof.Gen.Pre_ffn_finite
public import proofs.«01_k».proof.Proof.Gen.BandIdeal.Value
public import proofs.«01_k».proof.Proof.Gen.BandRefIdeal.Run
public import proofs.«01_k».proof.Proof.Gen.FfnIdeal.Value
public import proofs.«01_k».proof.Proof.Gen.FfnRefIdeal.Run
public import proofs.«01_k».proof.Proof.Gen.First.Frame
public import proofs.«01_k».proof.Proof.Gen.FirstIdeal.Frame
public import proofs.«01_k».proof.Proof.Gen.FirstIdeal.Value
public import proofs.«01_k».proof.Proof.Gen.FirstRefIdeal.Run
public import proofs.«01_k».proof.Proof.Gen.Pre_first_finite
public import proofs.«01_k».proof.Proof.Gen.Last.Frame
public import proofs.«01_k».proof.Proof.Gen.LastIdeal.Frame
public import proofs.«01_k».proof.Proof.Gen.LastIdeal.Value
public import proofs.«01_k».proof.Proof.Gen.LastRefIdeal.Run
public import proofs.«01_k».proof.Proof.Gen.Pre_last_finite
public import proofs.«01_k».proof.Proof.Gen.Cross.Frame
public import proofs.«01_k».proof.Proof.Gen.CrossIdeal.Frame
public import proofs.«01_k».proof.Proof.Gen.CrossIdeal.Value
public import proofs.«01_k».proof.Proof.Gen.CrossRefIdeal.Run
public import proofs.«01_k».proof.Proof.Gen.Pre_cross_finite
public import proofs.«01_k».proof.Proof.Gen.Memory.Frame
public import proofs.«01_k».proof.Proof.Gen.MemoryIdeal.Frame
public import proofs.«01_k».proof.Proof.Gen.MemoryIdeal.Value
public import proofs.«01_k».proof.Proof.Gen.MemoryRefIdeal.Run
public import proofs.«01_k».proof.Proof.Gen.ProjA.Frame
public import proofs.«01_k».proof.Proof.Gen.ProjAIdeal.Frame
public import proofs.«01_k».proof.Proof.Gen.ProjAIdeal.Value
public import proofs.«01_k».proof.Proof.Gen.ProjARefIdeal.Run
public import proofs.«01_k».proof.Proof.Gen.ProjB.Frame
public import proofs.«01_k».proof.Proof.Gen.ProjBIdeal.Frame
public import proofs.«01_k».proof.Proof.Gen.ProjBIdeal.Value
public import proofs.«01_k».proof.Proof.Gen.ProjBRefIdeal.Run
public import proofs.«01_k».proof.Proof.Gen.ProjS.Frame
public import proofs.«01_k».proof.Proof.Gen.ProjSIdeal.Frame
public import proofs.«01_k».proof.Proof.Gen.ProjSIdeal.Value
public import proofs.«01_k».proof.Proof.Gen.ProjSRefIdeal.Run
public import proofs.«01_k».proof.Proof.Band.Claims
public import proofs.«01_k».proof.Proof.Ffn.Frames
public import proofs.«01_k».proof.Proof.Ffn.Claims
public import proofs.«01_k».proof.Proof.First.Claims
public import proofs.«01_k».proof.Proof.Last.Claims
public import proofs.«01_k».proof.Proof.Cross.Claims
public import proofs.«01_k».proof.Proof.Memory.Claims
public import proofs.«01_k».proof.Proof.ProjA.Claims
public import proofs.«01_k».proof.Proof.ProjB.Claims
public import proofs.«01_k».proof.Proof.ProjS.Claims
public import Idealize.ShloMosaic.Adequacy
public import Idealize.ShloMosaic.Init

@[expose] public section

noncomputable section

namespace Cert.Proof

open Idealize.ShloMosaic Idealize.SL.Sem Cert.Band

theorem claim : Cert.Claim := ⟨Cert.Band.Gen.facts, Cert.BandIdeal.Gen.facts, Cert.BandRefIdeal.Gen.facts, Cert.Ffn.Gen.facts, Cert.FfnIdeal.Gen.facts, Cert.FfnRefIdeal.Gen.facts, Cert.First.Gen.facts, Cert.FirstIdeal.Gen.facts, Cert.FirstRefIdeal.Gen.facts, Cert.Last.Gen.facts, Cert.LastIdeal.Gen.facts, Cert.LastRefIdeal.Gen.facts, Cert.Cross.Gen.facts, Cert.CrossIdeal.Gen.facts, Cert.CrossRefIdeal.Gen.facts, Cert.Memory.Gen.facts, Cert.MemoryIdeal.Gen.facts, Cert.MemoryRefIdeal.Gen.facts, Cert.ProjA.Gen.facts, Cert.ProjAIdeal.Gen.facts, Cert.ProjARefIdeal.Gen.facts, Cert.ProjB.Gen.facts, Cert.ProjBIdeal.Gen.facts, Cert.ProjBRefIdeal.Gen.facts, Cert.ProjS.Gen.facts, Cert.ProjSIdeal.Gen.facts, Cert.ProjSRefIdeal.Gen.facts,
  Cert.Pre_band_finite.Gen.facts, Cert.Pre_ffn_finite.Gen.facts, Cert.Pre_first_finite.Gen.facts, Cert.Pre_last_finite.Gen.facts, Cert.Pre_cross_finite.Gen.facts,
  Cert.BandClaims.frame_kernel, Cert.BandClaims.frame_ideal, Cert.BandClaims.frame_ideal_pre, Cert.BandClaims.frame_reference, Cert.BandClaims.frame_reference_pre,
  Cert.FfnFrames.frame_kernel, Cert.FfnFrames.frame_ideal, Cert.FfnClaims.frame_ideal_pre, Cert.FfnFrames.frame_reference, Cert.FfnClaims.frame_reference_pre,
  Cert.FirstClaims.frame_kernel, Cert.FirstClaims.frame_ideal, Cert.FirstClaims.frame_ideal_pre, Cert.FirstClaims.frame_reference, Cert.FirstClaims.frame_reference_pre,
  Cert.LastClaims.frame_kernel, Cert.LastClaims.frame_ideal, Cert.LastClaims.frame_ideal_pre, Cert.LastClaims.frame_reference, Cert.LastClaims.frame_reference_pre,
  Cert.CrossClaims.frame_kernel, Cert.CrossClaims.frame_ideal, Cert.CrossClaims.frame_ideal_pre, Cert.CrossClaims.frame_reference, Cert.CrossClaims.frame_reference_pre,
  Cert.MemoryClaims.frame_kernel, Cert.MemoryClaims.frame_ideal, Cert.MemoryClaims.frame_reference,
  Cert.ProjAClaims.frame_kernel, Cert.ProjAClaims.frame_ideal, Cert.ProjAClaims.frame_reference,
  Cert.ProjBClaims.frame_kernel, Cert.ProjBClaims.frame_ideal, Cert.ProjBClaims.frame_reference,
  Cert.ProjSClaims.frame_kernel, Cert.ProjSClaims.frame_ideal, Cert.ProjSClaims.frame_reference,
  Cert.BandClaims.constant, Cert.BandClaims.value, trivial, Cert.FfnClaims.value, trivial, Cert.FirstClaims.value, trivial, Cert.LastClaims.value, trivial, Cert.CrossClaims.value, trivial, Cert.MemoryClaims.value, Cert.ProjAClaims.constant, Cert.ProjAClaims.value, Cert.ProjBClaims.constant, Cert.ProjBClaims.value, trivial, Cert.ProjSClaims.value⟩

end Cert.Proof

end
